-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_Reference [hPre_routed : Cert.Pre_routed.Facts] (m : (ℓ : Loc Cert.Reference.nD Cert.Reference.τ Cert.Reference.sig) → Buf (Elt Bits) ℓ) : Prop :=
  ∀ c : Dev Cert.Reference.nD,
    (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Reference [hReference : Cert.Reference.Facts] [hPre_routed : Cert.Pre_routed.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def bitexact_Kernel_Reference [hKernel : Cert.Kernel.Facts] [hReference : Cert.Reference.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v48)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v48) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v22) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routed : Cert.Pre_routed.Facts),
    quiescent_Kernel (hKernel := hKernel) (hPre_routed := hPre_routed)
    ∧ quiescent_Reference (hReference := hReference) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ bitexact_Kernel_Reference (hKernel := hKernel) (hReference := hReference) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_routed.lean ====
abbrev S32768x2048 : Shape := ⟨2, ![32768, 2048]⟩
abbrev S64 : Shape := ⟨1, ![64]⟩
abbrev S64x4096x512 : Shape := ⟨3, ![64, 4096, 512]⟩
abbrev S64x512x4096 : Shape := ⟨3, ![64, 512, 4096]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : IVec S32768x2048 32) (main_arg1 : IVec S64 32) (main_arg2 : FVec F S64x4096x512 .f32) (main_arg3 : FVec F S64x4096x512 .f32) (main_arg4 : FVec F S64x512x4096 .f32) : IVec S_ 1 :=
  let main_c : IVec S_ 32 := constantI S_ 32 0#32
  let main_v0 : IVec S64 32 := broadcastInDim S64 ![] bcast_S_S64 main_c
  let main_v1 : IVec S64 1 := cmpi .sge main_arg1 main_v0
  let main_c_0 : IVec S_ 1 := constantI S_ 1 1#1
  let main_v2 : IVec S_ 1 := (fun x v => Host.reduce IntOp.andi x v reducesTo_S64_S_d0 h_S_) main_v1 main_c_0
  let main_c_1 : IVec S_ 32 := constantI S_ 32 16384#32
  let main_v3 : IVec S64 32 := broadcastInDim S64 ![] bcast_S_S64 main_c_1
  let main_v4 : IVec S64 1 := cmpi .sle main_arg1 main_v3
  let main_c_2 : IVec S_ 1 := constantI S_ 1 1#1
  let main_v5 : IVec S_ 1 := (fun x v => Host.reduce IntOp.andi x v reducesTo_S64_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S64_S_d0 h_S_) main_arg1 main_c_3
  let main_c_4 : IVec S_ 32 := constantI S_ 32 16384#32
  let main_v8 : IVec S_ 1 := cmpi .eq main_v7 main_c_4
  let main_v9 : IVec S_ 1 := andi main_v6 main_v8
  main_v9
-- ==== Kernel.lean ====
abbrev S32768x2048 : Shape := ⟨2, ![32768, 2048]⟩
abbrev S64 : Shape := ⟨1, ![64]⟩
abbrev S64x4096x512 : Shape := ⟨3, ![64, 4096, 512]⟩
abbrev S64x512x4096 : Shape := ⟨3, ![64, 512, 4096]⟩
abbrev S_ : Shape := ⟨0, ![]⟩
abbrev S1 : Shape := ⟨1, ![1]⟩
abbrev S128 : Shape := ⟨1, ![128]⟩
abbrev S1x64 : Shape := ⟨2, ![1, 64]⟩
abbrev S128x1 : Shape := ⟨2, ![128, 1]⟩
abbrev S128x64 : Shape := ⟨2, ![128, 64]⟩
abbrev S1x128 : Shape := ⟨2, ![1, 128]⟩
abbrev S128x128 : Shape := ⟨2, ![128, 128]⟩
abbrev S127 : Shape := ⟨1, ![127]⟩
abbrev S256x2048 : Shape := ⟨2, ![256, 2048]⟩
abbrev S2x4096x512 : Shape := ⟨3, ![2, 4096, 512]⟩
abbrev S2x512x4096 : Shape := ⟨3, ![2, 512, 4096]⟩
abbrev S6x512x512 : Shape := ⟨3, ![6, 512, 512]⟩
abbrev S6x64x4096 : Shape := ⟨3, ![6, 64, 4096]⟩
abbrev S3x6 : Shape := ⟨2, ![3, 6]⟩
abbrev S1x1 : Shape := ⟨2, ![1, 1]⟩
abbrev S1x512x512 : Shape := ⟨3, ![1, 512, 512]⟩
abbrev S512x512 : Shape := ⟨2, ![512, 512]⟩
abbrev S1x64x4096 : Shape := ⟨3, ![1, 64, 4096]⟩
abbrev S64x4096 : Shape := ⟨2, ![64, 4096]⟩
abbrev S256x4096 : Shape := ⟨2, ![256, 4096]⟩
abbrev S1x4096x512 : Shape := ⟨3, ![1, 4096, 512]⟩
abbrev S4096x512 : Shape := ⟨2, ![4096, 512]⟩
abbrev S256x512 : Shape := ⟨2, ![256, 512]⟩
abbrev S1x512x4096 : Shape := ⟨3, ![1, 512, 4096]⟩
abbrev S512x4096 : Shape := ⟨2, ![512, 4096]⟩

abbrev nBuf : Space → Nat
  | .hbm => 122
  | .vmem => 10
  | .smem => 4
  | _ => 0

abbrev bufTy : (tb : Table) → Fin (tcTables nBuf tb) → BufTy
  | .hbm, ⟨0, _⟩ => ⟨S32768x2048, .i32⟩
  | .hbm, ⟨1, _⟩ => ⟨S64, .i32⟩
  | .hbm, ⟨2, _⟩ => ⟨S64x4096x512, .f32⟩
  | .hbm, ⟨3, _⟩ => ⟨S64x4096x512, .f32⟩
  | .hbm, ⟨4, _⟩ => ⟨S64x512x4096, .f32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S128, .i32⟩
  | .hbm, ⟨51, _⟩ => ⟨S_, .i32⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S1x64, .i32⟩
  | .hbm, ⟨56, _⟩ => ⟨S_, .i32⟩
  | .hbm, ⟨57, _⟩ => ⟨S128, .i32⟩
  | .hbm, ⟨58, _⟩ => ⟨S128, .i32⟩
  | .hbm, ⟨59, _⟩ => ⟨S128x1, .i32⟩
  | .hbm, ⟨60, _⟩ => ⟨S128x64, .i32⟩
  | .hbm, ⟨61, _⟩ => ⟨S128x64, .i32⟩
  | .hbm, ⟨62, _⟩ => ⟨S128x64, .i1⟩
  | .hbm, ⟨63, _⟩ => ⟨S128x64, .i32⟩
  | .hbm, ⟨64, _⟩ => ⟨S_, .i32⟩
  | .hbm, ⟨65, _⟩ => ⟨S128, .i32⟩
  | .hbm, ⟨66, _⟩ => ⟨S_, .i32⟩
  | .hbm, ⟨67, _⟩ => ⟨S128, .i32⟩
  | .hbm, ⟨68, _⟩ => ⟨S1x128, .i32⟩
  | .hbm, ⟨69, _⟩ => ⟨S128x1, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S1x128, .i32⟩
  | .hbm, ⟨74, _⟩ => ⟨S_, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S_, .i32⟩
  | .hbm, ⟨80, _⟩ => ⟨S128, .i32⟩
  | .hbm, ⟨81, _⟩ => ⟨S_, .i32⟩
  | .hbm, ⟨82, _⟩ => ⟨S128, .i32⟩
  | .hbm, ⟨83, _⟩ => ⟨S128, .i1⟩
  | .hbm, ⟨84, _⟩ => ⟨S_, .i32⟩
  | .hbm, ⟨85, _⟩ => ⟨S_, .i32⟩
  | .hbm, ⟨86, _⟩ => ⟨S128, .i32⟩
  | .hbm, ⟨87, _⟩ => ⟨S_, .i32⟩
  | .hbm, ⟨88, _⟩ => ⟨S1, .i32⟩
  | .hbm, ⟨89, _⟩ => ⟨S127, .i32⟩
  | .hbm, ⟨90, _⟩ => ⟨S127, .i32⟩
  | .hbm, ⟨91, _⟩ => ⟨S127, .i1⟩
  | .hbm, ⟨92, _⟩ => ⟨S127, .i32⟩
  | .hbm, ⟨93, _⟩ => ⟨S128, .i32⟩
  | .hbm, ⟨94, _⟩ => ⟨S_, .i32⟩
  | .hbm, ⟨95, _⟩ => ⟨S_, .i32⟩
  | .hbm, ⟨96, _⟩ => ⟨S128, .i32⟩
  | .hbm, ⟨97, _⟩ => ⟨S_, .i32⟩
  | .hbm, ⟨98, _⟩ => ⟨S128, .i32⟩
  | .hbm, ⟨99, _⟩ => ⟨S128, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i1⟩
  | .hbm, ⟨104, _⟩ => ⟨S_, .i32⟩
  | .hbm, ⟨105, _⟩ => ⟨S_, .i32⟩
  | .hbm, ⟨106, _⟩ => ⟨S128, .i32⟩
  | .hbm, ⟨107, _⟩ => ⟨S128, .i32⟩
  | .hbm, ⟨108, _⟩ => ⟨S_, .i32⟩
  | .hbm, ⟨109, _⟩ => ⟨S128, .i32⟩
  | .hbm, ⟨110, _⟩ => ⟨S128, .i1⟩
  | .hbm, ⟨111, _⟩ => ⟨S_, .i32⟩
  | .hbm, ⟨112, _⟩ => ⟨S128, .i32⟩
  | .hbm, ⟨113, _⟩ => ⟨S128, .i1⟩
  | .hbm, ⟨114, _⟩ => ⟨S_, .i32⟩
  | .hbm, ⟨115, _⟩ => ⟨S_, .i1⟩
  | .hbm, ⟨116, _⟩ => ⟨S128, .i1⟩
  | .hbm, ⟨117, _⟩ => ⟨S128, .i1⟩
  | .hbm, ⟨118, _⟩ => ⟨S128, .i1⟩
  | .hbm, ⟨119, _⟩ => ⟨S128, .i32⟩
  | .hbm, ⟨120, _⟩ => ⟨S128, .i32⟩
  | .hbm, ⟨121, _⟩ => ⟨S32768x2048, .i32⟩
  | .local _ .vmem, ⟨0, _⟩ => ⟨S256x2048, .i32⟩
  | .local _ .vmem, ⟨1, _⟩ => ⟨S256x2048, .i32⟩
  | .local _ .vmem, ⟨2, _⟩ => ⟨S256x2048, .i32⟩
  | .local _ .vmem, ⟨3, _⟩ => ⟨S256x2048, .i32⟩
  | .local _ .vmem, ⟨4, _⟩ => ⟨S2x4096x512, .bf16⟩
  | .local _ .vmem, ⟨5, _⟩ => ⟨S2x4096x512, .bf16⟩
  | .local _ .vmem, ⟨6, _⟩ => ⟨S2x512x4096, .bf16⟩
  | .local _ .vmem, ⟨7, _⟩ => ⟨S6x512x512, .f32⟩
  | .local _ .vmem, ⟨8, _⟩ => ⟨S6x512x512, .f32⟩
  | .local _ .vmem, ⟨9, _⟩ => ⟨S6x64x4096, .f32⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S1, .i32⟩
  | _, _ => ⟨S32768x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c : Ref sig .tc := ⟨.hbm, 44, rfl⟩
abbrev main_call2_v6 : Ref sig .tc := ⟨.hbm, 45, rfl⟩
abbrev main_call2_v7 : Ref sig .tc := ⟨.hbm, 46, rfl⟩
abbrev main_call2_c_0 : Ref sig .tc := ⟨.hbm, 47, rfl⟩
abbrev main_call2_v8 : Ref sig .tc := ⟨.hbm, 48, rfl⟩
abbrev main_v10 : Ref sig .tc := ⟨.hbm, 49, rfl⟩
abbrev main_v11 : Ref sig .tc := ⟨.hbm, 50, rfl⟩
abbrev main_c_4 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_c_5 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_c_6 : Ref sig .tc := ⟨.hbm, 64, rfl⟩
abbrev main_v23 : Ref sig .tc := ⟨.hbm, 65, rfl⟩
abbrev main_c_7 : Ref sig .tc := ⟨.hbm, 66, rfl⟩
abbrev main_v24 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c_8 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v32 : Ref sig .tc := ⟨.hbm, 78, rfl⟩
abbrev main_c_9 : Ref sig .tc := ⟨.hbm, 79, rfl⟩
abbrev main_v33 : Ref sig .tc := ⟨.hbm, 80, rfl⟩
abbrev main_c_10 : Ref sig .tc := ⟨.hbm, 81, rfl⟩
abbrev main_v34 : Ref sig .tc := ⟨.hbm, 82, rfl⟩
abbrev main_v35 : Ref sig .tc := ⟨.hbm, 83, rfl⟩
abbrev main_c_11 : Ref sig .tc := ⟨.hbm, 84, rfl⟩
abbrev main_call4_v0 : Ref sig .tc := ⟨.hbm, 85, rfl⟩
abbrev main_call4_v1 : Ref sig .tc := ⟨.hbm, 86, rfl⟩
abbrev main_c_12 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_call5_call0_c : Ref sig .tc := ⟨.hbm, 94, rfl⟩
abbrev main_call5_call0_v0 : Ref sig .tc := ⟨.hbm, 95, rfl⟩
abbrev main_v43 : Ref sig .tc := ⟨.hbm, 96, rfl⟩
abbrev main_c_13 : Ref sig .tc := ⟨.hbm, 97, rfl⟩
abbrev main_v44 : Ref sig .tc := ⟨.hbm, 98, rfl⟩
abbrev main_v45 : Ref sig .tc := ⟨.hbm, 99, rfl⟩
abbrev main_c_14 : Ref sig .tc := ⟨.hbm, 100, rfl⟩
abbrev main_call6_v0 : Ref sig .tc := ⟨.hbm, 101, rfl⟩
abbrev main_call6_c : Ref sig .tc := ⟨.hbm, 102, rfl⟩
abbrev main_call6_v1 : Ref sig .tc := ⟨.hbm, 103, rfl⟩
abbrev main_call6_c_0 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_call6_c_1 : Ref sig .tc := ⟨.hbm, 108, rfl⟩
abbrev main_call6_v5 : Ref sig .tc := ⟨.hbm, 109, rfl⟩
abbrev main_call6_v6 : Ref sig .tc := ⟨.hbm, 110, rfl⟩
abbrev main_call6_c_2 : Ref sig .tc := ⟨.hbm, 111, rfl⟩
abbrev main_call6_v7 : Ref sig .tc := ⟨.hbm, 112, rfl⟩
abbrev main_call6_v8 : Ref sig .tc := ⟨.hbm, 113, rfl⟩
abbrev main_call6_c_3 : Ref sig .tc := ⟨.hbm, 114, rfl⟩
abbrev main_call6_v9 : Ref sig .tc := ⟨.hbm, 115, rfl⟩
abbrev main_call6_v10 : Ref sig .tc := ⟨.hbm, 116, rfl⟩
abbrev main_call6_v11 : Ref sig .tc := ⟨.hbm, 117, rfl⟩
abbrev main_call6_v12 : Ref sig .tc := ⟨.hbm, 118, rfl⟩
abbrev main_call6_v13 : Ref sig .tc := ⟨.hbm, 119, rfl⟩
abbrev main_call6_v14 : Ref sig .tc := ⟨.hbm, 120, rfl⟩
abbrev main_v48 : Ref sig .tc := ⟨.hbm, 121, rfl⟩
abbrev main_v25 : Ref sig .tc := ⟨.smem, 0, rfl⟩
abbrev main_v36 : Ref sig .tc := ⟨.smem, 1, rfl⟩
abbrev main_v46 : Ref sig .tc := ⟨.smem, 2, rfl⟩
abbrev main_v47 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![128], ![false]⟩

abbrev pre0 : Pipeline.Prefetch sig := ⟨4, ![main_v25.idx, main_v36.idx, main_v46.idx, main_v47.idx], fun | 0 => main_v25.names | 1 => main_v36.names | 2 => main_v46.names | 3 => main_v47.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v7 : BitVec 32 := Scalar.subi arg0 c1_i32
  let c0_i32_0 : BitVec 32 := 0#32
  let v8 : BitVec 32 := Scalar.maxsi v7 c0_i32_0
  let v9 : Index := Scalar.indexCast v8
  ![v9.toNat]
def k0_cond1 (i : grid0.Coords) : BitVec 1 :=
  let arg0 : BitVec 32 := BitVec.ofNat 32 (i 0).val
  let c0_i32_2 : BitVec 32 := 0#32
  let v18 : BitVec 1 := Scalar.cmpi .eq arg0 c0_i32_2
  let v19 : BitVec 32 := Scalar.extui v18
  let c0_i32_3 : BitVec 32 := 0#32
  let v20 : BitVec 1 := Scalar.cmpi .ne v19 c0_i32_3
  v20

def k0_off3 (v1 : BitVec 32) : Fin 3 → Nat :=
  let c0_i32_11 : BitVec 32 := 0#32
  let c0_i32_12 : BitVec 32 := 0#32
  ![v1.toNat, 0, 0]

def k0_off4 (v1 : BitVec 32) : Fin 3 → Nat :=
  let c0_i32_24 : BitVec 32 := 0#32
  let c0_i32_25 : BitVec 32 := 0#32
  ![v1.toNat, 0, 0]
def k0_off5 (v1 : BitVec 32) : Fin 3 → Nat :=
  let c512_i32 : BitVec 32 := 512#32
  let c0_i32_31 : BitVec 32 := 0#32
  ![v1.toNat, 512, 0]
def k0_off6 (v1 : BitVec 32) : Fin 3 → Nat :=
  let c64_i32 : BitVec 32 := 64#32
  let c0_i32_44 : BitVec 32 := 0#32
  ![v1.toNat, 64, 0]
def k0_off7 (v1 : BitVec 32) : Fin 3 → Nat :=
  let c1024_i32 : BitVec 32 := 1024#32
  let c0_i32_50 : BitVec 32 := 0#32
  ![v1.toNat, 1024, 0]
def k0_off8 (v1 : BitVec 32) : Fin 3 → Nat :=
  let c128_i32 : BitVec 32 := 128#32
  let c0_i32_63 : BitVec 32 := 0#32
  ![v1.toNat, 128, 0]
def k0_off9 (v1 : BitVec 32) : Fin 3 → Nat :=
  let c1536_i32 : BitVec 32 := 1536#32
  let c0_i32_68 : BitVec 32 := 0#32
  ![v1.toNat, 1536, 0]
def k0_off10 (v1 : BitVec 32) : Fin 3 → Nat :=
  let c192_i32 : BitVec 32 := 192#32
  let c0_i32_81 : BitVec 32 := 0#32
  ![v1.toNat, 192, 0]
def k0_off11 (v1 : BitVec 32) : Fin 3 → Nat :=
  let c2048_i32 : BitVec 32 := 2048#32
  let c0_i32_86 : BitVec 32 := 0#32
  ![v1.toNat, 2048, 0]
def k0_off12 (v1 : BitVec 32) : Fin 3 → Nat :=
  let c256_i32 : BitVec 32 := 256#32
  let c0_i32_99 : BitVec 32 := 0#32
  ![v1.toNat, 256, 0]
def k0_off13 (v1 : BitVec 32) : Fin 3 → Nat :=
  let c2560_i32 : BitVec 32 := 2560#32
  let c0_i32_104 : BitVec 32 := 0#32
  ![v1.toNat, 2560, 0]
def k0_off14 (v1 : BitVec 32) : Fin 3 → Nat :=
  let c320_i32 : BitVec 32 := 320#32
  let c0_i32_117 : BitVec 32 := 0#32
  ![v1.toNat, 320, 0]
def k0_off15 (v3 : BitVec 32) : Fin 3 → Nat :=
  let v156 : Index := Scalar.indexCast v3
  let c0_142 : Index := 0#32
  let c0_143 : Index := 0#32
  ![v156.toNat, 0, 0]

def k0_off16 (v3 : BitVec 32) : Fin 3 → Nat :=
  let v170 : Index := Scalar.indexCast v3
  let c0_152 : Index := 0#32
  let c0_153 : Index := 0#32
  ![v170.toNat, 0, 0]
def k0_off17 (v1 : BitVec 32) : Fin 3 → Nat :=
  let c3072_i32 : BitVec 32 := 3072#32
  let c0_i32_159 : BitVec 32 := 0#32
  ![v1.toNat, 3072, 0]
def k0_off18 (v1 : BitVec 32) : Fin 3 → Nat :=
  let c384_i32 : BitVec 32 := 384#32
  let c0_i32_172 : BitVec 32 := 0#32
  ![v1.toNat, 384, 0]
def k0_off19 (v1 : BitVec 32) : Fin 3 → Nat :=
  let c512_i32_178 : BitVec 32 := 512#32
  let c0_i32_179 : BitVec 32 := 0#32
  ![v1.toNat, 512, 0]
def k0_off20 (v1 : BitVec 32) : Fin 3 → Nat :=
  let c64_i32_192 : BitVec 32 := 64#32
  let c0_i32_193 : BitVec 32 := 0#32
  ![v1.toNat, 64, 0]
def k0_off21 (v3 : BitVec 32) : Fin 3 → Nat :=
  let v213 : Index := Scalar.indexCast v3
  let c512 : Index := 512#32
  let c0_196 : Index := 0#32
  ![v213.toNat, 512, 0]
def k0_off22 (v3 : BitVec 32) : Fin 3 → Nat :=
  let v227 : Index := Scalar.indexCast v3
  let c64 : Index := 64#32
  let c0_205 : Index := 0#32
  ![v227.toNat, 64, 0]
def k0_off23 (v1 : BitVec 32) : Fin 3 → Nat :=
  let c3584_i32 : BitVec 32 := 3584#32
  let c0_i32_211 : BitVec 32 := 0#32
  ![v1.toNat, 3584, 0]
def k0_off24 (v1 : BitVec 32) : Fin 3 → Nat :=
  let c448_i32 : BitVec 32 := 448#32
  let c0_i32_224 : BitVec 32 := 0#32
  ![v1.toNat, 448, 0]
def k0_off25 (v1 : BitVec 32) : Fin 3 → Nat :=
  let c1024_i32_230 : BitVec 32 := 1024#32
  let c0_i32_231 : BitVec 32 := 0#32
  ![v1.toNat, 1024, 0]
def k0_off26 (v1 : BitVec 32) : Fin 3 → Nat :=
  let c128_i32_244 : BitVec 32 := 128#32
  let c0_i32_245 : BitVec 32 := 0#32
  ![v1.toNat, 128, 0]
def k0_off27 (v3 : BitVec 32) : Fin 3 → Nat :=
  let v270 : Index := Scalar.indexCast v3
  let c1024 : Index := 1024#32
  let c0_248 : Index := 0#32
  ![v270.toNat, 1024, 0]
def k0_off28 (v3 : BitVec 32) : Fin 3 → Nat :=
  let v284 : Index := Scalar.indexCast v3
  let c128 : Index := 128#32
  let c0_257 : Index := 0#32
  ![v284.toNat, 128, 0]
def k0_off29 (v1 : BitVec 32) : Fin 3 → Nat :=
  let c1536_i32_263 : BitVec 32 := 1536#32
  let c0_i32_264 : BitVec 32 := 0#32
  ![v1.toNat, 1536, 0]
def k0_off30 (v1 : BitVec 32) : Fin 3 → Nat :=
  let c192_i32_277 : BitVec 32 := 192#32
  let c0_i32_278 : BitVec 32 := 0#32
  ![v1.toNat, 192, 0]
def k0_off31 (v3 : BitVec 32) : Fin 3 → Nat :=
  let v309 : Index := Scalar.indexCast v3
  let c1536 : Index := 1536#32
  let c0_281 : Index := 0#32
  ![v309.toNat, 1536, 0]
def k0_off32 (v3 : BitVec 32) : Fin 3 → Nat :=
  let v323 : Index := Scalar.indexCast v3
  let c192 : Index := 192#32
  let c0_290 : Index := 0#32
  ![v323.toNat, 192, 0]
def k0_off33 (v1 : BitVec 32) : Fin 3 → Nat :=
  let c2048_i32_296 : BitVec 32 := 2048#32
  let c0_i32_297 : BitVec 32 := 0#32
  ![v1.toNat, 2048, 0]
def k0_off34 (v1 : BitVec 32) : Fin 3 → Nat :=
  let c256_i32_310 : BitVec 32 := 256#32
  let c0_i32_311 : BitVec 32 := 0#32
  ![v1.toNat, 256, 0]
def k0_off35 (v3 : BitVec 32) : Fin 3 → Nat :=
  let v348 : Index := Scalar.indexCast v3
  let c2048 : Index := 2048#32
  let c0_314 : Index := 0#32
  ![v348.toNat, 2048, 0]
def k0_off36 (v3 : BitVec 32) : Fin 3 → Nat :=
  let v362 : Index := Scalar.indexCast v3
  let c256 : Index := 256#32
  let c0_323 : Index := 0#32
  ![v362.toNat, 256, 0]
def k0_off37 (v1 : BitVec 32) : Fin 3 → Nat :=
  let c2560_i32_329 : BitVec 32 := 2560#32
  let c0_i32_330 : BitVec 32 := 0#32
  ![v1.toNat, 2560, 0]
def k0_off38 (v1 : BitVec 32) : Fin 3 → Nat :=
  let c320_i32_343 : BitVec 32 := 320#32
  let c0_i32_344 : BitVec 32 := 0#32
  ![v1.toNat, 320, 0]

def k0_chk1 (i : grid0.Coords) (v1 : BitVec 32) : Prop :=
  (∀ (k0_h1 : k0_cond1 i = 1#1), ∀ a, (k0_off3 v1) a + S1x512x512.size a ≤ S64x4096x512.size a) ∧
  (∀ (k0_h1 : k0_cond1 i = 1#1), ∀ a, (k0_off4 v1) a + S1x64x4096.size a ≤ S64x512x4096.size a) ∧
  (∀ (k0_h1 : k0_cond1 i = 1#1), ∀ a, (k0_off5 v1) a + S1x512x512.size a ≤ S64x4096x512.size a) ∧
  (∀ (k0_h1 : k0_cond1 i = 1#1), ∀ a, (k0_off6 v1) a + S1x64x4096.size a ≤ S64x512x4096.size a) ∧
  (∀ (k0_h1 : k0_cond1 i = 1#1), ∀ a, (k0_off7 v1) a + S1x512x512.size a ≤ S64x4096x512.size a) ∧
  (∀ (k0_h1 : k0_cond1 i = 1#1), ∀ a, (k0_off8 v1) a + S1x64x4096.size a ≤ S64x512x4096.size a) ∧
  (∀ (k0_h1 : k0_cond1 i = 1#1), ∀ a, (k0_off9 v1) a + S1x512x512.size a ≤ S64x4096x512.size a) ∧
  (∀ (k0_h1 : k0_cond1 i = 1#1), ∀ a, (k0_off10 v1) a + S1x64x4096.size a ≤ S64x512x4096.size a) ∧
  (∀ (k0_h1 : k0_cond1 i = 1#1), ∀ a, (k0_off11 v1) a + S1x512x512.size a ≤ S64x4096x512.size a) ∧
  (∀ (k0_h1 : k0_cond1 i = 1#1), ∀ a, (k0_off12 v1) a + S1x64x4096.size a ≤ S64x512x4096.size a) ∧
  (∀ (k0_h1 : k0_cond1 i = 1#1), ∀ a, (k0_off13 v1) a + S1x512x512.size a ≤ S64x4096x512.size a) ∧
  (∀ (k0_h1 : k0_cond1 i = 1#1), ∀ a, (k0_off14 v1) a + S1x64x4096.size a ≤ S64x512x4096.size a) ∧
  (∀ (k0_h1 : k0_cond1 i = 1#1), ∀ a, (k0_off17 v1) a + S1x512x512.size a ≤ S64x4096x512.size a) ∧
  (∀ (k0_h1 : k0_cond1 i = 1#1), ∀ a, (k0_off18 v1) a + S1x64x4096.size a ≤ S64x512x4096.size a) ∧
  (∀ (k0_h1 : k0_cond1 i = 1#1), ∀ a, (k0_off19 v1) a + S1x512x512.size a ≤ S64x4096x512.size a) ∧
  (∀ (k0_h1 : k0_cond1 i = 1#1), ∀ a, (k0_off20 v1) a + S1x64x4096.size a ≤ S64x512x4096.size a) ∧
  (∀ (k0_h1 : k0_cond1 i = 1#1), ∀ a, (k0_off23 v1) a + S1x512x512.size a ≤ S64x4096x512.size a) ∧
  (∀ (k0_h1 : k0_cond1 i = 1#1), ∀ a, (k0_off24 v1) a + S1x64x4096.size a ≤ S64x512x4096.size a) ∧
  (∀ (k0_h1 : k0_cond1 i = 1#1), ∀ a, (k0_off25 v1) a + S1x512x512.size a ≤ S64x4096x512.size a) ∧
  (∀ (k0_h1 : k0_cond1 i = 1#1), ∀ a, (k0_off26 v1) a + S1x64x4096.size a ≤ S64x512x4096.size a) ∧
  (∀ (k0_h1 : k0_cond1 i = 1#1), ∀ a, (k0_off29 v1) a + S1x512x512.size a ≤ S64x4096x512.size a) ∧
  (∀ (k0_h1 : k0_cond1 i = 1#1), ∀ a, (k0_off30 v1) a + S1x64x4096.size a ≤ S64x512x4096.size a) ∧
  (∀ (k0_h1 : k0_cond1 i = 1#1), ∀ a, (k0_off33 v1) a + S1x512x512.size a ≤ S64x4096x512.size a) ∧
  (∀ (k0_h1 : k0_cond1 i = 1#1), ∀ a, (k0_off34 v1) a + S1x64x4096.size a ≤ S64x512x4096.size a) ∧
  (∀ (k0_h1 : k0_cond1 i = 1#1), ∀ a, (k0_off37 v1) a + S1x512x512.size a ≤ S64x4096x512.size a) ∧
  (∀ (k0_h1 : k0_cond1 i = 1#1), ∀ a, (k0_off38 v1) a + S1x64x4096.size a ≤ S64x512x4096.size a)
theorem k0_off3_inb : ∀ (i : grid0.Coords) (v1 : BitVec 32) (k0_hw1 : k0_chk1 i v1), ∀ (k0_h1 : k0_cond1 i = 1#1), ∀ a, (k0_off3 v1) a + S1x512x512.size a ≤ S64x4096x512.size a := fun i v1 k0_hw1 k0_h1 => k0_hw1.1 k0_h1
theorem k0_off4_inb : ∀ (i : grid0.Coords) (v1 : BitVec 32) (k0_hw1 : k0_chk1 i v1), ∀ (k0_h1 : k0_cond1 i = 1#1), ∀ a, (k0_off4 v1) a + S1x64x4096.size a ≤ S64x512x4096.size a := fun i v1 k0_hw1 k0_h1 => k0_hw1.2.1 k0_h1
theorem k0_off5_inb : ∀ (i : grid0.Coords) (v1 : BitVec 32) (k0_hw1 : k0_chk1 i v1), ∀ (k0_h1 : k0_cond1 i = 1#1), ∀ a, (k0_off5 v1) a + S1x512x512.size a ≤ S64x4096x512.size a := fun i v1 k0_hw1 k0_h1 => k0_hw1.2.2.1 k0_h1
theorem k0_off6_inb : ∀ (i : grid0.Coords) (v1 : BitVec 32) (k0_hw1 : k0_chk1 i v1), ∀ (k0_h1 : k0_cond1 i = 1#1), ∀ a, (k0_off6 v1) a + S1x64x4096.size a ≤ S64x512x4096.size a := fun i v1 k0_hw1 k0_h1 => k0_hw1.2.2.2.1 k0_h1
theorem k0_off7_inb : ∀ (i : grid0.Coords) (v1 : BitVec 32) (k0_hw1 : k0_chk1 i v1), ∀ (k0_h1 : k0_cond1 i = 1#1), ∀ a, (k0_off7 v1) a + S1x512x512.size a ≤ S64x4096x512.size a := fun i v1 k0_hw1 k0_h1 => k0_hw1.2.2.2.2.1 k0_h1
theorem k0_off8_inb : ∀ (i : grid0.Coords) (v1 : BitVec 32) (k0_hw1 : k0_chk1 i v1), ∀ (k0_h1 : k0_cond1 i = 1#1), ∀ a, (k0_off8 v1) a + S1x64x4096.size a ≤ S64x512x4096.size a := fun i v1 k0_hw1 k0_h1 => k0_hw1.2.2.2.2.2.1 k0_h1
theorem k0_off9_inb : ∀ (i : grid0.Coords) (v1 : BitVec 32) (k0_hw1 : k0_chk1 i v1), ∀ (k0_h1 : k0_cond1 i = 1#1), ∀ a, (k0_off9 v1) a + S1x512x512.size a ≤ S64x4096x512.size a := fun i v1 k0_hw1 k0_h1 => k0_hw1.2.2.2.2.2.2.1 k0_h1
theorem k0_off10_inb : ∀ (i : grid0.Coords) (v1 : BitVec 32) (k0_hw1 : k0_chk1 i v1), ∀ (k0_h1 : k0_cond1 i = 1#1), ∀ a, (k0_off10 v1) a + S1x64x4096.size a ≤ S64x512x4096.size a := fun i v1 k0_hw1 k0_h1 => k0_hw1.2.2.2.2.2.2.2.1 k0_h1
theorem k0_off11_inb : ∀ (i : grid0.Coords) (v1 : BitVec 32) (k0_hw1 : k0_chk1 i v1), ∀ (k0_h1 : k0_cond1 i = 1#1), ∀ a, (k0_off11 v1) a + S1x512x512.size a ≤ S64x4096x512.size a := fun i v1 k0_hw1 k0_h1 => k0_hw1.2.2.2.2.2.2.2.2.1 k0_h1
theorem k0_off12_inb : ∀ (i : grid0.Coords) (v1 : BitVec 32) (k0_hw1 : k0_chk1 i v1), ∀ (k0_h1 : k0_cond1 i = 1#1), ∀ a, (k0_off12 v1) a + S1x64x4096.size a ≤ S64x512x4096.size a := fun i v1 k0_hw1 k0_h1 => k0_hw1.2.2.2.2.2.2.2.2.2.1 k0_h1
theorem k0_off13_inb : ∀ (i : grid0.Coords) (v1 : BitVec 32) (k0_hw1 : k0_chk1 i v1), ∀ (k0_h1 : k0_cond1 i = 1#1), ∀ a, (k0_off13 v1) a + S1x512x512.size a ≤ S64x4096x512.size a := fun i v1 k0_hw1 k0_h1 => k0_hw1.2.2.2.2.2.2.2.2.2.2.1 k0_h1
theorem k0_off14_inb : ∀ (i : grid0.Coords) (v1 : BitVec 32) (k0_hw1 : k0_chk1 i v1), ∀ (k0_h1 : k0_cond1 i = 1#1), ∀ a, (k0_off14 v1) a + S1x64x4096.size a ≤ S64x512x4096.size a := fun i v1 k0_hw1 k0_h1 => k0_hw1.2.2.2.2.2.2.2.2.2.2.2.1 k0_h1
theorem k0_off17_inb : ∀ (i : grid0.Coords) (v1 : BitVec 32) (k0_hw1 : k0_chk1 i v1), ∀ (k0_h1 : k0_cond1 i = 1#1), ∀ a, (k0_off17 v1) a + S1x512x512.size a ≤ S64x4096x512.size a := fun i v1 k0_hw1 k0_h1 => k0_hw1.2.2.2.2.2.2.2.2.2.2.2.2.1 k0_h1
theorem k0_off18_inb : ∀ (i : grid0.Coords) (v1 : BitVec 32) (k0_hw1 : k0_chk1 i v1), ∀ (k0_h1 : k0_cond1 i = 1#1), ∀ a, (k0_off18 v1) a + S1x64x4096.size a ≤ S64x512x4096.size a := fun i v1 k0_hw1 k0_h1 => k0_hw1.2.2.2.2.2.2.2.2.2.2.2.2.2.1 k0_h1
theorem k0_off19_inb : ∀ (i : grid0.Coords) (v1 : BitVec 32) (k0_hw1 : k0_chk1 i v1), ∀ (k0_h1 : k0_cond1 i = 1#1), ∀ a, (k0_off19 v1) a + S1x512x512.size a ≤ S64x4096x512.size a := fun i v1 k0_hw1 k0_h1 => k0_hw1.2.2.2.2.2.2.2.2.2.2.2.2.2.2.1 k0_h1
theorem k0_off20_inb : ∀ (i : grid0.Coords) (v1 : BitVec 32) (k0_hw1 : k0_chk1 i v1), ∀ (k0_h1 : k0_cond1 i = 1#1), ∀ a, (k0_off20 v1) a + S1x64x4096.size a ≤ S64x512x4096.size a := fun i v1 k0_hw1 k0_h1 => k0_hw1.2.2.2.2.2.2.2.2.2.2.2.2.2.2.2.1 k0_h1
theorem k0_off23_inb : ∀ (i : grid0.Coords) (v1 : BitVec 32) (k0_hw1 : k0_chk1 i v1), ∀ (k0_h1 : k0_cond1 i = 1#1), ∀ a, (k0_off23 v1) a + S1x512x512.size a ≤ S64x4096x512.size a := fun i v1 k0_hw1 k0_h1 => k0_hw1.2.2.2.2.2.2.2.2.2.2.2.2.2.2.2.2.1 k0_h1
theorem k0_off24_inb : ∀ (i : grid0.Coords) (v1 : BitVec 32) (k0_hw1 : k0_chk1 i v1), ∀ (k0_h1 : k0_cond1 i = 1#1), ∀ a, (k0_off24 v1) a + S1x64x4096.size a ≤ S64x512x4096.size a := fun i v1 k0_hw1 k0_h1 => k0_hw1.2.2.2.2.2.2.2.2.2.2.2.2.2.2.2.2.2.1 k0_h1
theorem k0_off25_inb : ∀ (i : grid0.Coords) (v1 : BitVec 32) (k0_hw1 : k0_chk1 i v1), ∀ (k0_h1 : k0_cond1 i = 1#1), ∀ a, (k0_off25 v1) a + S1x512x512.size a ≤ S64x4096x512.size a := fun i v1 k0_hw1 k0_h1 => k0_hw1.2.2.2.2.2.2.2.2.2.2.2.2.2.2.2.2.2.2.1 k0_h1
theorem k0_off26_inb : ∀ (i : grid0.Coords) (v1 : BitVec 32) (k0_hw1 : k0_chk1 i v1), ∀ (k0_h1 : k0_cond1 i = 1#1), ∀ a, (k0_off26 v1) a + S1x64x4096.size a ≤ S64x512x4096.size a := fun i v1 k0_hw1 k0_h1 => k0_hw1.2.2.2.2.2.2.2.2.2.2.2.2.2.2.2.2.2.2.2.1 k0_h1
theorem k0_off29_inb : ∀ (i : grid0.Coords) (v1 : BitVec 32) (k0_hw1 : k0_chk1 i v1), ∀ (k0_h1 : k0_cond1 i = 1#1), ∀ a, (k0_off29 v1) a + S1x512x512.size a ≤ S64x4096x512.size a := fun i v1 k0_hw1 k0_h1 => k0_hw1.2.2.2.2.2.2.2.2.2.2.2.2.2.2.2.2.2.2.2.2.1 k0_h1
theorem k0_off30_inb : ∀ (i : grid0.Coords) (v1 : BitVec 32) (k0_hw1 : k0_chk1 i v1), ∀ (k0_h1 : k0_cond1 i = 1#1), ∀ a, (k0_off30 v1) a + S1x64x4096.size a ≤ S64x512x4096.size a := fun i v1 k0_hw1 k0_h1 => k0_hw1.2.2.2.2.2.2.2.2.2.2.2.2.2.2.2.2.2.2.2.2.2.1 k0_h1
theorem k0_off33_inb : ∀ (i : grid0.Coords) (v1 : BitVec 32) (k0_hw1 : k0_chk1 i v1), ∀ (k0_h1 : k0_cond1 i = 1#1), ∀ a, (k0_off33 v1) a + S1x512x512.size a ≤ S64x4096x512.size a := fun i v1 k0_hw1 k0_h1 => k0_hw1.2.2.2.2.2.2.2.2.2.2.2.2.2.2.2.2.2.2.2.2.2.2.1 k0_h1
theorem k0_off34_inb : ∀ (i : grid0.Coords) (v1 : BitVec 32) (k0_hw1 : k0_chk1 i v1), ∀ (k0_h1 : k0_cond1 i = 1#1), ∀ a, (k0_off34 v1) a + S1x64x4096.size a ≤ S64x512x4096.size a := fun i v1 k0_hw1 k0_h1 => k0_hw1.2.2.2.2.2.2.2.2.2.2.2.2.2.2.2.2.2.2.2.2.2.2.2.1 k0_h1
theorem k0_off37_inb : ∀ (i : grid0.Coords) (v1 : BitVec 32) (k0_hw1 : k0_chk1 i v1), ∀ (k0_h1 : k0_cond1 i = 1#1), ∀ a, (k0_off37 v1) a + S1x512x512.size a ≤ S64x4096x512.size a := fun i v1 k0_hw1 k0_h1 => k0_hw1.2.2.2.2.2.2.2.2.2.2.2.2.2.2.2.2.2.2.2.2.2.2.2.2.1 k0_h1
theorem k0_off38_inb : ∀ (i : grid0.Coords) (v1 : BitVec 32) (k0_hw1 : k0_chk1 i v1), ∀ (k0_h1 : k0_cond1 i = 1#1), ∀ a, (k0_off38 v1) a + S1x64x4096.size a ≤ S64x512x4096.size a := fun i v1 k0_hw1 k0_h1 => k0_hw1.2.2.2.2.2.2.2.2.2.2.2.2.2.2.2.2.2.2.2.2.2.2.2.2.2 k0_h1

def k0_off39 (v3 : BitVec 32) : Fin 3 → Nat :=
  let v387 : Index := Scalar.indexCast v3
  let c2560 : Index := 2560#32
  let c0_347 : Index := 0#32
  ![v387.toNat, 2560, 0]
def k0_off40 (v3 : BitVec 32) : Fin 3 → Nat :=
  let v401 : Index := Scalar.indexCast v3
  let c320 : Index := 320#32
  let c0_356 : Index := 0#32
  ![v401.toNat, 320, 0]
def k0_off41 (v3 : BitVec 32) : Fin 3 → Nat :=
  let v426 : Index := Scalar.indexCast v3
  let c3072 : Index := 3072#32
  let c0_381 : Index := 0#32
  ![v426.toNat, 3072, 0]
def k0_off42 (v3 : BitVec 32) : Fin 3 → Nat :=
  let v440 : Index := Scalar.indexCast v3
  let c384 : Index := 384#32
  let c0_390 : Index := 0#32
  ![v440.toNat, 384, 0]
def k0_off43 (v3 : BitVec 32) : Fin 3 → Nat :=
  let v465 : Index := Scalar.indexCast v3
  let c3584 : Index := 3584#32
  let c0_415 : Index := 0#32
  ![v465.toNat, 3584, 0]
def k0_off44 (v3 : BitVec 32) : Fin 3 → Nat :=
  let v479 : Index := Scalar.indexCast v3
  let c448 : Index := 448#32
  let c0_424 : Index := 0#32
  ![v479.toNat, 448, 0]

def k0_chk2 (i : grid0.Coords) (v3 : BitVec 32) : Prop :=
  (∀ (k0_h1 : k0_cond1 i = 1#1), ∀ a, (k0_off15 v3) a + S1x512x512.size a ≤ S2x4096x512.size a) ∧
  (∀ (k0_h1 : k0_cond1 i = 1#1), ∀ (hinb : ∀ a, (k0_off15 v3) a + S1x512x512.size a ≤ S2x4096x512.size a), (Rect.unit (s := S2x4096x512) (k0_off15 v3) S1x512x512.size hinb).PackedRows (EltTy.packing .bf16)) ∧
  (∀ (k0_h1 : k0_cond1 i = 1#1), ∀ a, (k0_off16 v3) a + S1x64x4096.size a ≤ S2x512x4096.size a) ∧
  (∀ (k0_h1 : k0_cond1 i = 1#1), ∀ (hinb : ∀ a, (k0_off16 v3) a + S1x64x4096.size a ≤ S2x512x4096.size a), (Rect.unit (s := S2x512x4096) (k0_off16 v3) S1x64x4096.size hinb).PackedRows (EltTy.packing .bf16)) ∧
  (∀ (k0_h1 : k0_cond1 i = 1#1), ∀ a, (k0_off21 v3) a + S1x512x512.size a ≤ S2x4096x512.size a) ∧
  (∀ (k0_h1 : k0_cond1 i = 1#1), ∀ (hinb : ∀ a, (k0_off21 v3) a + S1x512x512.size a ≤ S2x4096x512.size a), (Rect.unit (s := S2x4096x512) (k0_off21 v3) S1x512x512.size hinb).PackedRows (EltTy.packing .bf16)) ∧
  (∀ (k0_h1 : k0_cond1 i = 1#1), ∀ a, (k0_off22 v3) a + S1x64x4096.size a ≤ S2x512x4096.size a) ∧
  (∀ (k0_h1 : k0_cond1 i = 1#1), ∀ (hinb : ∀ a, (k0_off22 v3) a + S1x64x4096.size a ≤ S2x512x4096.size a), (Rect.unit (s := S2x512x4096) (k0_off22 v3) S1x64x4096.size hinb).PackedRows (EltTy.packing .bf16)) ∧
  (∀ (k0_h1 : k0_cond1 i = 1#1), ∀ a, (k0_off27 v3) a + S1x512x512.size a ≤ S2x4096x512.size a) ∧
  (∀ (k0_h1 : k0_cond1 i = 1#1), ∀ (hinb : ∀ a, (k0_off27 v3) a + S1x512x512.size a ≤ S2x4096x512.size a), (Rect.unit (s := S2x4096x512) (k0_off27 v3) S1x512x512.size hinb).PackedRows (EltTy.packing .bf16)) ∧
  (∀ (k0_h1 : k0_cond1 i = 1#1), ∀ a, (k0_off28 v3) a + S1x64x4096.size a ≤ S2x512x4096.size a) ∧
  (∀ (k0_h1 : k0_cond1 i = 1#1), ∀ (hinb : ∀ a, (k0_off28 v3) a + S1x64x4096.size a ≤ S2x512x4096.size a), (Rect.unit (s := S2x512x4096) (k0_off28 v3) S1x64x4096.size hinb).PackedRows (EltTy.packing .bf16)) ∧
  (∀ (k0_h1 : k0_cond1 i = 1#1), ∀ a, (k0_off31 v3) a + S1x512x512.size a ≤ S2x4096x512.size a) ∧
  (∀ (k0_h1 : k0_cond1 i = 1#1), ∀ (hinb : ∀ a, (k0_off31 v3) a + S1x512x512.size a ≤ S2x4096x512.size a), (Rect.unit (s := S2x4096x512) (k0_off31 v3) S1x512x512.size hinb).PackedRows (EltTy.packing .bf16)) ∧
  (∀ (k0_h1 : k0_cond1 i = 1#1), ∀ a, (k0_off32 v3) a + S1x64x4096.size a ≤ S2x512x4096.size a) ∧
  (∀ (k0_h1 : k0_cond1 i = 1#1), ∀ (hinb : ∀ a, (k0_off32 v3) a + S1x64x4096.size a ≤ S2x512x4096.size a), (Rect.unit (s := S2x512x4096) (k0_off32 v3) S1x64x4096.size hinb).PackedRows (EltTy.packing .bf16)) ∧
  (∀ (k0_h1 : k0_cond1 i = 1#1), ∀ a, (k0_off35 v3) a + S1x512x512.size a ≤ S2x4096x512.size a) ∧
  (∀ (k0_h1 : k0_cond1 i = 1#1), ∀ (hinb : ∀ a, (k0_off35 v3) a + S1x512x512.size a ≤ S2x4096x512.size a), (Rect.unit (s := S2x4096x512) (k0_off35 v3) S1x512x512.size hinb).PackedRows (EltTy.packing .bf16)) ∧
  (∀ (k0_h1 : k0_cond1 i = 1#1), ∀ a, (k0_off36 v3) a + S1x64x4096.size a ≤ S2x512x4096.size a) ∧
  (∀ (k0_h1 : k0_cond1 i = 1#1), ∀ (hinb : ∀ a, (k0_off36 v3) a + S1x64x4096.size a ≤ S2x512x4096.size a), (Rect.unit (s := S2x512x4096) (k0_off36 v3) S1x64x4096.size hinb).PackedRows (EltTy.packing .bf16)) ∧
  (∀ (k0_h1 : k0_cond1 i = 1#1), ∀ a, (k0_off39 v3) a + S1x512x512.size a ≤ S2x4096x512.size a) ∧
  (∀ (k0_h1 : k0_cond1 i = 1#1), ∀ (hinb : ∀ a, (k0_off39 v3) a + S1x512x512.size a ≤ S2x4096x512.size a), (Rect.unit (s := S2x4096x512) (k0_off39 v3) S1x512x512.size hinb).PackedRows (EltTy.packing .bf16)) ∧
  (∀ (k0_h1 : k0_cond1 i = 1#1), ∀ a, (k0_off40 v3) a + S1x64x4096.size a ≤ S2x512x4096.size a) ∧
  (∀ (k0_h1 : k0_cond1 i = 1#1), ∀ (hinb : ∀ a, (k0_off40 v3) a + S1x64x4096.size a ≤ S2x512x4096.size a), (Rect.unit (s := S2x512x4096) (k0_off40 v3) S1x64x4096.size hinb).PackedRows (EltTy.packing .bf16)) ∧
  (∀ (k0_h1 : k0_cond1 i = 1#1), ∀ a, (k0_off41 v3) a + S1x512x512.size a ≤ S2x4096x512.size a) ∧
  (∀ (k0_h1 : k0_cond1 i = 1#1), ∀ (hinb : ∀ a, (k0_off41 v3) a + S1x512x512.size a ≤ S2x4096x512.size a), (Rect.unit (s := S2x4096x512) (k0_off41 v3) S1x512x512.size hinb).PackedRows (EltTy.packing .bf16)) ∧
  (∀ (k0_h1 : k0_cond1 i = 1#1), ∀ a, (k0_off42 v3) a + S1x64x4096.size a ≤ S2x512x4096.size a) ∧
  (∀ (k0_h1 : k0_cond1 i = 1#1), ∀ (hinb : ∀ a, (k0_off42 v3) a + S1x64x4096.size a ≤ S2x512x4096.size a), (Rect.unit (s := S2x512x4096) (k0_off42 v3) S1x64x4096.size hinb).PackedRows (EltTy.packing .bf16)) ∧
  (∀ (k0_h1 : k0_cond1 i = 1#1), ∀ a, (k0_off43 v3) a + S1x512x512.size a ≤ S2x4096x512.size a) ∧
  (∀ (k0_h1 : k0_cond1 i = 1#1), ∀ (hinb : ∀ a, (k0_off43 v3) a + S1x512x512.size a ≤ S2x4096x512.size a), (Rect.unit (s := S2x4096x512) (k0_off43 v3) S1x512x512.size hinb).PackedRows (EltTy.packing .bf16)) ∧
  (∀ (k0_h1 : k0_cond1 i = 1#1), ∀ a, (k0_off44 v3) a + S1x64x4096.size a ≤ S2x512x4096.size a) ∧
  (∀ (k0_h1 : k0_cond1 i = 1#1), ∀ (hinb : ∀ a, (k0_off44 v3) a + S1x64x4096.size a ≤ S2x512x4096.size a), (Rect.unit (s := S2x512x4096) (k0_off44 v3) S1x64x4096.size hinb).PackedRows (EltTy.packing .bf16))
theorem k0_off15_inb : ∀ (i : grid0.Coords) (v3 : BitVec 32) (k0_hw2 : k0_chk2 i v3), ∀ (k0_h1 : k0_cond1 i = 1#1), ∀ a, (k0_off15 v3) a + S1x512x512.size a ≤ S2x4096x512.size a := fun i v3 k0_hw2 k0_h1 => k0_hw2.1 k0_h1
theorem k0_off15_packedbf16 : ∀ (i : grid0.Coords) (v3 : BitVec 32) (k0_hw2 : k0_chk2 i v3), ∀ (k0_h1 : k0_cond1 i = 1#1), (Rect.unit (s := S2x4096x512) (k0_off15 v3) S1x512x512.size (k0_off15_inb i v3 k0_hw2 k0_h1)).PackedRows (EltTy.packing .bf16) := fun i v3 k0_hw2 k0_h1 => k0_hw2.2.1 k0_h1 (k0_off15_inb i v3 k0_hw2 k0_h1)
theorem k0_off16_inb : ∀ (i : grid0.Coords) (v3 : BitVec 32) (k0_hw2 : k0_chk2 i v3), ∀ (k0_h1 : k0_cond1 i = 1#1), ∀ a, (k0_off16 v3) a + S1x64x4096.size a ≤ S2x512x4096.size a := fun i v3 k0_hw2 k0_h1 => k0_hw2.2.2.1 k0_h1
theorem k0_off16_packedbf16 : ∀ (i : grid0.Coords) (v3 : BitVec 32) (k0_hw2 : k0_chk2 i v3), ∀ (k0_h1 : k0_cond1 i = 1#1), (Rect.unit (s := S2x512x4096) (k0_off16 v3) S1x64x4096.size (k0_off16_inb i v3 k0_hw2 k0_h1)).PackedRows (EltTy.packing .bf16) := fun i v3 k0_hw2 k0_h1 => k0_hw2.2.2.2.1 k0_h1 (k0_off16_inb i v3 k0_hw2 k0_h1)
theorem k0_off21_inb : ∀ (i : grid0.Coords) (v3 : BitVec 32) (k0_hw2 : k0_chk2 i v3), ∀ (k0_h1 : k0_cond1 i = 1#1), ∀ a, (k0_off21 v3) a + S1x512x512.size a ≤ S2x4096x512.size a := fun i v3 k0_hw2 k0_h1 => k0_hw2.2.2.2.2.1 k0_h1
theorem k0_off21_packedbf16 : ∀ (i : grid0.Coords) (v3 : BitVec 32) (k0_hw2 : k0_chk2 i v3), ∀ (k0_h1 : k0_cond1 i = 1#1), (Rect.unit (s := S2x4096x512) (k0_off21 v3) S1x512x512.size (k0_off21_inb i v3 k0_hw2 k0_h1)).PackedRows (EltTy.packing .bf16) := fun i v3 k0_hw2 k0_h1 => k0_hw2.2.2.2.2.2.1 k0_h1 (k0_off21_inb i v3 k0_hw2 k0_h1)
theorem k0_off22_inb : ∀ (i : grid0.Coords) (v3 : BitVec 32) (k0_hw2 : k0_chk2 i v3), ∀ (k0_h1 : k0_cond1 i = 1#1), ∀ a, (k0_off22 v3) a + S1x64x4096.size a ≤ S2x512x4096.size a := fun i v3 k0_hw2 k0_h1 => k0_hw2.2.2.2.2.2.2.1 k0_h1
theorem k0_off22_packedbf16 : ∀ (i : grid0.Coords) (v3 : BitVec 32) (k0_hw2 : k0_chk2 i v3), ∀ (k0_h1 : k0_cond1 i = 1#1), (Rect.unit (s := S2x512x4096) (k0_off22 v3) S1x64x4096.size (k0_off22_inb i v3 k0_hw2 k0_h1)).PackedRows (EltTy.packing .bf16) := fun i v3 k0_hw2 k0_h1 => k0_hw2.2.2.2.2.2.2.2.1 k0_h1 (k0_off22_inb i v3 k0_hw2 k0_h1)
theorem k0_off27_inb : ∀ (i : grid0.Coords) (v3 : BitVec 32) (k0_hw2 : k0_chk2 i v3), ∀ (k0_h1 : k0_cond1 i = 1#1), ∀ a, (k0_off27 v3) a + S1x512x512.size a ≤ S2x4096x512.size a := fun i v3 k0_hw2 k0_h1 => k0_hw2.2.2.2.2.2.2.2.2.1 k0_h1
theorem k0_off27_packedbf16 : ∀ (i : grid0.Coords) (v3 : BitVec 32) (k0_hw2 : k0_chk2 i v3), ∀ (k0_h1 : k0_cond1 i = 1#1), (Rect.unit (s := S2x4096x512) (k0_off27 v3) S1x512x512.size (k0_off27_inb i v3 k0_hw2 k0_h1)).PackedRows (EltTy.packing .bf16) := fun i v3 k0_hw2 k0_h1 => k0_hw2.2.2.2.2.2.2.2.2.2.1 k0_h1 (k0_off27_inb i v3 k0_hw2 k0_h1)
theorem k0_off28_inb : ∀ (i : grid0.Coords) (v3 : BitVec 32) (k0_hw2 : k0_chk2 i v3), ∀ (k0_h1 : k0_cond1 i = 1#1), ∀ a, (k0_off28 v3) a + S1x64x4096.size a ≤ S2x512x4096.size a := fun i v3 k0_hw2 k0_h1 => k0_hw2.2.2.2.2.2.2.2.2.2.2.1 k0_h1
theorem k0_off28_packedbf16 : ∀ (i : grid0.Coords) (v3 : BitVec 32) (k0_hw2 : k0_chk2 i v3), ∀ (k0_h1 : k0_cond1 i = 1#1), (Rect.unit (s := S2x512x4096) (k0_off28 v3) S1x64x4096.size (k0_off28_inb i v3 k0_hw2 k0_h1)).PackedRows (EltTy.packing .bf16) := fun i v3 k0_hw2 k0_h1 => k0_hw2.2.2.2.2.2.2.2.2.2.2.2.1 k0_h1 (k0_off28_inb i v3 k0_hw2 k0_h1)
theorem k0_off31_inb : ∀ (i : grid0.Coords) (v3 : BitVec 32) (k0_hw2 : k0_chk2 i v3), ∀ (k0_h1 : k0_cond1 i = 1#1), ∀ a, (k0_off31 v3) a + S1x512x512.size a ≤ S2x4096x512.size a := fun i v3 k0_hw2 k0_h1 => k0_hw2.2.2.2.2.2.2.2.2.2.2.2.2.1 k0_h1
theorem k0_off31_packedbf16 : ∀ (i : grid0.Coords) (v3 : BitVec 32) (k0_hw2 : k0_chk2 i v3), ∀ (k0_h1 : k0_cond1 i = 1#1), (Rect.unit (s := S2x4096x512) (k0_off31 v3) S1x512x512.size (k0_off31_inb i v3 k0_hw2 k0_h1)).PackedRows (EltTy.packing .bf16) := fun i v3 k0_hw2 k0_h1 => k0_hw2.2.2.2.2.2.2.2.2.2.2.2.2.2.1 k0_h1 (k0_off31_inb i v3 k0_hw2 k0_h1)
theorem k0_off32_inb : ∀ (i : grid0.Coords) (v3 : BitVec 32) (k0_hw2 : k0_chk2 i v3), ∀ (k0_h1 : k0_cond1 i = 1#1), ∀ a, (k0_off32 v3) a + S1x64x4096.size a ≤ S2x512x4096.size a := fun i v3 k0_hw2 k0_h1 => k0_hw2.2.2.2.2.2.2.2.2.2.2.2.2.2.2.1 k0_h1
theorem k0_off32_packedbf16 : ∀ (i : grid0.Coords) (v3 : BitVec 32) (k0_hw2 : k0_chk2 i v3), ∀ (k0_h1 : k0_cond1 i = 1#1), (Rect.unit (s := S2x512x4096) (k0_off32 v3) S1x64x4096.size (k0_off32_inb i v3 k0_hw2 k0_h1)).PackedRows (EltTy.packing .bf16) := fun i v3 k0_hw2 k0_h1 => k0_hw2.2.2.2.2.2.2.2.2.2.2.2.2.2.2.2.1 k0_h1 (k0_off32_inb i v3 k0_hw2 k0_h1)
theorem k0_off35_inb : ∀ (i : grid0.Coords) (v3 : BitVec 32) (k0_hw2 : k0_chk2 i v3), ∀ (k0_h1 : k0_cond1 i = 1#1), ∀ a, (k0_off35 v3) a + S1x512x512.size a ≤ S2x4096x512.size a := fun i v3 k0_hw2 k0_h1 => k0_hw2.2.2.2.2.2.2.2.2.2.2.2.2.2.2.2.2.1 k0_h1
theorem k0_off35_packedbf16 : ∀ (i : grid0.Coords) (v3 : BitVec 32) (k0_hw2 : k0_chk2 i v3), ∀ (k0_h1 : k0_cond1 i = 1#1), (Rect.unit (s := S2x4096x512) (k0_off35 v3) S1x512x512.size (k0_off35_inb i v3 k0_hw2 k0_h1)).PackedRows (EltTy.packing .bf16) := fun i v3 k0_hw2 k0_h1 => k0_hw2.2.2.2.2.2.2.2.2.2.2.2.2.2.2.2.2.2.1 k0_h1 (k0_off35_inb i v3 k0_hw2 k0_h1)
theorem k0_off36_inb : ∀ (i : grid0.Coords) (v3 : BitVec 32) (k0_hw2 : k0_chk2 i v3), ∀ (k0_h1 : k0_cond1 i = 1#1), ∀ a, (k0_off36 v3) a + S1x64x4096.size a ≤ S2x512x4096.size a := fun i v3 k0_hw2 k0_h1 => k0_hw2.2.2.2.2.2.2.2.2.2.2.2.2.2.2.2.2.2.2.1 k0_h1
theorem k0_off36_packedbf16 : ∀ (i : grid0.Coords) (v3 : BitVec 32) (k0_hw2 : k0_chk2 i v3), ∀ (k0_h1 : k0_cond1 i = 1#1), (Rect.unit (s := S2x512x4096) (k0_off36 v3) S1x64x4096.size (k0_off36_inb i v3 k0_hw2 k0_h1)).PackedRows (EltTy.packing .bf16) := fun i v3 k0_hw2 k0_h1 => k0_hw2.2.2.2.2.2.2.2.2.2.2.2.2.2.2.2.2.2.2.2.1 k0_h1 (k0_off36_inb i v3 k0_hw2 k0_h1)
theorem k0_off39_inb : ∀ (i : grid0.Coords) (v3 : BitVec 32) (k0_hw2 : k0_chk2 i v3), ∀ (k0_h1 : k0_cond1 i = 1#1), ∀ a, (k0_off39 v3) a + S1x512x512.size a ≤ S2x4096x512.size a := fun i v3 k0_hw2 k0_h1 => k0_hw2.2.2.2.2.2.2.2.2.2.2.2.2.2.2.2.2.2.2.2.2.1 k0_h1
theorem k0_off39_packedbf16 : ∀ (i : grid0.Coords) (v3 : BitVec 32) (k0_hw2 : k0_chk2 i v3), ∀ (k0_h1 : k0_cond1 i = 1#1), (Rect.unit (s := S2x4096x512) (k0_off39 v3) S1x512x512.size (k0_off39_inb i v3 k0_hw2 k0_h1)).PackedRows (EltTy.packing .bf16) := fun i v3 k0_hw2 k0_h1 => k0_hw2.2.2.2.2.2.2.2.2.2.2.2.2.2.2.2.2.2.2.2.2.2.1 k0_h1 (k0_off39_inb i v3 k0_hw2 k0_h1)
theorem k0_off40_inb : ∀ (i : grid0.Coords) (v3 : BitVec 32) (k0_hw2 : k0_chk2 i v3), ∀ (k0_h1 : k0_cond1 i = 1#1), ∀ a, (k0_off40 v3) a + S1x64x4096.size a ≤ S2x512x4096.size a := fun i v3 k0_hw2 k0_h1 => k0_hw2.2.2.2.2.2.2.2.2.2.2.2.2.2.2.2.2.2.2.2.2.2.2.1 k0_h1
theorem k0_off40_packedbf16 : ∀ (i : grid0.Coords) (v3 : BitVec 32) (k0_hw2 : k0_chk2 i v3), ∀ (k0_h1 : k0_cond1 i = 1#1), (Rect.unit (s := S2x512x4096) (k0_off40 v3) S1x64x4096.size (k0_off40_inb i v3 k0_hw2 k0_h1)).PackedRows (EltTy.packing .bf16) := fun i v3 k0_hw2 k0_h1 => k0_hw2.2.2.2.2.2.2.2.2.2.2.2.2.2.2.2.2.2.2.2.2.2.2.2.1 k0_h1 (k0_off40_inb i v3 k0_hw2 k0_h1)
theorem k0_off41_inb : ∀ (i : grid0.Coords) (v3 : BitVec 32) (k0_hw2 : k0_chk2 i v3), ∀ (k0_h1 : k0_cond1 i = 1#1), ∀ a, (k0_off41 v3) a + S1x512x512.size a ≤ S2x4096x512.size a := fun i v3 k0_hw2 k0_h1 => k0_hw2.2.2.2.2.2.2.2.2.2.2.2.2.2.2.2.2.2.2.2.2.2.2.2.2.1 k0_h1
theorem k0_off41_packedbf16 : ∀ (i : grid0.Coords) (v3 : BitVec 32) (k0_hw2 : k0_chk2 i v3), ∀ (k0_h1 : k0_cond1 i = 1#1), (Rect.unit (s := S2x4096x512) (k0_off41 v3) S1x512x512.size (k0_off41_inb i v3 k0_hw2 k0_h1)).PackedRows (EltTy.packing .bf16) := fun i v3 k0_hw2 k0_h1 => k0_hw2.2.2.2.2.2.2.2.2.2.2.2.2.2.2.2.2.2.2.2.2.2.2.2.2.2.1 k0_h1 (k0_off41_inb i v3 k0_hw2 k0_h1)
theorem k0_off42_inb : ∀ (i : grid0.Coords) (v3 : BitVec 32) (k0_hw2 : k0_chk2 i v3), ∀ (k0_h1 : k0_cond1 i = 1#1), ∀ a, (k0_off42 v3) a + S1x64x4096.size a ≤ S2x512x4096.size a := fun i v3 k0_hw2 k0_h1 => k0_hw2.2.2.2.2.2.2.2.2.2.2.2.2.2.2.2.2.2.2.2.2.2.2.2.2.2.2.1 k0_h1
theorem k0_off42_packedbf16 : ∀ (i : grid0.Coords) (v3 : BitVec 32) (k0_hw2 : k0_chk2 i v3), ∀ (k0_h1 : k0_cond1 i = 1#1), (Rect.unit (s := S2x512x4096) (k0_off42 v3) S1x64x4096.size (k0_off42_inb i v3 k0_hw2 k0_h1)).PackedRows (EltTy.packing .bf16) := fun i v3 k0_hw2 k0_h1 => k0_hw2.2.2.2.2.2.2.2.2.2.2.2.2.2.2.2.2.2.2.2.2.2.2.2.2.2.2.2.1 k0_h1 (k0_off42_inb i v3 k0_hw2 k0_h1)
theorem k0_off43_inb : ∀ (i : grid0.Coords) (v3 : BitVec 32) (k0_hw2 : k0_chk2 i v3), ∀ (k0_h1 : k0_cond1 i = 1#1), ∀ a, (k0_off43 v3) a + S1x512x512.size a ≤ S2x4096x512.size a := fun i v3 k0_hw2 k0_h1 => k0_hw2.2.2.2.2.2.2.2.2.2.2.2.2.2.2.2.2.2.2.2.2.2.2.2.2.2.2.2.2.1 k0_h1
theorem k0_off43_packedbf16 : ∀ (i : grid0.Coords) (v3 : BitVec 32) (k0_hw2 : k0_chk2 i v3), ∀ (k0_h1 : k0_cond1 i = 1#1), (Rect.unit (s := S2x4096x512) (k0_off43 v3) S1x512x512.size (k0_off43_inb i v3 k0_hw2 k0_h1)).PackedRows (EltTy.packing .bf16) := fun i v3 k0_hw2 k0_h1 => k0_hw2.2.2.2.2.2.2.2.2.2.2.2.2.2.2.2.2.2.2.2.2.2.2.2.2.2.2.2.2.2.1 k0_h1 (k0_off43_inb i v3 k0_hw2 k0_h1)
theorem k0_off44_inb : ∀ (i : grid0.Coords) (v3 : BitVec 32) (k0_hw2 : k0_chk2 i v3), ∀ (k0_h1 : k0_cond1 i = 1#1), ∀ a, (k0_off44 v3) a + S1x64x4096.size a ≤ S2x512x4096.size a := fun i v3 k0_hw2 k0_h1 => k0_hw2.2.2.2.2.2.2.2.2.2.2.2.2.2.2.2.2.2.2.2.2.2.2.2.2.2.2.2.2.2.2.1 k0_h1
theorem k0_off44_packedbf16 : ∀ (i : grid0.Coords) (v3 : BitVec 32) (k0_hw2 : k0_chk2 i v3), ∀ (k0_h1 : k0_cond1 i = 1#1), (Rect.unit (s := S2x512x4096) (k0_off44 v3) S1x64x4096.size (k0_off44_inb i v3 k0_hw2 k0_h1)).PackedRows (EltTy.packing .bf16) := fun i v3 k0_hw2 k0_h1 => k0_hw2.2.2.2.2.2.2.2.2.2.2.2.2.2.2.2.2.2.2.2.2.2.2.2.2.2.2.2.2.2.2.2 k0_h1 (k0_off44_inb i v3 k0_hw2 k0_h1)

def k0_off45 (v5 : BitVec 32) : Fin 3 → Nat :=
  let c0_i32_12 : BitVec 32 := 0#32
  let c0_i32_13 : BitVec 32 := 0#32
  ![v5.toNat, 0, 0]
def k0_cond2 (i : grid0.Coords) (v1 : BitVec 32) (v5 : BitVec 32) (v10 : BitVec 32) (v13 : BitVec 32) : BitVec 1 :=
  let arg0 : BitVec 32 := BitVec.ofNat 32 (i 0).val
  let v14 : BitVec 1 := Scalar.cmpi .slt arg0 v13
  let c0_i32 : BitVec 32 := 0#32
  let v6 : BitVec 1 := Scalar.cmpi .eq arg0 c0_i32
  let v11 : BitVec 1 := Scalar.cmpi .ne v10 v1
  let v12 : BitVec 1 := Scalar.ori v6 v11
  let v15 : BitVec 1 := Scalar.andi v14 v12
  let c0_i32_1 : BitVec 32 := 0#32
  let v16 : BitVec 1 := Scalar.cmpi .sge v5 c0_i32_1
  let v17 : BitVec 1 := Scalar.andi v15 v16
  let v21 : BitVec 32 := Scalar.extui v17
  let c0_i32_4 : BitVec 32 := 0#32
  let v22 : BitVec 1 := Scalar.cmpi .ne v21 c0_i32_4
  v22

def k0_off46 (v5 : BitVec 32) : Fin 3 → Nat :=
  let c0_i32_25 : BitVec 32 := 0#32
  let c0_i32_26 : BitVec 32 := 0#32
  ![v5.toNat, 0, 0]
def k0_off47 (v5 : BitVec 32) : Fin 3 → Nat :=
  let c512_i32 : BitVec 32 := 512#32
  let c0_i32_32 : BitVec 32 := 0#32
  ![v5.toNat, 512, 0]
def k0_off48 (v5 : BitVec 32) : Fin 3 → Nat :=
  let c64_i32 : BitVec 32 := 64#32
  let c0_i32_45 : BitVec 32 := 0#32
  ![v5.toNat, 64, 0]
def k0_off49 (v5 : BitVec 32) : Fin 3 → Nat :=
  let c1024_i32 : BitVec 32 := 1024#32
  let c0_i32_51 : BitVec 32 := 0#32
  ![v5.toNat, 1024, 0]
def k0_off50 (v5 : BitVec 32) : Fin 3 → Nat :=
  let c128_i32 : BitVec 32 := 128#32
  let c0_i32_64 : BitVec 32 := 0#32
  ![v5.toNat, 128, 0]
def k0_off51 (v5 : BitVec 32) : Fin 3 → Nat :=
  let c1536_i32 : BitVec 32 := 1536#32
  let c0_i32_69 : BitVec 32 := 0#32
  ![v5.toNat, 1536, 0]
def k0_off52 (v5 : BitVec 32) : Fin 3 → Nat :=
  let c192_i32 : BitVec 32 := 192#32
  let c0_i32_82 : BitVec 32 := 0#32
  ![v5.toNat, 192, 0]
def k0_off53 (v5 : BitVec 32) : Fin 3 → Nat :=
  let c2048_i32 : BitVec 32 := 2048#32
  let c0_i32_87 : BitVec 32 := 0#32
  ![v5.toNat, 2048, 0]
def k0_off54 (v5 : BitVec 32) : Fin 3 → Nat :=
  let c256_i32 : BitVec 32 := 256#32
  let c0_i32_100 : BitVec 32 := 0#32
  ![v5.toNat, 256, 0]
def k0_off55 (v5 : BitVec 32) : Fin 3 → Nat :=
  let c2560_i32 : BitVec 32 := 2560#32
  let c0_i32_105 : BitVec 32 := 0#32
  ![v5.toNat, 2560, 0]
def k0_off56 (v5 : BitVec 32) : Fin 3 → Nat :=
  let c320_i32 : BitVec 32 := 320#32
  let c0_i32_118 : BitVec 32 := 0#32
  ![v5.toNat, 320, 0]
def k0_off57 (v3 : BitVec 32) : Fin 3 → Nat :=
  let v141 : Index := Scalar.indexCast v3
  let c0_121 : Index := 0#32
  let c0_122 : Index := 0#32
  ![v141.toNat, 0, 0]
def k0_off58 (v3 : BitVec 32) : Fin 3 → Nat :=
  let c1_i32_6 : BitVec 32 := 1#32
  let v27 : BitVec 32 := Scalar.subi c1_i32_6 v3
  let v166 : Index := Scalar.indexCast v27
  let c0_147 : Index := 0#32
  let c0_148 : Index := 0#32
  ![v166.toNat, 0, 0]
def k0_off59 (v3 : BitVec 32) : Fin 3 → Nat :=
  let c1_i32_6 : BitVec 32 := 1#32
  let v27 : BitVec 32 := Scalar.subi c1_i32_6 v3
  let v180 : Index := Scalar.indexCast v27
  let c0_157 : Index := 0#32
  let c0_158 : Index := 0#32
  ![v180.toNat, 0, 0]
def k0_off60 (v5 : BitVec 32) : Fin 3 → Nat :=
  let c3072_i32 : BitVec 32 := 3072#32
  let c0_i32_164 : BitVec 32 := 0#32
  ![v5.toNat, 3072, 0]
def k0_off61 (v5 : BitVec 32) : Fin 3 → Nat :=
  let c384_i32 : BitVec 32 := 384#32
  let c0_i32_177 : BitVec 32 := 0#32
  ![v5.toNat, 384, 0]
def k0_off62 (v3 : BitVec 32) : Fin 3 → Nat :=
  let c1_i32_6 : BitVec 32 := 1#32
  let v27 : BitVec 32 := Scalar.subi c1_i32_6 v3
  let v237 : Index := Scalar.indexCast v27
  let c512 : Index := 512#32
  let c0_207 : Index := 0#32
  ![v237.toNat, 512, 0]
def k0_off63 (v3 : BitVec 32) : Fin 3 → Nat :=
  let c1_i32_6 : BitVec 32 := 1#32
  let v27 : BitVec 32 := Scalar.subi c1_i32_6 v3
  let v251 : Index := Scalar.indexCast v27
  let c64 : Index := 64#32
  let c0_216 : Index := 0#32
  ![v251.toNat, 64, 0]
def k0_off64 (v5 : BitVec 32) : Fin 3 → Nat :=
  let c3584_i32 : BitVec 32 := 3584#32
  let c0_i32_222 : BitVec 32 := 0#32
  ![v5.toNat, 3584, 0]
def k0_off65 (v5 : BitVec 32) : Fin 3 → Nat :=
  let c448_i32 : BitVec 32 := 448#32
  let c0_i32_235 : BitVec 32 := 0#32
  ![v5.toNat, 448, 0]
def k0_off66 (v3 : BitVec 32) : Fin 3 → Nat :=
  let v273 : Index := Scalar.indexCast v3
  let c0_236 : Index := 0#32
  let c0_237 : Index := 0#32
  ![v273.toNat, 0, 0]
def k0_off67 (v3 : BitVec 32) : Fin 3 → Nat :=
  let c1_i32_6 : BitVec 32 := 1#32
  let v27 : BitVec 32 := Scalar.subi c1_i32_6 v3
  let v302 : Index := Scalar.indexCast v27
  let c1024 : Index := 1024#32
  let c0_264 : Index := 0#32
  ![v302.toNat, 1024, 0]
def k0_off68 (v3 : BitVec 32) : Fin 3 → Nat :=
  let c1_i32_6 : BitVec 32 := 1#32
  let v27 : BitVec 32 := Scalar.subi c1_i32_6 v3
  let v316 : Index := Scalar.indexCast v27
  let c128 : Index := 128#32
  let c0_273 : Index := 0#32
  ![v316.toNat, 128, 0]
def k0_off69 (v3 : BitVec 32) : Fin 3 → Nat :=
  let c1_i32_6 : BitVec 32 := 1#32
  let v27 : BitVec 32 := Scalar.subi c1_i32_6 v3
  let v341 : Index := Scalar.indexCast v27
  let c1536 : Index := 1536#32
  let c0_297 : Index := 0#32
  ![v341.toNat, 1536, 0]
def k0_off70 (v3 : BitVec 32) : Fin 3 → Nat :=
  let c1_i32_6 : BitVec 32 := 1#32
  let v27 : BitVec 32 := Scalar.subi c1_i32_6 v3
  let v355 : Index := Scalar.indexCast v27
  let c192 : Index := 192#32
  let c0_306 : Index := 0#32
  ![v355.toNat, 192, 0]
def k0_off71 (v3 : BitVec 32) : Fin 3 → Nat :=
  let c1_i32_6 : BitVec 32 := 1#32
  let v27 : BitVec 32 := Scalar.subi c1_i32_6 v3
  let v380 : Index := Scalar.indexCast v27
  let c2048 : Index := 2048#32
  let c0_330 : Index := 0#32
  ![v380.toNat, 2048, 0]
def k0_off72 (v3 : BitVec 32) : Fin 3 → Nat :=
  let c1_i32_6 : BitVec 32 := 1#32
  let v27 : BitVec 32 := Scalar.subi c1_i32_6 v3
  let v394 : Index := Scalar.indexCast v27
  let c256 : Index := 256#32
  let c0_339 : Index := 0#32
  ![v394.toNat, 256, 0]
def k0_off73 (v3 : BitVec 32) : Fin 3 → Nat :=
  let c1_i32_6 : BitVec 32 := 1#32
  let v27 : BitVec 32 := Scalar.subi c1_i32_6 v3
  let v419 : Index := Scalar.indexCast v27
  let c2560 : Index := 2560#32
  let c0_363 : Index := 0#32
  ![v419.toNat, 2560, 0]
def k0_off74 (v3 : BitVec 32) : Fin 3 → Nat :=
  let c1_i32_6 : BitVec 32 := 1#32
  let v27 : BitVec 32 := Scalar.subi c1_i32_6 v3
  let v433 : Index := Scalar.indexCast v27
  let c320 : Index := 320#32
  let c0_372 : Index := 0#32
  ![v433.toNat, 320, 0]
def k0_off75 (v3 : BitVec 32) : Fin 3 → Nat :=
  let c1_i32_6 : BitVec 32 := 1#32
  let v27 : BitVec 32 := Scalar.subi c1_i32_6 v3
  let v458 : Index := Scalar.indexCast v27
  let c3072 : Index := 3072#32
  let c0_397 : Index := 0#32
  ![v458.toNat, 3072, 0]
def k0_off76 (v3 : BitVec 32) : Fin 3 → Nat :=
  let c1_i32_6 : BitVec 32 := 1#32
  let v27 : BitVec 32 := Scalar.subi c1_i32_6 v3
  let v472 : Index := Scalar.indexCast v27
  let c384 : Index := 384#32
  let c0_406 : Index := 0#32
  ![v472.toNat, 384, 0]
def k0_off77 (v3 : BitVec 32) : Fin 3 → Nat :=
  let c1_i32_6 : BitVec 32 := 1#32
  let v27 : BitVec 32 := Scalar.subi c1_i32_6 v3
  let v497 : Index := Scalar.indexCast v27
  let c3584 : Index := 3584#32
  let c0_431 : Index := 0#32
  ![v497.toNat, 3584, 0]
def k0_off78 (v3 : BitVec 32) : Fin 3 → Nat :=
  let c1_i32_6 : BitVec 32 := 1#32
  let v27 : BitVec 32 := Scalar.subi c1_i32_6 v3
  let v511 : Index := Scalar.indexCast v27
  let c448 : Index := 448#32
  let c0_440 : Index := 0#32
  ![v511.toNat, 448, 0]
def k0_off79 (v3 : BitVec 32) : Fin 3 → Nat :=
  let v32 : Index := Scalar.indexCast v3
  let c0_8 : Index := 0#32
  let c0_9 : Index := 0#32
  ![v32.toNat, 0, 0]
def k0_cond3 (i : grid0.Coords) (v1 : BitVec 32) (v5 : BitVec 32) (v10 : BitVec 32) (v13 : BitVec 32) : BitVec 1 :=
  let arg0 : BitVec 32 := BitVec.ofNat 32 (i 0).val
  let v14 : BitVec 1 := Scalar.cmpi .slt arg0 v13
  let c0_i32 : BitVec 32 := 0#32
  let v6 : BitVec 1 := Scalar.cmpi .eq arg0 c0_i32
  let v11 : BitVec 1 := Scalar.cmpi .ne v10 v1
  let v12 : BitVec 1 := Scalar.ori v6 v11
  let v15 : BitVec 1 := Scalar.andi v14 v12
  let c0_i32_1 : BitVec 32 := 0#32
  let v16 : BitVec 1 := Scalar.cmpi .sge v5 c0_i32_1
  let v17 : BitVec 1 := Scalar.andi v15 v16
  let v_true : BitVec 1 := 1#1
  let v23 : BitVec 1 := Scalar.xori v17 v_true
  let v24 : BitVec 1 := Scalar.andi v14 v23
  let v25 : BitVec 32 := Scalar.extui v24
  let c0_i32_5 : BitVec 32 := 0#32
  let v26 : BitVec 1 := Scalar.cmpi .ne v25 c0_i32_5
  v26

def k0_off80 (v3 : BitVec 32) : Fin 3 → Nat :=
  let v50 : Index := Scalar.indexCast v3
  let c0_16 : Index := 0#32
  let c0_17 : Index := 0#32
  ![v50.toNat, 0, 0]

def k0_chk3_0 (i : grid0.Coords) (v1 : BitVec 32) (v3 : BitVec 32) (v5 : BitVec 32) (v10 : BitVec 32) (v13 : BitVec 32) : Prop :=
  (∀ (k0_h2 : k0_cond2 i v1 v5 v10 v13 = 1#1), ∀ a, (k0_off45 v5) a + S1x512x512.size a ≤ S64x4096x512.size a) ∧
  (∀ (k0_h2 : k0_cond2 i v1 v5 v10 v13 = 1#1), ∀ a, (k0_off46 v5) a + S1x64x4096.size a ≤ S64x512x4096.size a) ∧
  (∀ (k0_h2 : k0_cond2 i v1 v5 v10 v13 = 1#1), ∀ a, (k0_off47 v5) a + S1x512x512.size a ≤ S64x4096x512.size a) ∧
  (∀ (k0_h2 : k0_cond2 i v1 v5 v10 v13 = 1#1), ∀ a, (k0_off48 v5) a + S1x64x4096.size a ≤ S64x512x4096.size a) ∧
  (∀ (k0_h2 : k0_cond2 i v1 v5 v10 v13 = 1#1), ∀ a, (k0_off49 v5) a + S1x512x512.size a ≤ S64x4096x512.size a) ∧
  (∀ (k0_h2 : k0_cond2 i v1 v5 v10 v13 = 1#1), ∀ a, (k0_off50 v5) a + S1x64x4096.size a ≤ S64x512x4096.size a) ∧
  (∀ (k0_h2 : k0_cond2 i v1 v5 v10 v13 = 1#1), ∀ a, (k0_off51 v5) a + S1x512x512.size a ≤ S64x4096x512.size a) ∧
  (∀ (k0_h2 : k0_cond2 i v1 v5 v10 v13 = 1#1), ∀ a, (k0_off52 v5) a + S1x64x4096.size a ≤ S64x512x4096.size a) ∧
  (∀ (k0_h2 : k0_cond2 i v1 v5 v10 v13 = 1#1), ∀ a, (k0_off53 v5) a + S1x512x512.size a ≤ S64x4096x512.size a) ∧
  (∀ (k0_h2 : k0_cond2 i v1 v5 v10 v13 = 1#1), ∀ a, (k0_off54 v5) a + S1x64x4096.size a ≤ S64x512x4096.size a) ∧
  (∀ (k0_h2 : k0_cond2 i v1 v5 v10 v13 = 1#1), ∀ a, (k0_off55 v5) a + S1x512x512.size a ≤ S64x4096x512.size a) ∧
  (∀ (k0_h2 : k0_cond2 i v1 v5 v10 v13 = 1#1), ∀ a, (k0_off56 v5) a + S1x64x4096.size a ≤ S64x512x4096.size a) ∧
  (∀ (k0_h2 : k0_cond2 i v1 v5 v10 v13 = 1#1), ∀ a, (k0_off57 v3) a + S1x4096x512.size a ≤ S2x4096x512.size a) ∧
  (∀ (k0_h2 : k0_cond2 i v1 v5 v10 v13 = 1#1), ∀ a, (k0_off58 v3) a + S1x512x512.size a ≤ S2x4096x512.size a) ∧
  (∀ (k0_h2 : k0_cond2 i v1 v5 v10 v13 = 1#1), ∀ (hinb : ∀ a, (k0_off58 v3) a + S1x512x512.size a ≤ S2x4096x512.size a), (Rect.unit (s := S2x4096x512) (k0_off58 v3) S1x512x512.size hinb).PackedRows (EltTy.packing .bf16)) ∧
  (∀ (k0_h2 : k0_cond2 i v1 v5 v10 v13 = 1#1), ∀ a, (k0_off59 v3) a + S1x64x4096.size a ≤ S2x512x4096.size a) ∧
  (∀ (k0_h2 : k0_cond2 i v1 v5 v10 v13 = 1#1), ∀ (hinb : ∀ a, (k0_off59 v3) a + S1x64x4096.size a ≤ S2x512x4096.size a), (Rect.unit (s := S2x512x4096) (k0_off59 v3) S1x64x4096.size hinb).PackedRows (EltTy.packing .bf16)) ∧
  (∀ (k0_h2 : k0_cond2 i v1 v5 v10 v13 = 1#1), ∀ a, (k0_off60 v5) a + S1x512x512.size a ≤ S64x4096x512.size a) ∧
  (∀ (k0_h2 : k0_cond2 i v1 v5 v10 v13 = 1#1), ∀ a, (k0_off61 v5) a + S1x64x4096.size a ≤ S64x512x4096.size a) ∧
  (∀ (k0_h2 : k0_cond2 i v1 v5 v10 v13 = 1#1), ∀ a, (k0_off62 v3) a + S1x512x512.size a ≤ S2x4096x512.size a) ∧
  (∀ (k0_h2 : k0_cond2 i v1 v5 v10 v13 = 1#1), ∀ (hinb : ∀ a, (k0_off62 v3) a + S1x512x512.size a ≤ S2x4096x512.size a), (Rect.unit (s := S2x4096x512) (k0_off62 v3) S1x512x512.size hinb).PackedRows (EltTy.packing .bf16)) ∧
  (∀ (k0_h2 : k0_cond2 i v1 v5 v10 v13 = 1#1), ∀ a, (k0_off63 v3) a + S1x64x4096.size a ≤ S2x512x4096.size a) ∧
  (∀ (k0_h2 : k0_cond2 i v1 v5 v10 v13 = 1#1), ∀ (hinb : ∀ a, (k0_off63 v3) a + S1x64x4096.size a ≤ S2x512x4096.size a), (Rect.unit (s := S2x512x4096) (k0_off63 v3) S1x64x4096.size hinb).PackedRows (EltTy.packing .bf16)) ∧
  (∀ (k0_h2 : k0_cond2 i v1 v5 v10 v13 = 1#1), ∀ a, (k0_off64 v5) a + S1x512x512.size a ≤ S64x4096x512.size a) ∧
  (∀ (k0_h2 : k0_cond2 i v1 v5 v10 v13 = 1#1), ∀ a, (k0_off65 v5) a + S1x64x4096.size a ≤ S64x512x4096.size a) ∧
  (∀ (k0_h2 : k0_cond2 i v1 v5 v10 v13 = 1#1), ∀ a, (k0_off66 v3) a + S1x512x4096.size a ≤ S2x512x4096.size a) ∧
  (∀ (k0_h2 : k0_cond2 i v1 v5 v10 v13 = 1#1), ∀ a, (k0_off67 v3) a + S1x512x512.size a ≤ S2x4096x512.size a) ∧
  (∀ (k0_h2 : k0_cond2 i v1 v5 v10 v13 = 1#1), ∀ (hinb : ∀ a, (k0_off67 v3) a + S1x512x512.size a ≤ S2x4096x512.size a), (Rect.unit (s := S2x4096x512) (k0_off67 v3) S1x512x512.size hinb).PackedRows (EltTy.packing .bf16)) ∧
  (∀ (k0_h2 : k0_cond2 i v1 v5 v10 v13 = 1#1), ∀ a, (k0_off68 v3) a + S1x64x4096.size a ≤ S2x512x4096.size a) ∧
  (∀ (k0_h2 : k0_cond2 i v1 v5 v10 v13 = 1#1), ∀ (hinb : ∀ a, (k0_off68 v3) a + S1x64x4096.size a ≤ S2x512x4096.size a), (Rect.unit (s := S2x512x4096) (k0_off68 v3) S1x64x4096.size hinb).PackedRows (EltTy.packing .bf16)) ∧
  (∀ (k0_h2 : k0_cond2 i v1 v5 v10 v13 = 1#1), ∀ a, (k0_off69 v3) a + S1x512x512.size a ≤ S2x4096x512.size a) ∧
  (∀ (k0_h2 : k0_cond2 i v1 v5 v10 v13 = 1#1), ∀ (hinb : ∀ a, (k0_off69 v3) a + S1x512x512.size a ≤ S2x4096x512.size a), (Rect.unit (s := S2x4096x512) (k0_off69 v3) S1x512x512.size hinb).PackedRows (EltTy.packing .bf16))
def k0_chk3_1 (i : grid0.Coords) (v1 : BitVec 32) (v3 : BitVec 32) (v5 : BitVec 32) (v10 : BitVec 32) (v13 : BitVec 32) : Prop :=
  (∀ (k0_h2 : k0_cond2 i v1 v5 v10 v13 = 1#1), ∀ a, (k0_off70 v3) a + S1x64x4096.size a ≤ S2x512x4096.size a) ∧
  (∀ (k0_h2 : k0_cond2 i v1 v5 v10 v13 = 1#1), ∀ (hinb : ∀ a, (k0_off70 v3) a + S1x64x4096.size a ≤ S2x512x4096.size a), (Rect.unit (s := S2x512x4096) (k0_off70 v3) S1x64x4096.size hinb).PackedRows (EltTy.packing .bf16)) ∧
  (∀ (k0_h2 : k0_cond2 i v1 v5 v10 v13 = 1#1), ∀ a, (k0_off71 v3) a + S1x512x512.size a ≤ S2x4096x512.size a) ∧
  (∀ (k0_h2 : k0_cond2 i v1 v5 v10 v13 = 1#1), ∀ (hinb : ∀ a, (k0_off71 v3) a + S1x512x512.size a ≤ S2x4096x512.size a), (Rect.unit (s := S2x4096x512) (k0_off71 v3) S1x512x512.size hinb).PackedRows (EltTy.packing .bf16)) ∧
  (∀ (k0_h2 : k0_cond2 i v1 v5 v10 v13 = 1#1), ∀ a, (k0_off72 v3) a + S1x64x4096.size a ≤ S2x512x4096.size a) ∧
  (∀ (k0_h2 : k0_cond2 i v1 v5 v10 v13 = 1#1), ∀ (hinb : ∀ a, (k0_off72 v3) a + S1x64x4096.size a ≤ S2x512x4096.size a), (Rect.unit (s := S2x512x4096) (k0_off72 v3) S1x64x4096.size hinb).PackedRows (EltTy.packing .bf16)) ∧
  (∀ (k0_h2 : k0_cond2 i v1 v5 v10 v13 = 1#1), ∀ a, (k0_off73 v3) a + S1x512x512.size a ≤ S2x4096x512.size a) ∧
  (∀ (k0_h2 : k0_cond2 i v1 v5 v10 v13 = 1#1), ∀ (hinb : ∀ a, (k0_off73 v3) a + S1x512x512.size a ≤ S2x4096x512.size a), (Rect.unit (s := S2x4096x512) (k0_off73 v3) S1x512x512.size hinb).PackedRows (EltTy.packing .bf16)) ∧
  (∀ (k0_h2 : k0_cond2 i v1 v5 v10 v13 = 1#1), ∀ a, (k0_off74 v3) a + S1x64x4096.size a ≤ S2x512x4096.size a) ∧
  (∀ (k0_h2 : k0_cond2 i v1 v5 v10 v13 = 1#1), ∀ (hinb : ∀ a, (k0_off74 v3) a + S1x64x4096.size a ≤ S2x512x4096.size a), (Rect.unit (s := S2x512x4096) (k0_off74 v3) S1x64x4096.size hinb).PackedRows (EltTy.packing .bf16)) ∧
  (∀ (k0_h2 : k0_cond2 i v1 v5 v10 v13 = 1#1), ∀ a, (k0_off75 v3) a + S1x512x512.size a ≤ S2x4096x512.size a) ∧
  (∀ (k0_h2 : k0_cond2 i v1 v5 v10 v13 = 1#1), ∀ (hinb : ∀ a, (k0_off75 v3) a + S1x512x512.size a ≤ S2x4096x512.size a), (Rect.unit (s := S2x4096x512) (k0_off75 v3) S1x512x512.size hinb).PackedRows (EltTy.packing .bf16)) ∧
  (∀ (k0_h2 : k0_cond2 i v1 v5 v10 v13 = 1#1), ∀ a, (k0_off76 v3) a + S1x64x4096.size a ≤ S2x512x4096.size a) ∧
  (∀ (k0_h2 : k0_cond2 i v1 v5 v10 v13 = 1#1), ∀ (hinb : ∀ a, (k0_off76 v3) a + S1x64x4096.size a ≤ S2x512x4096.size a), (Rect.unit (s := S2x512x4096) (k0_off76 v3) S1x64x4096.size hinb).PackedRows (EltTy.packing .bf16)) ∧
  (∀ (k0_h2 : k0_cond2 i v1 v5 v10 v13 = 1#1), ∀ a, (k0_off77 v3) a + S1x512x512.size a ≤ S2x4096x512.size a) ∧
  (∀ (k0_h2 : k0_cond2 i v1 v5 v10 v13 = 1#1), ∀ (hinb : ∀ a, (k0_off77 v3) a + S1x512x512.size a ≤ S2x4096x512.size a), (Rect.unit (s := S2x4096x512) (k0_off77 v3) S1x512x512.size hinb).PackedRows (EltTy.packing .bf16)) ∧
  (∀ (k0_h2 : k0_cond2 i v1 v5 v10 v13 = 1#1), ∀ a, (k0_off78 v3) a + S1x64x4096.size a ≤ S2x512x4096.size a) ∧
  (∀ (k0_h2 : k0_cond2 i v1 v5 v10 v13 = 1#1), ∀ (hinb : ∀ a, (k0_off78 v3) a + S1x64x4096.size a ≤ S2x512x4096.size a), (Rect.unit (s := S2x512x4096) (k0_off78 v3) S1x64x4096.size hinb).PackedRows (EltTy.packing .bf16)) ∧
  (∀ (k0_h3 : k0_cond3 i v1 v5 v10 v13 = 1#1), ∀ a, (k0_off79 v3) a + S1x4096x512.size a ≤ S2x4096x512.size a) ∧
  (∀ (k0_h3 : k0_cond3 i v1 v5 v10 v13 = 1#1), ∀ a, (k0_off80 v3) a + S1x512x4096.size a ≤ S2x512x4096.size a)
def k0_chk3 (i : grid0.Coords) (v1 : BitVec 32) (v3 : BitVec 32) (v5 : BitVec 32) (v10 : BitVec 32) (v13 : BitVec 32) : Prop :=
  k0_chk3_0 i v1 v3 v5 v10 v13 ∧
  k0_chk3_1 i v1 v3 v5 v10 v13
theorem k0_off45_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off45 v5) a + S1x512x512.size a ≤ S64x4096x512.size a := fun i v1 v3 v5 v10 v13 k0_hw3 k0_h2 => k0_hw3.1.1 k0_h2
theorem k0_off46_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off46 v5) a + S1x64x4096.size a ≤ S64x512x4096.size a := fun i v1 v3 v5 v10 v13 k0_hw3 k0_h2 => k0_hw3.1.2.1 k0_h2
theorem k0_off47_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off47 v5) a + S1x512x512.size a ≤ S64x4096x512.size a := fun i v1 v3 v5 v10 v13 k0_hw3 k0_h2 => k0_hw3.1.2.2.1 k0_h2
theorem k0_off48_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off48 v5) a + S1x64x4096.size a ≤ S64x512x4096.size a := fun i v1 v3 v5 v10 v13 k0_hw3 k0_h2 => k0_hw3.1.2.2.2.1 k0_h2
theorem k0_off49_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off49 v5) a + S1x512x512.size a ≤ S64x4096x512.size a := fun i v1 v3 v5 v10 v13 k0_hw3 k0_h2 => k0_hw3.1.2.2.2.2.1 k0_h2
theorem k0_off50_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off50 v5) a + S1x64x4096.size a ≤ S64x512x4096.size a := fun i v1 v3 v5 v10 v13 k0_hw3 k0_h2 => k0_hw3.1.2.2.2.2.2.1 k0_h2
theorem k0_off51_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off51 v5) a + S1x512x512.size a ≤ S64x4096x512.size a := fun i v1 v3 v5 v10 v13 k0_hw3 k0_h2 => k0_hw3.1.2.2.2.2.2.2.1 k0_h2
theorem k0_off52_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off52 v5) a + S1x64x4096.size a ≤ S64x512x4096.size a := fun i v1 v3 v5 v10 v13 k0_hw3 k0_h2 => k0_hw3.1.2.2.2.2.2.2.2.1 k0_h2
theorem k0_off53_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off53 v5) a + S1x512x512.size a ≤ S64x4096x512.size a := fun i v1 v3 v5 v10 v13 k0_hw3 k0_h2 => k0_hw3.1.2.2.2.2.2.2.2.2.1 k0_h2
theorem k0_off54_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off54 v5) a + S1x64x4096.size a ≤ S64x512x4096.size a := fun i v1 v3 v5 v10 v13 k0_hw3 k0_h2 => k0_hw3.1.2.2.2.2.2.2.2.2.2.1 k0_h2
theorem k0_off55_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off55 v5) a + S1x512x512.size a ≤ S64x4096x512.size a := fun i v1 v3 v5 v10 v13 k0_hw3 k0_h2 => k0_hw3.1.2.2.2.2.2.2.2.2.2.2.1 k0_h2
theorem k0_off56_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off56 v5) a + S1x64x4096.size a ≤ S64x512x4096.size a := fun i v1 v3 v5 v10 v13 k0_hw3 k0_h2 => k0_hw3.1.2.2.2.2.2.2.2.2.2.2.2.1 k0_h2
theorem k0_off57_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off57 v3) a + S1x4096x512.size a ≤ S2x4096x512.size a := fun i v1 v3 v5 v10 v13 k0_hw3 k0_h2 => k0_hw3.1.2.2.2.2.2.2.2.2.2.2.2.2.1 k0_h2
theorem k0_off58_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off58 v3) a + S1x512x512.size a ≤ S2x4096x512.size a := fun i v1 v3 v5 v10 v13 k0_hw3 k0_h2 => k0_hw3.1.2.2.2.2.2.2.2.2.2.2.2.2.2.1 k0_h2
theorem k0_off58_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x4096x512) (k0_off58 v3) S1x512x512.size (k0_off58_inb i v1 v3 v5 v10 v13 k0_hw3 k0_h2)).PackedRows (EltTy.packing .bf16) := fun i v1 v3 v5 v10 v13 k0_hw3 k0_h2 => k0_hw3.1.2.2.2.2.2.2.2.2.2.2.2.2.2.2.1 k0_h2 (k0_off58_inb i v1 v3 v5 v10 v13 k0_hw3 k0_h2)
theorem k0_off59_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off59 v3) a + S1x64x4096.size a ≤ S2x512x4096.size a := fun i v1 v3 v5 v10 v13 k0_hw3 k0_h2 => k0_hw3.1.2.2.2.2.2.2.2.2.2.2.2.2.2.2.2.1 k0_h2
theorem k0_off59_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x512x4096) (k0_off59 v3) S1x64x4096.size (k0_off59_inb i v1 v3 v5 v10 v13 k0_hw3 k0_h2)).PackedRows (EltTy.packing .bf16) := fun i v1 v3 v5 v10 v13 k0_hw3 k0_h2 => k0_hw3.1.2.2.2.2.2.2.2.2.2.2.2.2.2.2.2.2.1 k0_h2 (k0_off59_inb i v1 v3 v5 v10 v13 k0_hw3 k0_h2)
theorem k0_off60_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off60 v5) a + S1x512x512.size a ≤ S64x4096x512.size a := fun i v1 v3 v5 v10 v13 k0_hw3 k0_h2 => k0_hw3.1.2.2.2.2.2.2.2.2.2.2.2.2.2.2.2.2.2.1 k0_h2
theorem k0_off61_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off61 v5) a + S1x64x4096.size a ≤ S64x512x4096.size a := fun i v1 v3 v5 v10 v13 k0_hw3 k0_h2 => k0_hw3.1.2.2.2.2.2.2.2.2.2.2.2.2.2.2.2.2.2.2.1 k0_h2
theorem k0_off62_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off62 v3) a + S1x512x512.size a ≤ S2x4096x512.size a := fun i v1 v3 v5 v10 v13 k0_hw3 k0_h2 => k0_hw3.1.2.2.2.2.2.2.2.2.2.2.2.2.2.2.2.2.2.2.2.1 k0_h2
theorem k0_off62_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x4096x512) (k0_off62 v3) S1x512x512.size (k0_off62_inb i v1 v3 v5 v10 v13 k0_hw3 k0_h2)).PackedRows (EltTy.packing .bf16) := fun i v1 v3 v5 v10 v13 k0_hw3 k0_h2 => k0_hw3.1.2.2.2.2.2.2.2.2.2.2.2.2.2.2.2.2.2.2.2.2.1 k0_h2 (k0_off62_inb i v1 v3 v5 v10 v13 k0_hw3 k0_h2)
theorem k0_off63_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off63 v3) a + S1x64x4096.size a ≤ S2x512x4096.size a := fun i v1 v3 v5 v10 v13 k0_hw3 k0_h2 => k0_hw3.1.2.2.2.2.2.2.2.2.2.2.2.2.2.2.2.2.2.2.2.2.2.1 k0_h2
theorem k0_off63_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x512x4096) (k0_off63 v3) S1x64x4096.size (k0_off63_inb i v1 v3 v5 v10 v13 k0_hw3 k0_h2)).PackedRows (EltTy.packing .bf16) := fun i v1 v3 v5 v10 v13 k0_hw3 k0_h2 => k0_hw3.1.2.2.2.2.2.2.2.2.2.2.2.2.2.2.2.2.2.2.2.2.2.2.1 k0_h2 (k0_off63_inb i v1 v3 v5 v10 v13 k0_hw3 k0_h2)
theorem k0_off64_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off64 v5) a + S1x512x512.size a ≤ S64x4096x512.size a := fun i v1 v3 v5 v10 v13 k0_hw3 k0_h2 => k0_hw3.1.2.2.2.2.2.2.2.2.2.2.2.2.2.2.2.2.2.2.2.2.2.2.2.1 k0_h2
theorem k0_off65_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off65 v5) a + S1x64x4096.size a ≤ S64x512x4096.size a := fun i v1 v3 v5 v10 v13 k0_hw3 k0_h2 => k0_hw3.1.2.2.2.2.2.2.2.2.2.2.2.2.2.2.2.2.2.2.2.2.2.2.2.2.1 k0_h2
theorem k0_off66_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off66 v3) a + S1x512x4096.size a ≤ S2x512x4096.size a := fun i v1 v3 v5 v10 v13 k0_hw3 k0_h2 => k0_hw3.1.2.2.2.2.2.2.2.2.2.2.2.2.2.2.2.2.2.2.2.2.2.2.2.2.2.1 k0_h2
theorem k0_off67_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off67 v3) a + S1x512x512.size a ≤ S2x4096x512.size a := fun i v1 v3 v5 v10 v13 k0_hw3 k0_h2 => k0_hw3.1.2.2.2.2.2.2.2.2.2.2.2.2.2.2.2.2.2.2.2.2.2.2.2.2.2.2.1 k0_h2
theorem k0_off67_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x4096x512) (k0_off67 v3) S1x512x512.size (k0_off67_inb i v1 v3 v5 v10 v13 k0_hw3 k0_h2)).PackedRows (EltTy.packing .bf16) := fun i v1 v3 v5 v10 v13 k0_hw3 k0_h2 => k0_hw3.1.2.2.2.2.2.2.2.2.2.2.2.2.2.2.2.2.2.2.2.2.2.2.2.2.2.2.2.1 k0_h2 (k0_off67_inb i v1 v3 v5 v10 v13 k0_hw3 k0_h2)
theorem k0_off68_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off68 v3) a + S1x64x4096.size a ≤ S2x512x4096.size a := fun i v1 v3 v5 v10 v13 k0_hw3 k0_h2 => k0_hw3.1.2.2.2.2.2.2.2.2.2.2.2.2.2.2.2.2.2.2.2.2.2.2.2.2.2.2.2.2.1 k0_h2
theorem k0_off68_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x512x4096) (k0_off68 v3) S1x64x4096.size (k0_off68_inb i v1 v3 v5 v10 v13 k0_hw3 k0_h2)).PackedRows (EltTy.packing .bf16) := fun i v1 v3 v5 v10 v13 k0_hw3 k0_h2 => k0_hw3.1.2.2.2.2.2.2.2.2.2.2.2.2.2.2.2.2.2.2.2.2.2.2.2.2.2.2.2.2.2.1 k0_h2 (k0_off68_inb i v1 v3 v5 v10 v13 k0_hw3 k0_h2)
theorem k0_off69_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off69 v3) a + S1x512x512.size a ≤ S2x4096x512.size a := fun i v1 v3 v5 v10 v13 k0_hw3 k0_h2 => k0_hw3.1.2.2.2.2.2.2.2.2.2.2.2.2.2.2.2.2.2.2.2.2.2.2.2.2.2.2.2.2.2.2.1 k0_h2
theorem k0_off69_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x4096x512) (k0_off69 v3) S1x512x512.size (k0_off69_inb i v1 v3 v5 v10 v13 k0_hw3 k0_h2)).PackedRows (EltTy.packing .bf16) := fun i v1 v3 v5 v10 v13 k0_hw3 k0_h2 => k0_hw3.1.2.2.2.2.2.2.2.2.2.2.2.2.2.2.2.2.2.2.2.2.2.2.2.2.2.2.2.2.2.2.2 k0_h2 (k0_off69_inb i v1 v3 v5 v10 v13 k0_hw3 k0_h2)
theorem k0_off70_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off70 v3) a + S1x64x4096.size a ≤ S2x512x4096.size a := fun i v1 v3 v5 v10 v13 k0_hw3 k0_h2 => k0_hw3.2.1 k0_h2
theorem k0_off70_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x512x4096) (k0_off70 v3) S1x64x4096.size (k0_off70_inb i v1 v3 v5 v10 v13 k0_hw3 k0_h2)).PackedRows (EltTy.packing .bf16) := fun i v1 v3 v5 v10 v13 k0_hw3 k0_h2 => k0_hw3.2.2.1 k0_h2 (k0_off70_inb i v1 v3 v5 v10 v13 k0_hw3 k0_h2)
theorem k0_off71_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off71 v3) a + S1x512x512.size a ≤ S2x4096x512.size a := fun i v1 v3 v5 v10 v13 k0_hw3 k0_h2 => k0_hw3.2.2.2.1 k0_h2
theorem k0_off71_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x4096x512) (k0_off71 v3) S1x512x512.size (k0_off71_inb i v1 v3 v5 v10 v13 k0_hw3 k0_h2)).PackedRows (EltTy.packing .bf16) := fun i v1 v3 v5 v10 v13 k0_hw3 k0_h2 => k0_hw3.2.2.2.2.1 k0_h2 (k0_off71_inb i v1 v3 v5 v10 v13 k0_hw3 k0_h2)
theorem k0_off72_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off72 v3) a + S1x64x4096.size a ≤ S2x512x4096.size a := fun i v1 v3 v5 v10 v13 k0_hw3 k0_h2 => k0_hw3.2.2.2.2.2.1 k0_h2
theorem k0_off72_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x512x4096) (k0_off72 v3) S1x64x4096.size (k0_off72_inb i v1 v3 v5 v10 v13 k0_hw3 k0_h2)).PackedRows (EltTy.packing .bf16) := fun i v1 v3 v5 v10 v13 k0_hw3 k0_h2 => k0_hw3.2.2.2.2.2.2.1 k0_h2 (k0_off72_inb i v1 v3 v5 v10 v13 k0_hw3 k0_h2)
theorem k0_off73_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off73 v3) a + S1x512x512.size a ≤ S2x4096x512.size a := fun i v1 v3 v5 v10 v13 k0_hw3 k0_h2 => k0_hw3.2.2.2.2.2.2.2.1 k0_h2
theorem k0_off73_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x4096x512) (k0_off73 v3) S1x512x512.size (k0_off73_inb i v1 v3 v5 v10 v13 k0_hw3 k0_h2)).PackedRows (EltTy.packing .bf16) := fun i v1 v3 v5 v10 v13 k0_hw3 k0_h2 => k0_hw3.2.2.2.2.2.2.2.2.1 k0_h2 (k0_off73_inb i v1 v3 v5 v10 v13 k0_hw3 k0_h2)
theorem k0_off74_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off74 v3) a + S1x64x4096.size a ≤ S2x512x4096.size a := fun i v1 v3 v5 v10 v13 k0_hw3 k0_h2 => k0_hw3.2.2.2.2.2.2.2.2.2.1 k0_h2
theorem k0_off74_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x512x4096) (k0_off74 v3) S1x64x4096.size (k0_off74_inb i v1 v3 v5 v10 v13 k0_hw3 k0_h2)).PackedRows (EltTy.packing .bf16) := fun i v1 v3 v5 v10 v13 k0_hw3 k0_h2 => k0_hw3.2.2.2.2.2.2.2.2.2.2.1 k0_h2 (k0_off74_inb i v1 v3 v5 v10 v13 k0_hw3 k0_h2)
theorem k0_off75_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off75 v3) a + S1x512x512.size a ≤ S2x4096x512.size a := fun i v1 v3 v5 v10 v13 k0_hw3 k0_h2 => k0_hw3.2.2.2.2.2.2.2.2.2.2.2.1 k0_h2
theorem k0_off75_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x4096x512) (k0_off75 v3) S1x512x512.size (k0_off75_inb i v1 v3 v5 v10 v13 k0_hw3 k0_h2)).PackedRows (EltTy.packing .bf16) := fun i v1 v3 v5 v10 v13 k0_hw3 k0_h2 => k0_hw3.2.2.2.2.2.2.2.2.2.2.2.2.1 k0_h2 (k0_off75_inb i v1 v3 v5 v10 v13 k0_hw3 k0_h2)
theorem k0_off76_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off76 v3) a + S1x64x4096.size a ≤ S2x512x4096.size a := fun i v1 v3 v5 v10 v13 k0_hw3 k0_h2 => k0_hw3.2.2.2.2.2.2.2.2.2.2.2.2.2.1 k0_h2
theorem k0_off76_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x512x4096) (k0_off76 v3) S1x64x4096.size (k0_off76_inb i v1 v3 v5 v10 v13 k0_hw3 k0_h2)).PackedRows (EltTy.packing .bf16) := fun i v1 v3 v5 v10 v13 k0_hw3 k0_h2 => k0_hw3.2.2.2.2.2.2.2.2.2.2.2.2.2.2.1 k0_h2 (k0_off76_inb i v1 v3 v5 v10 v13 k0_hw3 k0_h2)
theorem k0_off77_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off77 v3) a + S1x512x512.size a ≤ S2x4096x512.size a := fun i v1 v3 v5 v10 v13 k0_hw3 k0_h2 => k0_hw3.2.2.2.2.2.2.2.2.2.2.2.2.2.2.2.1 k0_h2
theorem k0_off77_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x4096x512) (k0_off77 v3) S1x512x512.size (k0_off77_inb i v1 v3 v5 v10 v13 k0_hw3 k0_h2)).PackedRows (EltTy.packing .bf16) := fun i v1 v3 v5 v10 v13 k0_hw3 k0_h2 => k0_hw3.2.2.2.2.2.2.2.2.2.2.2.2.2.2.2.2.1 k0_h2 (k0_off77_inb i v1 v3 v5 v10 v13 k0_hw3 k0_h2)
theorem k0_off78_inb : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), ∀ a, (k0_off78 v3) a + S1x64x4096.size a ≤ S2x512x4096.size a := fun i v1 v3 v5 v10 v13 k0_hw3 k0_h2 => k0_hw3.2.2.2.2.2.2.2.2.2.2.2.2.2.2.2.2.2.1 k0_h2
theorem k0_off78_packedbf16 : ∀ (i : grid0.Coords) (v1 : BitVec 32) (v3 : BitVec 32) (v5 : BitVec 32) (v10 : BitVec 32) (v13 : BitVec 32) (k0_hw3 : k0_chk3 i v1 v3 v5 v10 v13), ∀ (k0_h2 : k0_cond2 i v1 v5 v10 v13 = 1#1), (Rect.unit (s := S2x512x4096) (k0_off78 v3) S1x64x4096.size (k0_off78_inb i v1 v3 v5 v10 v13 k0_hw3 k0_h2)).PackedRows (EltTy.packing .bf16) := fun i v1 v3 v5 v10 v13 k0_hw3 k0_h2 => k0_hw3.2.2.2.2.2.2.2.2.2.2.2.2.2.2.2.2.2.2.1 k0_h2 (k0_off78_inb i v1 v3 v5 v10 v13 k0_hw3 k0_h2)
theorem k0_off79_inb : ∀ (i : grid0.Coords) (v1 : BitVec 32) (v3 : BitVec 32) (v5 : BitVec 32) (v10 : BitVec 32) (v13 : BitVec 32) (k0_hw3 : k0_chk3 i v1 v3 v5 v10 v13), ∀ (k0_h3 : k0_cond3 i v1 v5 v10 v13 = 1#1), ∀ a, (k0_off79 v3) a + S1x4096x512.size a ≤ S2x4096x512.size a := fun i v1 v3 v5 v10 v13 k0_hw3 k0_h3 => k0_hw3.2.2.2.2.2.2.2.2.2.2.2.2.2.2.2.2.2.2.2.1 k0_h3
theorem k0_off80_inb : ∀ (i : grid0.Coords) (v1 : BitVec 32) (v3 : BitVec 32) (v5 : BitVec 32) (v10 : BitVec 32) (v13 : BitVec 32) (k0_hw3 : k0_chk3 i v1 v3 v5 v10 v13), ∀ (k0_h3 : k0_cond3 i v1 v5 v10 v13 = 1#1), ∀ a, (k0_off80 v3) a + S1x512x4096.size a ≤ S2x512x4096.size a := fun i v1 v3 v5 v10 v13 k0_hw3 k0_h3 => k0_hw3.2.2.2.2.2.2.2.2.2.2.2.2.2.2.2.2.2.2.2.2 k0_h3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 3 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 3 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S32768x2048 : Shape := ⟨2, ![32768, 2048]⟩
abbrev S64 : Shape := ⟨1, ![64]⟩
abbrev S64x4096x512 : Shape := ⟨3, ![64, 4096, 512]⟩
abbrev S64x512x4096 : Shape := ⟨3, ![64, 512, 4096]⟩
abbrev S_ : Shape := ⟨0, ![]⟩
abbrev S128 : Shape := ⟨1, ![128]⟩
abbrev S1x64 : Shape := ⟨2, ![1, 64]⟩
abbrev S128x1 : Shape := ⟨2, ![128, 1]⟩
abbrev S128x64 : Shape := ⟨2, ![128, 64]⟩
abbrev S1 : Shape := ⟨1, ![1]⟩
abbrev S256x2048 : Shape := ⟨2, ![256, 2048]⟩
abbrev S256x4096 : Shape := ⟨2, ![256, 4096]⟩
abbrev S1x4096x512 : Shape := ⟨3, ![1, 4096, 512]⟩
abbrev S4096x512 : Shape := ⟨2, ![4096, 512]⟩
abbrev S256x512 : Shape := ⟨2, ![256, 512]⟩
abbrev S1x512x4096 : Shape := ⟨3, ![1, 512, 4096]⟩
abbrev S512x4096 : Shape := ⟨2, ![512, 4096]⟩

abbrev nBuf : Space → Nat
  | .hbm => 70
  | .vmem => 5
  | .smem => 2
  | _ => 0

abbrev bufTy : (tb : Table) → Fin (tcTables nBuf tb) → BufTy
  | .hbm, ⟨0, _⟩ => ⟨S32768x2048, .i32⟩
  | .hbm, ⟨1, _⟩ => ⟨S64, .i32⟩
  | .hbm, ⟨2, _⟩ => ⟨S64x4096x512, .f32⟩
  | .hbm, ⟨3, _⟩ => ⟨S64x4096x512, .f32⟩
  | .hbm, ⟨4, _⟩ => ⟨S64x512x4096, .f32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S1x64, .i32⟩
  | .hbm, ⟨40, _⟩ => ⟨S128x1, .i32⟩
  | .hbm, ⟨41, _⟩ => ⟨S128x64, .i32⟩
  | .hbm, ⟨42, _⟩ => ⟨S128x64, .i32⟩
  | .hbm, ⟨43, _⟩ => ⟨S128x64, .i1⟩
  | .hbm, ⟨44, _⟩ => ⟨S128x64, .i32⟩
  | .hbm, ⟨45, _⟩ => ⟨S_, .i32⟩
  | .hbm, ⟨46, _⟩ => ⟨S128, .i32⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S1, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i1⟩
  | .hbm, ⟨59, _⟩ => ⟨S1, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i1⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S1, .i32⟩
  | .hbm, ⟨69, _⟩ => ⟨S32768x2048, .i32⟩
  | .local _ .vmem, ⟨0, _⟩ => ⟨S32768x2048, .i32⟩
  | .local _ .vmem, ⟨1, _⟩ => ⟨S64x4096x512, .f32⟩
  | .local _ .vmem, ⟨2, _⟩ => ⟨S64x4096x512, .f32⟩
  | .local _ .vmem, ⟨3, _⟩ => ⟨S64x512x4096, .f32⟩
  | .local _ .vmem, ⟨4, _⟩ => ⟨S32768x2048, .i32⟩
  | .local _ .smem, ⟨0, _⟩ => ⟨S128, .i32⟩
  | .local _ .smem, ⟨1, _⟩ => ⟨S1, .i32⟩
  | _, _ => ⟨S32768x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v21 : Ref sig .tc := ⟨.hbm, 68, rfl⟩
abbrev main_v22 : Ref sig .tc := ⟨.hbm, 69, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg7 : BitVec 32 := Scf.iv c0_i32 c1_i32 k0_t1
  let v1 : Index := Scalar.indexCast arg7
  ![v1.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v3 : BitVec 32 := Scalar.muli arg7 c256_i32
  let v4 : Index := Scalar.indexCast v3
  let c0 : Index := 0#32
  ![v4.toNat, 0]
def k0_off3 (v2 : BitVec 32) : Fin 3 → Nat :=
  let v10 : Index := Scalar.indexCast v2
  let c0_1 : Index := 0#32
  let c0_2 : Index := 0#32
  ![v10.toNat, 0, 0]

def k0_off4 (v2 : BitVec 32) : Fin 3 → Nat :=
  let v30 : Index := Scalar.indexCast v2
  let c0_9 : Index := 0#32
  let c0_10 : Index := 0#32
  ![v30.toNat, 0, 0]

def k0_chk1 (v2 : BitVec 32) : Prop :=
  (∀ a, (k0_off3 v2) a + S1x4096x512.size a ≤ S64x4096x512.size a) ∧
  (∀ a, (k0_off4 v2) a + S1x512x4096.size a ≤ S64x512x4096.size a)
theorem k0_off3_inb : ∀ (v2 : BitVec 32) (k0_hw1 : k0_chk1 v2), ∀ a, (k0_off3 v2) a + S1x4096x512.size a ≤ S64x4096x512.size a := fun v2 k0_hw1 => k0_hw1.1
theorem k0_off4_inb : ∀ (v2 : BitVec 32) (k0_hw1 : k0_chk1 v2), ∀ a, (k0_off4 v2) a + S1x512x4096.size a ≤ S64x512x4096.size a := fun v2 k0_hw1 => k0_hw1.2

def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v3 : BitVec 32 := Scalar.muli arg7 c256_i32
  let v41 : Index := Scalar.indexCast v3
  let c0_13 : Index := 0#32
  ![v41.toNat, 0]
abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x2048 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel2.lean ====
abbrev S8192x4096 : Shape := ⟨2, ![8192, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x4096x4096, .f32⟩
  | .hbm, ⟨2, _⟩ => ⟨S8192x4096, .bf16⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x4096, .f32⟩
  | .hbm, ⟨2, _⟩ => ⟨S4096x4096, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x4096 : Shape := ⟨2, ![8192, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S1x4096x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S1x4096x4096 : Shape := ⟨3, ![1, 4096, 4096]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .f32⟩
  | .hbm, ⟨2, _⟩ => ⟨S1x4096x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S4096x4096, .f32⟩
  | .hbm, ⟨8, _⟩ => ⟨S8192x4096, .f32⟩
  | .hbm, ⟨9, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S8192x2048 : Shape := ⟨2, ![8192, 2048]⟩
abbrev S8192x4096 : Shape := ⟨2, ![8192, 4096]⟩
abbrev S1x4096x4096 : Shape := ⟨3, ![1, 4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S1x4096x4096, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S2048x512, .bf16⟩
  | .local _ .vmem, ⟨13, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c1_i32 : BitVec 32 := 1#32
  let c0_i32_1 : BitVec 32 := 0#32
  ![c0_i32_0.toNat, c1_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x2048 : Shape := ⟨2, ![8192, 2048]⟩
abbrev S8192x4096 : Shape := ⟨2, ![8192, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S1x4096x4096, .f32⟩
  | .hbm, ⟨4, _⟩ => ⟨S8192x2048, .f32⟩
  | .hbm, ⟨5, _⟩ => ⟨S8192x2048, .f32⟩
  | .hbm, ⟨6, _⟩ => ⟨S8192x4096, .f32⟩
  | .hbm, ⟨7, _⟩ => ⟨S4096x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Plan.lean ====
module

public import Idealize.ShloMosaic.Lib.Routing.Words
public import Idealize.ShloMosaic.Lib.Routing.OpsSearch
public import Idealize.ShloMosaic.Lib.Pipeline.Value
public import Idealize.ShloMosaic.Lib.StableHlo.Predicate
public import Idealize.ShloMosaic.Lib.Pointwise.Elementwise

@[expose] public section

set_option maxRecDepth 100000

noncomputable section

namespace Cert.Plan

open Idealize.ShloMosaic Idealize.ShloMosaic.ValueIdx Idealize.ShloMosaic.Routing Idealize.ShloMosaic.WordCmp

/-! ## The tables as the host writes them, over any counts -/

section Terms
variable (hb64 : shape0.BroadcastsInDim (shape1 64) (![] : Fin 0 → Fin (shape1 64).rank))
  (hb128 : shape0.BroadcastsInDim (shape1 128) (![] : Fin 0 → Fin (shape1 128).rank))
  (hb0 : shape0.BroadcastsInDim shape0 (![] : Fin 0 → Fin shape0.rank))
  (hw64 : (shape1 64).ReduceWindows (![64] : Fin 1 → Nat) ![1] ![63] ![0] (shape1 64))
  (hw128 : (shape1 128).ReduceWindows (![128] : Fin 1 → Nat) ![1] ![127] ![0] (shape1 128))
  (hu : 0 < shape0.numel)
  (hr64 : (shape1 64).BroadcastsInDim (shape2 1 64) (![1] : Fin 1 → Fin (shape2 1 64).rank))
  (hr64' : (shape2 1 64).BroadcastsInDim (shape2 128 64) (![0, 1] : Fin 2 → Fin (shape2 128 64).rank))
  (hc64 : (shape1 128).BroadcastsInDim (shape2 128 1) (![0] : Fin 1 → Fin (shape2 128 1).rank))
  (hc64' : (shape2 128 1).BroadcastsInDim (shape2 128 64) (![0, 1] : Fin 2 → Fin (shape2 128 64).rank))
  (hr128 : (shape1 128).BroadcastsInDim (shape2 1 128) (![1] : Fin 1 → Fin (shape2 1 128).rank))
  (hr128' : (shape2 1 128).BroadcastsInDim (shape2 128 128) (![0, 1] : Fin 2 → Fin (shape2 128 128).rank))
  (hc128' : (shape2 128 1).BroadcastsInDim (shape2 128 128) (![0, 1] : Fin 2 → Fin (shape2 128 128).rank))
  (hb128128 : shape0.BroadcastsInDim (shape2 128 128) (![] : Fin 0 → Fin (shape2 128 128).rank))
  (hd64 : (shape2 128 64).ReducesTo [1] (shape1 128)) (hd128 : (shape2 128 128).ReducesTo [1] (shape1 128))
  (h132 : 1 < 32)
  (hb1 : shape0.BroadcastsInDim (shape1 1) (![] : Fin 0 → Fin (shape1 1).rank))
  (hs1 : (shape1 128).Slices ![1] (shape1 127)) (hs0 : (shape1 128).Slices ![0] (shape1 127))
  (hcat : Shape.Concatenates [shape1 1, shape1 127] (shape1 128) 0)

/-- Where each expert's slots end. -/
def ends (c : IVec (shape1 64) 32) : IVec (shape1 64) 32 :=
  Host.reduceWindow IntOp.addi ![64] ![1] ![63] ![0]
    (muli (pyDiv hb64 (subi (addi c (broadcastInDim (shape1 64) ![] hb64 (constantI shape0 32 256#32))) (broadcastInDim (shape1 64) ![] hb64 (constantI shape0 32 1#32)))
      (constantI shape0 32 256#32)) (broadcastInDim (shape1 64) ![] hb64 (constantI shape0 32 256#32)))
    (broadcastInDim shape0 ![] hb0 (constantI shape0 32 0#32)) hw64 hu

/-- The expert of each block. -/
def experts (p : IVec (shape1 64) 32) (b : IVec (shape1 128) 32) : IVec (shape1 128) 32 :=
  minsi (Host.reduce IntOp.addi (extui 32 (cmpi .sle (broadcastInDim (shape2 128 64) ![0, 1] hr64' (broadcastInDim (shape2 1 64) ![1] hr64 p))
      (broadcastInDim (shape2 128 64) ![0, 1] hc64' (broadcastInDim (shape2 128 1) ![0] hc64
        (muli b (broadcastInDim (shape1 128) ![] hb128 (constantI shape0 32 256#32)))))) h132) (constantI shape0 32 0#32) hd64 hu)
    (broadcastInDim (shape1 128) ![] hb128 (constantI shape0 32 63#32))

/-- The next expert, before none is marked. -/
def least (t : IVec (shape1 128) 32) : IVec (shape1 128) 32 :=
  Host.reduce IntOp.minsi
    (select (cmpi .sgt (broadcastInDim (shape2 128 128) ![0, 1] hr128' (broadcastInDim (shape2 1 128) ![1] hr128 t))
        (broadcastInDim (shape2 128 128) ![0, 1] hc128' (broadcastInDim (shape2 128 1) ![0] hc64 t)))
      (broadcastInDim (shape2 128 128) ![0, 1] hr128' (broadcastInDim (shape2 1 128) ![1] hr128 t))
      (broadcastInDim (shape2 128 128) ![] hb128128 (constantI shape0 32 64#32)))
    (constantI shape0 32 2147483647#32) hd128 hu

/-- The next expert of each block, or minus one. -/
def nexts (t : IVec (shape1 128) 32) : IVec (shape1 128) 32 :=
  select (cmpi .eq (least hu hc64 hr128 hr128' hc128' hb128128 hd128 t) (broadcastInDim (shape1 128) ![] hb128 (constantI shape0 32 64#32)))
    (broadcastInDim (shape1 128) ![] hb128 (constantI shape0 32 4294967295#32)) (least hu hc64 hr128 hr128' hc128' hb128128 hd128 t)

/-- Where a new expert begins. -/
def news (t : IVec (shape1 128) 32) : IVec (shape1 128) 32 :=
  concatenate (shape1 128) 0 [⟨shape1 1, broadcastInDim (shape1 1) ![] hb1 (constantI shape0 32 1#32)⟩,
    ⟨shape1 127, extui 32 (cmpi .ne (extractStridedSlice (shape1 127) ![1] t hs1) (extractStridedSlice (shape1 127) ![0] t hs0)) h132⟩] hcat

/-- The set of each block's weights. -/
def sets (t : IVec (shape1 128) 32) : IVec (shape1 128) 32 :=
  pyRem hb128 (subi (Host.reduceWindow IntOp.addi ![128] ![1] ![127] ![0] (news h132 hb1 hs1 hs0 hcat t)
      (broadcastInDim shape0 ![] hb0 (constantI shape0 32 0#32)) hw128 hu)
    (broadcastInDim (shape1 128) ![] hb128 (constantI shape0 32 1#32))) (constantI shape0 32 2#32)

/-! ## What they say -/

/-- The blocks of an expert of `c` rows. -/
def blocks (c : ℕ) : ℕ := (c + 255) / 256

/-- The blocks in use. -/
def total (cN : ℕ → ℕ) : ℕ := ((List.range 64).map fun i => blocks (cN i)).sum

theorem sums (cN : ℕ → ℕ) : ∀ N, ((List.range N).map cN).sum ≤ 256 * ((List.range N).map fun i => blocks (cN i)).sum
    ∧ 256 * ((List.range N).map fun i => blocks (cN i)).sum ≤ ((List.range N).map cN).sum + 255 * N
    ∧ ((List.range N).map fun i => blocks (cN i) * 256).sum = 256 * ((List.range N).map fun i => blocks (cN i)).sum
  | 0 => ⟨Nat.le_refl _, Nat.le_refl _, rfl⟩
  | N + 1 => by
    obtain ⟨h1, h2, h3⟩ := sums cN N
    simp only [List.range_succ, List.map_append, List.map_cons, List.map_nil, List.sum_append, List.sum_cons, List.sum_nil, Nat.add_zero]
    rw [h3]
    unfold blocks at *
    omega

theorem total_bounds (cN : ℕ → ℕ) (h : ((List.range 64).map cN).sum = 16384) : 64 ≤ total cN ∧ total cN ≤ 127 := by
  obtain ⟨h1, h2, -⟩ := sums cN 64
  unfold total
  omega

theorem ends_last (c : IVec (shape1 64) 32) (cN : ℕ → ℕ) (hc : ∀ i : Fin 64, c (ix1 i) = BitVec.ofNat 32 (cN i.val)) (hle : ∀ i, i < 64 → cN i ≤ 16384)
    : ends hb64 hb0 hw64 hu c (ix1 63) = BitVec.ofNat 32 (256 * total cN) := by
  unfold ends
  rw [cumsum1 rfl _ (fun i => blocks (cN i) * 256) ?_ _ (by rw [bc0]; rfl)]
  · refine congrArg (BitVec.ofNat 32) ?_
    exact (sums cN 64).2.2
  · intro i
    have hi := hle i.val i.isLt
    rw [muli_ap, pyDiv_ap hb64 _ _ _ (a := cN i.val + 255) (b := 256) ?_ rfl (by omega) (by decide) (by decide), bc0]
    · exact BitVec.ofNat_mul_ofNat ..
    · rw [subi_ap, addi_ap, bc0, bc0, hc]
      show BitVec.ofNat 32 (cN i.val) + BitVec.ofNat 32 256 - BitVec.ofNat 32 1 = _
      rw [BitVec.ofNat_add_ofNat, ofNat32_sub (by omega)]
      rfl

/-- The expert's number of a block beginning at `b`. -/
def num (p : IVec (shape1 64) 32) (b : ℕ) : ℕ :=
  min (Nat.count (fun q => ∃ h : q < 64, IntOp.cmpi .sle (p (ix1 ⟨q, h⟩)) (BitVec.ofNat 32 (b * 256)) = 1#1) 64) 63

theorem num_le (p : IVec (shape1 64) 32) (b : ℕ) : num p b ≤ 63 := Nat.min_le_right _ _

theorem num_mono (p : IVec (shape1 64) 32) {b b' : ℕ} (h : b ≤ b') (hb : b' < 1024) : num p b ≤ num p b' := by
  unfold num
  refine min_le_min_right _ (Nat.count_mono_left fun q _ ⟨hq, e⟩ => ⟨hq, ?_⟩)
  have key : ∀ (b : ℕ), b < 1024 → (IntOp.cmpi .sle (p (ix1 ⟨q, hq⟩)) (BitVec.ofNat 32 (b * 256)) = 1#1 ↔ (p (ix1 ⟨q, hq⟩)).toInt ≤ (b * 256 : ℕ)) := by
    intro b hb
    have e : (BitVec.ofNat 32 (b * 256)).toInt = (b * 256 : ℕ) := by
      rw [BitVec.toInt_eq_toNat_cond, BitVec.toNat_ofNat]; omega
    rw [← e]
    show BitVec.ofBool (BitVec.sle _ _) = 1#1 ↔ _
    rw [BitVec.sle_eq_decide]
    by_cases hh : (p (ix1 ⟨q, hq⟩)).toInt ≤ (BitVec.ofNat 32 (b * 256)).toInt
    · simp [hh]
    · simp [hh]
  rw [key _ hb]
  rw [key _ (by omega)] at e
  omega

theorem experts_ap (p : IVec (shape1 64) 32) (b : IVec (shape1 128) 32) (bN : ℕ → ℕ) (i : Fin 128)
    (hbN : b (ix1 i) = BitVec.ofNat 32 (bN i.val)) :
    experts hb128 hu hr64 hr64' hc64 hc64' hd64 h132 p b (ix1 i) = BitVec.ofNat 32 (num p (bN i.val)) := by
  unfold experts
  show IntOp.minsi (Host.reduce _ _ _ _ _ _) _ = _
  rw [reduce_count (by decide) _ _ _ _ i (fun q => ∃ h : q < 64, IntOp.cmpi .sle (p (ix1 ⟨q, h⟩)) (BitVec.ofNat 32 (bN i.val * 256)) = 1#1) ?_, bc0]
  · have hc := Nat.count_le (p := fun q => ∃ h : q < 64, IntOp.cmpi .sle (p (ix1 ⟨q, h⟩)) (BitVec.ofNat 32 (bN i.val * 256)) = 1#1) (n := 64)
    unfold num IntOp.minsi
    show (if (BitVec.ofNat 32 _).slt (BitVec.ofNat 32 63) then _ else BitVec.ofNat 32 63) = _
    rw [slt_ofNat32 (by omega) (by decide)]
    split
    · rename_i h; rw [Nat.min_eq_left]; have := of_decide_eq_true h; omega
    · rename_i h; rw [Nat.min_eq_right]; rw [decide_eq_true_eq] at h; omega
  · intro q
    show IntOp.cmpi .sle _ _ = 1#1 ↔ _
    rw [bcCols, bcRows, muli_ap, bc0, hbN]
    rw [show BitVec.ofNat 32 (bN i.val) * constantI shape0 32 256#32 ix0 = BitVec.ofNat 32 (bN i.val * 256) from BitVec.ofNat_mul_ofNat ..]
    exact ⟨fun h => ⟨q.isLt, h⟩, fun ⟨_, h⟩ => h⟩

theorem foldl_min {ι : Type} (l : List ι) (f : ι → ℕ) (hf : ∀ i, f i < 2 ^ 31) (a : ℕ) (ha : a < 2 ^ 31) :
    l.foldl (fun r i => IntOp.minsi r (BitVec.ofNat 32 (f i))) (BitVec.ofNat 32 a) = BitVec.ofNat 32 (l.foldl (fun r i => min r (f i)) a) := by
  induction l generalizing a with
  | nil => rfl
  | cons i l ih =>
    rw [List.foldl_cons, List.foldl_cons, ← ih _ (by have := hf i; omega)]
    refine congrArg (fun v => List.foldl _ v l) ?_
    unfold IntOp.minsi
    rw [slt_ofNat32 ha (hf i)]
    split
    · rename_i h; rw [Nat.min_eq_left]; have := of_decide_eq_true h; omega
    · rename_i h; rw [Nat.min_eq_right]; rw [decide_eq_true_eq] at h; omega

theorem foldl_min_spec {ι : Type} (l : List ι) (f : ι → ℕ) (a : ℕ) :
    l.foldl (fun r i => min r (f i)) a ≤ a ∧ (∀ i ∈ l, l.foldl (fun r i => min r (f i)) a ≤ f i)
      ∧ (l.foldl (fun r i => min r (f i)) a = a ∨ ∃ i ∈ l, l.foldl (fun r i => min r (f i)) a = f i) := by
  induction l generalizing a with
  | nil => exact ⟨Nat.le_refl _, fun _ h => absurd h List.not_mem_nil, Or.inl rfl⟩
  | cons i l ih =>
    obtain ⟨h1, h2, h3⟩ := ih (min a (f i))
    rw [List.foldl_cons]
    refine ⟨by omega, fun j hj => ?_, ?_⟩
    · rcases List.mem_cons.1 hj with rfl | hj
      · omega
      · exact h2 j hj
    · rcases h3 with h3 | ⟨j, hj, h3⟩
      · rcases Nat.le_total a (f i) with h | h
        · exact Or.inl (by omega)
        · exact Or.inr ⟨i, List.mem_cons_self, by omega⟩
      · exact Or.inr ⟨j, List.mem_cons_of_mem _ hj, h3⟩

/-- What block `l` offers block `k` as a next expert. -/
def offer (e : ℕ → ℕ) (k l : ℕ) : ℕ := if e k < e l then e l else 64

theorem least_list (e : ℕ → ℕ) (he : ∀ i, e i ≤ 63) (k : Fin 128) (L : List (shape2 128 128).Idx) (X : (shape2 128 128).Idx → BitVec 32)
    (hX : ∀ i, X i = BitVec.ofNat 32 (offer e (i 0).val (i 1).val)) (hmem : ∀ i, i ∈ L ↔ (i 0).val = k.val) :
    ∃ μ, L.foldl (fun r i => IntOp.minsi r (X i)) (BitVec.ofNat 32 2147483647) = BitVec.ofNat 32 μ ∧ (∀ l, l < 128 → μ ≤ offer e k.val l)
      ∧ ∃ l, l < 128 ∧ μ = offer e k.val l := by
  simp only [hX]
  rw [foldl_min _ (fun i : (shape2 128 128).Idx => offer e (i 0).val (i 1).val) (fun i => by unfold offer; have := he (i 1).val; split <;> omega) _ (by decide)]
  obtain ⟨h1, h2, h3⟩ := foldl_min_spec L (fun i : (shape2 128 128).Idx => offer e (i 0).val (i 1).val) 2147483647
  refine ⟨_, rfl, fun l hl => h2 (ix2 k ⟨l, hl⟩) ((hmem _).2 rfl), ?_⟩
  rcases h3 with h3 | ⟨i, hi, h3⟩
  · exfalso
    have h4 := h2 (ix2 k ⟨0, by decide⟩) ((hmem _).2 rfl)
    have h5 : offer e k.val 0 ≤ 64 := by unfold offer; have := he 0; split <;> omega
    have h6 : offer e ((ix2 k (⟨0, by decide⟩ : Fin 128) : (shape2 128 128).Idx) 0).val ((ix2 k (⟨0, by decide⟩ : Fin 128) : (shape2 128 128).Idx) 1).val ≤ 64 := h5
    rw [h3] at h4
    exact absurd (h4.trans h6) (by decide)
  · have hk := (hmem i).1 hi
    exact ⟨(i 1).val, (i 1).isLt, by rw [h3, hk]⟩

theorem least_ap (t : IVec (shape1 128) 32) (e : ℕ → ℕ) (he : ∀ i, e i ≤ 63) (ht : ∀ i : Fin 128, t (ix1 i) = BitVec.ofNat 32 (e i.val)) (k : Fin 128) :
    ∃ μ, least hu hc64 hr128 hr128' hc128' hb128128 hd128 t (ix1 k) = BitVec.ofNat 32 μ ∧ (∀ l, l < 128 → μ ≤ offer e k.val l)
      ∧ ∃ l, l < 128 ∧ μ = offer e k.val l := by
  have hX : ∀ i : (shape2 128 128).Idx, (select (cmpi .sgt (broadcastInDim (shape2 128 128) ![0, 1] hr128' (broadcastInDim (shape2 1 128) ![1] hr128 t))
        (broadcastInDim (shape2 128 128) ![0, 1] hc128' (broadcastInDim (shape2 128 1) ![0] hc64 t)))
      (broadcastInDim (shape2 128 128) ![0, 1] hr128' (broadcastInDim (shape2 1 128) ![1] hr128 t))
      (broadcastInDim (shape2 128 128) ![] hb128128 (constantI shape0 32 64#32))) i = BitVec.ofNat 32 (offer e (i 0).val (i 1).val) := by
    intro i
    obtain ⟨p, q, rfl⟩ : ∃ p q, i = ix2 p q := ⟨i 0, i 1, eq_ix2 i⟩
    show (if IntOp.cmpi .sgt _ _ = 1 then _ else _) = _
    rw [bcCols, bcRows, bc0, ht, ht]
    have h1 := he p.val
    have h2 := he q.val
    show (if BitVec.ofBool (BitVec.slt (BitVec.ofNat 32 (e p.val)) (BitVec.ofNat 32 (e q.val))) = 1#1 then BitVec.ofNat 32 (e q.val) else BitVec.ofNat 32 64)
      = BitVec.ofNat 32 (if e p.val < e q.val then e q.val else 64)
    rw [slt_ofNat32 (by omega) (by omega)]
    by_cases h : e p.val < e q.val
    · simp [h]
    · simp [h]
  unfold least
  rw [Host.reduce_eq_foldl]
  have hdrop : ∀ i : (shape2 128 128).Idx, hd128.drop i = ix1 k ↔ (i 0).val = k.val := by
    intro i
    constructor
    · intro h
      rw [← hd128.drop_apply_val_of_eq i 0 0, h]
    · intro h
      funext a
      match a with
      | ⟨0, _⟩ => exact Fin.ext ((hd128.drop_apply_val_of_eq i 0 0).trans h)
  have hmem : ∀ i : (shape2 128 128).Idx,
      i ∈ List.filter (fun i => decide (hd128.drop i = ix1 k)) (List.map (shape2 128 128).rowMajor.symm (List.finRange (shape2 128 128).numel)) ↔ (i 0).val = k.val := fun i =>
    ⟨fun h => (hdrop i).1 (of_decide_eq_true (List.mem_filter.1 h).2), fun h =>
      List.mem_filter.2 ⟨List.mem_map.2 ⟨(shape2 128 128).rowMajor i, List.mem_finRange _, Equiv.symm_apply_apply _ _⟩, decide_eq_true ((hdrop i).2 h)⟩⟩
  exact least_list e he k _ _ hX hmem

theorem nexts_ap (t : IVec (shape1 128) 32) (e : ℕ → ℕ) (he : ∀ i, e i ≤ 63) (ht : ∀ i : Fin 128, t (ix1 i) = BitVec.ofNat 32 (e i.val)) (k : Fin 128) :
    ∃ μ, nexts hb128 hu hc64 hr128 hr128' hc128' hb128128 hd128 t (ix1 k) = (if μ = 64 then 4294967295#32 else BitVec.ofNat 32 μ) ∧ μ ≤ 64
      ∧ (∀ l, l < 128 → μ ≤ offer e k.val l) ∧ ∃ l, l < 128 ∧ μ = offer e k.val l := by
  obtain ⟨μ, h1, h2, h3⟩ := least_ap hu hc64 hr128 hr128' hc128' hb128128 hd128 t e he ht k
  have h4 : μ ≤ 64 := by
    have := h2 0 (by decide)
    have h5 : offer e k.val 0 ≤ 64 := by unfold offer; have := he 0; split <;> omega
    omega
  refine ⟨μ, ?_, h4, h2, h3⟩
  unfold nexts
  show (if IntOp.cmpi .eq _ _ = 1 then _ else _) = _
  rw [bc0, bc0, h1]
  show (if IntOp.cmpi .eq (BitVec.ofNat 32 μ) (BitVec.ofNat 32 64) = 1#1 then 4294967295#32 else BitVec.ofNat 32 μ) = _
  refine if_congr ?_ rfl rfl
  rw [StableHlo.Predicate.cmpi_eq_iff]
  constructor
  · intro h
    have := congrArg BitVec.toNat h
    rw [BitVec.toNat_ofNat, BitVec.toNat_ofNat] at this
    omega
  · rintro rfl; rfl

/-- One where block `k` begins a new expert. -/
def nw (e : ℕ → ℕ) (k : ℕ) : ℕ := if k = 0 then 1 else if e k = e (k - 1) then 0 else 1

theorem news_ap (t : IVec (shape1 128) 32) (e : ℕ → ℕ) (he : ∀ i, e i ≤ 63) (ht : ∀ i : Fin 128, t (ix1 i) = BitVec.ofNat 32 (e i.val)) (k : Fin 128) :
    news h132 hb1 hs1 hs0 hcat t (ix1 k) = BitVec.ofNat 32 (nw e k.val) := by
  unfold news
  have hk := k.isLt
  by_cases h0 : k.val = 0
  · rw [concatenate_pair_apply_left 0 _ _ hcat (ix1 k) rfl (ix1 (0 : Fin 1)) (fun b => by match b with | ⟨0, _⟩ => exact h0.symm), bc0]
    unfold nw
    rw [if_pos h0]
    rfl
  · rw [concatenate_pair_apply_right 0 _ _ hcat (ix1 k) rfl rfl (ix1 (⟨k.val - 1, by omega⟩ : Fin 127))
      (fun b hb => absurd (by match b with | ⟨0, _⟩ => rfl) hb) (show k.val - 1 + 1 = k.val by omega)]
    show BitVec.setWidth 32 (IntOp.cmpi .ne (extractStridedSlice (shape1 127) ![1] t hs1 _) (extractStridedSlice (shape1 127) ![0] t hs0 _)) = _
    rw [slice1 1 t hs1 (⟨k.val - 1, by omega⟩ : Fin 127) (show 1 + (k.val - 1) < 128 by omega), slice1 0 t hs0 (⟨k.val - 1, by omega⟩ : Fin 127) (show 0 + (k.val - 1) < 128 by omega), ht, ht]
    unfold nw
    rw [if_neg h0]
    have h1 := he k.val
    have h2 := he (k.val - 1)
    show BitVec.setWidth 32 (IntOp.cmpi .ne (BitVec.ofNat 32 (e (1 + (k.val - 1)))) (BitVec.ofNat 32 (e (0 + (k.val - 1))))) = _
    rw [show 1 + (k.val - 1) = k.val by omega, show 0 + (k.val - 1) = k.val - 1 by omega, WordCmp.cmpi_ne_eq, setWidth_ofBool]
    refine congrArg (BitVec.ofNat 32) ?_
    by_cases h : e k.val = e (k.val - 1)
    · rw [if_pos h, h, if_neg (fun h => h rfl)]
    · rw [if_neg h, if_pos]
      intro h'
      have := congrArg BitVec.toNat h'
      rw [BitVec.toNat_ofNat, BitVec.toNat_ofNat] at this
      omega

/-- The running count of new experts. -/
def run (e : ℕ → ℕ) (k : ℕ) : ℕ := ((List.range (k + 1)).map (nw e)).sum

theorem run_succ (e : ℕ → ℕ) (k : ℕ) : run e (k + 1) = run e k + nw e (k + 1) := by
  unfold run
  rw [List.range_succ, List.map_append, List.sum_append]
  simp

theorem run_bounds (e : ℕ → ℕ) : ∀ k, 1 ≤ run e k ∧ run e k ≤ k + 1
  | 0 => by unfold run; simp [nw]
  | k + 1 => by
    have := run_bounds e k
    rw [run_succ]
    have h : nw e (k + 1) ≤ 1 := by unfold nw; split <;> [skip; split] <;> omega
    omega

theorem sets_ap (t : IVec (shape1 128) 32) (e : ℕ → ℕ) (he : ∀ i, e i ≤ 63) (ht : ∀ i : Fin 128, t (ix1 i) = BitVec.ofNat 32 (e i.val)) (k : Fin 128) :
    sets hb128 hb0 hw128 hu h132 hb1 hs1 hs0 hcat t (ix1 k) = BitVec.ofNat 32 ((run e k.val - 1) % 2) := by
  have hk := k.isLt
  have hr := run_bounds e k.val
  unfold sets
  refine pyRem_ap hb128 _ _ _ ?_ rfl (by omega) (by decide) (by decide)
  rw [subi_ap, cumsum1 rfl _ (nw e) (fun i => news_ap h132 hb1 hs1 hs0 hcat t e he ht i) _ (by rw [bc0]; rfl), bc0]
  exact ofNat32_sub hr.1

variable (hl : (shape1 64).Slices ![63] (shape1 1)) (hsc : (shape1 1).ShapeCasts shape0)

/-- The number of blocks in use. -/
def used (p : IVec (shape1 64) 32) : IVec shape0 32 :=
  pyDiv0 (shapeCast shape0 (extractStridedSlice (shape1 1) ![63] p hl) hsc) (constantI shape0 32 256#32)

theorem used_ap (p : IVec (shape1 64) 32) (n : ℕ) (hn : n ≤ 127) (hp : p (ix1 63) = BitVec.ofNat 32 (256 * n)) : used hl hsc p ix0 = BitVec.ofNat 32 n := by
  unfold used
  rw [pyDiv0_ap _ _ (a := 256 * n) (b := 256) ?_ rfl (by omega) (by decide) (by decide), Nat.mul_div_cancel_left _ (by decide)]
  refine Eq.trans ?_ hp
  refine (shapeCast_apply _ hsc _ (ix1 (0 : Fin 1)) ?_).trans (slice1 63 p hl (0 : Fin 1) (by decide))
  exact Nat.lt_one_iff.1 (Fin.isLt _) |>.trans (Nat.lt_one_iff.1 (Fin.isLt _)).symm

/-- The same, kept a vector of one. -/
def used1 (p : IVec (shape1 64) 32) : IVec (shape1 1) 32 :=
  pyDiv hb1 (extractStridedSlice (shape1 1) ![63] p hl) (constantI shape0 32 256#32)

theorem used1_ap (p : IVec (shape1 64) 32) (n : ℕ) (hn : n ≤ 127) (hp : p (ix1 63) = BitVec.ofNat 32 (256 * n)) : used1 hb1 hl p (ix1 0) = BitVec.ofNat 32 n := by
  unfold used1
  rw [pyDiv_ap hb1 _ _ _ (a := 256 * n) (b := 256) ?_ rfl (by omega) (by decide) (by decide), Nat.mul_div_cancel_left _ (by decide)]
  exact (slice1 63 p hl (0 : Fin 1) (by decide)).trans hp

/-- The block shown at each point. -/
def base (u : IVec shape0 32) : IVec (shape1 128) 32 :=
  minsi (iotaInDim (shape1 128) 32 0) (broadcastInDim (shape1 128) ![] hb128 (subi u (constantI shape0 32 1#32)))

theorem base_ap (u : IVec shape0 32) (n : ℕ) (h1 : 1 ≤ n) (hn : n ≤ 127) (hu : u ix0 = BitVec.ofNat 32 n) (k : Fin 128) :
    base hb128 u (ix1 k) = BitVec.ofNat 32 (min k.val (n - 1)) := by
  have hk := k.isLt
  unfold base
  show IntOp.minsi (BitVec.ofNat 32 k.val) _ = _
  rw [bc0, subi_ap, hu, show constantI shape0 32 1#32 ix0 = BitVec.ofNat 32 1 from rfl, ofNat32_sub h1]
  unfold IntOp.minsi
  rw [slt_ofNat32 (by omega) (by omega)]
  split
  · rename_i h; rw [Nat.min_eq_left]; have := of_decide_eq_true h; omega
  · rename_i h; rw [Nat.min_eq_right]; rw [decide_eq_true_eq] at h; omega

/-- Two neighbouring blocks of one expert. -/
theorem next_same (e : ℕ → ℕ) (k : ℕ) (he : e (k + 1) = e k) {μ ν : ℕ}
    (hμ : ∀ l, l < 128 → μ ≤ offer e k l) (hμ' : ∃ l, l < 128 ∧ μ = offer e k l)
    (hν : ∀ l, l < 128 → ν ≤ offer e (k + 1) l) (hν' : ∃ l, l < 128 ∧ ν = offer e (k + 1) l) : ν = μ := by
  have ho : ∀ l, offer e (k + 1) l = offer e k l := fun l => by unfold offer; rw [he]
  obtain ⟨l, hl, h1⟩ := hμ'
  obtain ⟨l', hl', h2⟩ := hν'
  have h3 := hν l hl
  have h4 := hμ l' hl'
  rw [ho] at h3 h2
  omega

/-- The next expert is the one of the next block, where the expert changes. -/
theorem next_change (e : ℕ → ℕ) (hm : ∀ i j, i ≤ j → j < 128 → e i ≤ e j) (h63 : ∀ i, e i ≤ 63) (k : ℕ) (hk : k + 1 < 128) (he : e (k + 1) ≠ e k) {μ : ℕ}
    (hμ : ∀ l, l < 128 → μ ≤ offer e k l) (hμ' : ∃ l, l < 128 ∧ μ = offer e k l) : μ = e (k + 1) := by
  have h1 := hm k (k + 1) (by omega) hk
  have h2 := hμ (k + 1) hk
  have h3 : offer e k (k + 1) = e (k + 1) := by unfold offer; rw [if_pos (by omega)]
  obtain ⟨l, hl, h4⟩ := hμ'
  have h5 := h63 (k + 1)
  unfold offer at h4
  split at h4
  · rename_i h6
    have : k + 1 ≤ l := by
      by_contra hlt
      have := hm l k (by omega) (by omega)
      omega
    have := hm (k + 1) l this hl
    omega
  · omega

end Terms

end Cert.Plan
-- ==== Proof.Counts.lean ====
module

public import proofs.«01_k».proof.Pre_routed
public import proofs.«01_k».proof.Proof.Plan
public import Idealize.ShloMosaic.Lib.ReduceAll
public import Idealize.ShloMosaic.Lib.Affine

@[expose] public section

set_option maxRecDepth 16384

noncomputable section

namespace Cert.Counts

open Cert.Pre_routed
open Idealize.ShloMosaic Idealize.ShloMosaic.ValueIdx

variable [Cert.Pre_routed.Facts] {F : FTy → Type} [BitOps F]

instance : Subsingleton S_.Idx := ⟨fun a b => funext fun i => i.elim0⟩

theorem le_sum (f : ℕ → ℕ) (B : ℕ) (h : ∀ i, f i ≤ B) (n : ℕ) : ((List.range n).map f).sum ≤ n * B := by
  induction n with
  | zero => simp
  | succ n ih =>
    rw [List.range_succ, List.map_append, List.sum_append, Nat.succ_mul]
    have := h n
    simp only [List.map_cons, List.map_nil, List.sum_cons, List.sum_nil]
    omega

/-- The predicate's three comparisons as facts of the counts. -/
theorem of_pre (x0 : IVec S32768x2048 32) (c : IVec S64 32) (x2 : FVec F S64x4096x512 .f32) (x3 : FVec F S64x4096x512 .f32) (x4 : FVec F S64x512x4096 .f32)
    (h : Cert.Pre_routed.fn x0 c x2 x3 x4 = fun _ => 1#1) :
    ∃ cN : ℕ → ℕ, (∀ i : Fin 64, c (ix1 i) = BitVec.ofNat 32 (cN i.val)) ∧ (∀ i, i < 64 → cN i ≤ 16384) ∧ ((List.range 64).map cN).sum = 16384 := by
  have e := congrFun h ix0
  simp only [Cert.Pre_routed.fn, andi, IntOp.andi_eq_one] at e
  obtain ⟨⟨e1, e2⟩, e3⟩ := e
  refine ⟨fun i => if h : i < 64 then (c (ix1 ⟨i, h⟩)).toNat else 0, ?_⟩
  have hx : ∀ i : Fin 64, c (ix1 i) = BitVec.ofNat 32 (if h : i.val < 64 then (c (ix1 ⟨i.val, h⟩)).toNat else 0) := by
    intro i
    rw [dif_pos i.isLt]
    exact BitVec.eq_of_toNat_eq (by rw [BitVec.toNat_ofNat, Nat.mod_eq_of_lt (c (ix1 i)).isLt])
  have hle : ∀ i, (if h : i < 64 then (c (ix1 ⟨i, h⟩)).toNat else 0) ≤ 16384 := by
    intro i
    by_cases hi : i < 64
    · rw [dif_pos hi]
      have a := Host.reduce_andi_all _ _ _ _ _ e1 (ix1 ⟨i, hi⟩)
      have b := Host.reduce_andi_all _ _ _ _ _ e2 (ix1 ⟨i, hi⟩)
      have a' : (0#32 : BitVec 32).toInt ≤ (c (ix1 ⟨i, hi⟩)).toInt := IntOp.cmpi_sge.1 a
      have b' : (c (ix1 ⟨i, hi⟩)).toInt ≤ (16384#32 : BitVec 32).toInt := IntOp.cmpi_sle.1 b
      have z : (0#32 : BitVec 32).toInt = 0 := by decide
      have z' : (16384#32 : BitVec 32).toInt = 16384 := by decide
      rw [z] at a'; rw [z'] at b'
      rw [BitVec.toInt_eq_toNat_cond] at a' b'
      have := (c (ix1 ⟨i, hi⟩)).isLt
      split at a' <;> omega
    · rw [dif_neg hi]; omega
  refine ⟨hx, fun i _ => hle i, ?_⟩
  have s := Routing.reduce_sum c (fun i => if h : i < 64 then (c (ix1 ⟨i, h⟩)).toNat else 0) hx Facts.reducesTo_S64_S_d0 Facts.h_S_
  have e4 : Host.reduce IntOp.addi c (constantI S_ 32 0#32) Facts.reducesTo_S64_S_d0 Facts.h_S_ ix0 = 16384#32 := IntOp.cmpi_eq.1 e3
  have s2 := congrArg BitVec.toNat (s.symm.trans e4)
  rw [BitVec.toNat_ofNat] at s2
  have b := le_sum _ 16384 hle 64
  have z' : (16384#32 : BitVec 32).toNat = 16384 := by decide
  rw [z'] at s2
  omega

end Cert.Counts

end
-- ==== Proof.Vals.lean ====
module

public import proofs.«01_k».proof.Proof.Gen.Kernel.Skeleton
public import Idealize.ShloMosaic.Lib.Pipeline.FrameBody
public import Idealize.ShloMosaic.Lib.Pipeline.Value
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

local notation "𝕄" => MT nD τ sig Unit (Elt F) ℕ (Pipeline.UD sig nD τ) ℕ

abbrev mWg : Memref sig .tc .hbm S64x4096x512 .f32 := Memref.whole main_arg2
abbrev mWu : Memref sig .tc .hbm S64x4096x512 .f32 := Memref.whole main_arg3
abbrev mWd : Memref sig .tc .hbm S64x512x4096 .f32 := Memref.whole main_arg4
abbrev sGate : Memref sig .tc .vmem S2x4096x512 .bf16 := Memref.whole cc0_scratch0
abbrev sUp : Memref sig .tc .vmem S2x4096x512 .bf16 := Memref.whole cc0_scratch1
abbrev sDown : Memref sig .tc .vmem S2x512x4096 .bf16 := Memref.whole cc0_scratch2
abbrev stG : Memref sig .tc .vmem S6x512x512 .f32 := Memref.whole cc0_scratch3
abbrev stU : Memref sig .tc .vmem S6x512x512 .f32 := Memref.whole cc0_scratch4
abbrev stD : Memref sig .tc .vmem S6x64x4096 .f32 := Memref.whole cc0_scratch5

/-- A memref held whole at contents `f`, at share `q`. -/
abbrev pt (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦{q} f
abbrev bufOf (c : Dev nD) {sp : Space} {S : Shape} {e : EltTy} (M : Memref sig .tc sp S e) : Type := Buf (Elt F) (M.view.loc (c : Thread nD τ))

/-! ## Pieces: a weight block carried from HBM through a staging slot into a weight buffer -/

section Generic
variable {κ : Kind} {sp sp' : Space} {Val : EltTy → Type}

/-- What a whole rectangle reads after a transfer landed in it through a reshaped view: the transfer's words, reindexed. -/
theorem readAt_landed {s s' : Shape} {e : EltTy} (v : View sig κ sp s e) (r : Rect s) (h : s'.numel = r.shape.numel)
    (f : v.ty.Contents Val) (w : s'.Idx → Val e) :
    v.readAt Val r.toLoadRect (((v.slice r).reshape s' h).write Val f w Finset.univ) = fun x => w ((Shape.reshapeEquiv h).symm x) := by
  rw [View.write_reshape_univ]
  exact View.read_write_univ (v := v.slice r) f _

/-- Reading through a reshaped rectangle at a reindexed place is reading at the rectangle's place. -/
theorem read_reshaped {s s' : Shape} {e : EltTy} (v : View sig κ sp s e) (r : Rect s) (h : s'.numel = r.shape.numel)
    (f : v.ty.Contents Val) (x : r.shape.Idx) :
    ((v.slice r).reshape s' h).read Val f ((Shape.reshapeEquiv h).symm x) = v.read Val f (r.emb x) := by
  simp only [View.read_apply, View.emb_reshape]
  simp

end Generic

/-- A place of a weight array: expert `e`, and the two inner coordinates. -/
def ix3 {m n : ℕ} (e : Fin 64) (p : Fin m) (q : Fin n) : (⟨3, ![64, m, n]⟩ : Shape).Idx :=
  Fin.cons e (Fin.cons p (Fin.cons q finZeroElim))

/-- Expert `e`'s gate (or up) weights, rounded to bf16, put into set `s` of the weight buffer `b`. -/
def putG (s : ℕ) (e : Fin 64) (w : S64x4096x512.Idx → F .f32) (b : S2x4096x512.Idx → F .bf16) : S2x4096x512.Idx → F .bf16 :=
  fun y => if (y (0 : Fin 3)).val = s then FloatOps.truncf .bf16 bitsLt_bf16_f32 (w (ix3 e (y (1 : Fin 3)) (y (2 : Fin 3)))) else b y
/-- Expert `e`'s down weights, rounded to bf16, put into set `s` of the weight buffer `b`. -/
def putD (s : ℕ) (e : Fin 64) (w : S64x512x4096.Idx → F .f32) (b : S2x512x4096.Idx → F .bf16) : S2x512x4096.Idx → F .bf16 :=
  fun y => if (y (0 : Fin 3)).val = s then FloatOps.truncf .bf16 bitsLt_bf16_f32 (w (ix3 e (y (1 : Fin 3)) (y (2 : Fin 3)))) else b y

/-- The bf16 rounding of a block, as the body stores it. -/
def cvG (v : Vec F S1x512x512 .f32) : FVec F S1x512x512 .bf16 :=
  shapeCast S1x512x512 (truncf .bf16 (shapeCast S512x512 v shapeCasts_S1x512x512_S512x512) bitsLt_bf16_f32) shapeCasts_S512x512_S1x512x512
def cvD (v : Vec F S1x64x4096 .f32) : FVec F S1x64x4096 .bf16 :=
  shapeCast S1x64x4096 (truncf .bf16 (shapeCast S64x4096 v shapeCasts_S1x64x4096_S64x4096) bitsLt_bf16_f32) shapeCasts_S64x4096_S1x64x4096

theorem cvG_apply (v : Vec F S1x512x512 .f32) (x : S1x512x512.Idx) : cvG v x = FloatOps.truncf .bf16 bitsLt_bf16_f32 (v x) := by
  unfold cvG
  unfold shapeCast
  show FloatOps.truncf .bf16 bitsLt_bf16_f32 (v _) = _
  congr 1
  rw [Shape.reshapeEquiv_reshapeEquiv, Shape.reshapeEquiv_self]
theorem cvD_apply (v : Vec F S1x64x4096 .f32) (x : S1x64x4096.Idx) : cvD v x = FloatOps.truncf .bf16 bitsLt_bf16_f32 (v x) := by
  unfold cvD
  unfold shapeCast
  show FloatOps.truncf .bf16 bitsLt_bf16_f32 (v _) = _
  congr 1
  rw [Shape.reshapeEquiv_reshapeEquiv, Shape.reshapeEquiv_self]

/-- A G piece: the block of rows from `512 * g` of expert `e`, through a staging slot, is the rounded weights there. -/
theorem pieceG {sp : Space} (M : Memref sig .tc .vmem S6x512x512 .f32) (N : Memref sig .tc sp S64x4096x512 .f32)
    (fM : M.view.ty.Contents (Elt F)) (fN : N.view.ty.Contents (Elt F)) (b : S2x4096x512.Idx → F .bf16)
    (g s : ℕ) (e : Fin 64) {o1 o2 o3 : Fin 3 → ℕ}
    (inb1 : ∀ a, o1 a + S1x512x512.size a ≤ S6x512x512.size a) (inb2 : ∀ a, o2 a + S1x512x512.size a ≤ S64x4096x512.size a)
    (inb3 : ∀ a, o3 a + S1x512x512.size a ≤ S2x4096x512.size a)
    (h1 : ∀ a, (Rect.unit (s := S6x512x512) o1 S1x512x512.size inb1).stride a = 1) (h2 : ∀ a, (Rect.unit (s := S64x4096x512) o2 S1x512x512.size inb2).stride a = 1)
    (hq : S1x512x512.Squeezes S512x512)
    (e2 : o2 = ![e.val, 512 * g, 0]) (e3 : o3 = ![s, 512 * g, 0]) (x : S1x512x512.Idx) :
    cvG (M.view.readAt (Elt F) (Rect.unit (s := S6x512x512) o1 S1x512x512.size inb1).toLoadRect
        (((M.slice (Rect.unit (s := S6x512x512) o1 S1x512x512.size inb1) h1).squeeze S512x512 hq).view.write (Elt F) fM
          (ReadAs.same.apply (((N.slice (Rect.unit (s := S64x4096x512) o2 S1x512x512.size inb2) h2).squeeze S512x512 hq).view.read (Elt F) fN)) Finset.univ)) x
      = putG s e (N.view.read (Elt F) fN) b ((Rect.unit (s := S2x4096x512) o3 S1x512x512.size inb3).emb x) := by
  subst e2 e3
  rw [cvG_apply]
  have hA := readAt_landed M.view (Rect.unit (s := S6x512x512) o1 S1x512x512.size inb1) hq.numel_eq fM
    (ReadAs.same.apply (((N.slice (Rect.unit (s := S64x4096x512) ![e.val, 512 * g, 0] S1x512x512.size inb2) h2).squeeze S512x512 hq).view.read (Elt F) fN))
  have hB := read_reshaped N.view (Rect.unit (s := S64x4096x512) ![e.val, 512 * g, 0] S1x512x512.size inb2) hq.numel_eq fN x
  have hx : (x (0 : Fin 3)).val = 0 := by have := (x (0 : Fin 3)).isLt; exact Nat.lt_one_iff.mp this
  have h0 : ((Rect.unit (s := S2x4096x512) ![s, 512 * g, 0] S1x512x512.size inb3).emb x (0 : Fin 3)).val = s := by
    show s + 1 * (x (0 : Fin 3)).val = s
    omega
  unfold putG
  rw [if_pos h0]
  congr 1
  refine (congrFun hA x).trans (Eq.trans hB ?_)
  congr 1
  funext a
  apply Fin.ext
  fin_cases a
  · show e.val + 1 * (x (0 : Fin 3)).val = e.val
    omega
  · rfl
  · rfl

/-- Reading one staging slot passes over a transfer that landed in another. -/
theorem skipG (M : Memref sig .tc .vmem S6x512x512 .f32) (f : M.view.ty.Contents (Elt F)) {o o' : Fin 3 → ℕ}
    {inb : ∀ a, o a + S1x512x512.size a ≤ S6x512x512.size a} {inb' : ∀ a, o' a + S1x512x512.size a ≤ S6x512x512.size a}
    {h' : ∀ a, (Rect.unit (s := S6x512x512) o' S1x512x512.size inb').stride a = 1} {hq : S1x512x512.Squeezes S512x512} {w : S512x512.Idx → F .f32} (hne : o 0 ≠ o' 0) :
    M.view.readAt (Elt F) (Rect.unit (s := S6x512x512) o S1x512x512.size inb).toLoadRect
        (((M.slice (Rect.unit (s := S6x512x512) o' S1x512x512.size inb') h').squeeze S512x512 hq).view.write (Elt F) f w Finset.univ)
      = M.view.readAt (Elt F) (Rect.unit (s := S6x512x512) o S1x512x512.size inb).toLoadRect f := by
  have hw : ((M.slice (Rect.unit (s := S6x512x512) o' S1x512x512.size inb') h').squeeze S512x512 hq).view.write (Elt F) f w Finset.univ
      = (M.view.slice (Rect.unit (s := S6x512x512) o' S1x512x512.size inb')).write (Elt F) f (fun x => w ((Shape.reshapeEquiv hq.numel_eq).symm x)) Finset.univ :=
    View.write_reshape_univ ..
  rw [hw]
  funext x
  refine View.read_slice_write_of_not_mem (v := M.view) (Rect.unit (s := S6x512x512) o' S1x512x512.size inb') _ _ _ ?_
  rw [Rect.map_emb_univ, Rect.mem_set_unit]
  intro hm
  have h0 := hm (0 : Fin 3)
  have hx : (x (0 : Fin 3)).val < 1 := (x (0 : Fin 3)).isLt
  have h1 : o' 0 ≤ o 0 + 1 * (x (0 : Fin 3)).val := h0.1
  have h2 : o 0 + 1 * (x (0 : Fin 3)).val < o' 0 + 1 := h0.2
  omega
/-- One G piece of the rounded weights, newest in a list of stores, read at a place. -/
theorem stepG (c : Dev nD) (b : bufOf (F := F) c sGate) (s : ℕ) (e : Fin 64) (w : S64x4096x512.Idx → F .f32) (k : ℕ)
    {o : Fin 3 → ℕ} {inb : ∀ a, o a + S1x512x512.size a ≤ S2x4096x512.size a} {q : S1x512x512.Idx → F .bf16} (ho : o = ![s, 512 * k, 0])
    (hq : ∀ x : S1x512x512.Idx, q x = putG s e w b ((Rect.unit (s := S2x4096x512) o S1x512x512.size inb).emb x)) (L : List (View.Piece (Elt F) S2x4096x512 .bf16)) (y : S2x4096x512.Idx) :
    sGate.view.read (Elt F) (sGate.view.writes (Elt F) b (⟨Rect.unit (s := S2x4096x512) o S1x512x512.size inb, q⟩ :: L)) y
      = if (y (0 : Fin 3)).val = s ∧ 512 * k ≤ (y (1 : Fin 3)).val ∧ (y (1 : Fin 3)).val < 512 * k + 512 then putG s e w b y
        else sGate.view.read (Elt F) (sGate.view.writes (Elt F) b L) y := by
  subst ho
  have hy2 : (y (2 : Fin 3)).val < 512 := (y (2 : Fin 3)).isLt
  split_ifs with h
  · have hm : y ∈ (Rect.unit (s := S2x4096x512) ![s, 512 * k, 0] S1x512x512.size inb).set := by
      rw [Rect.mem_set_unit]
      intro a
      fin_cases a
      · exact ⟨le_of_eq h.1.symm, by show (y (0 : Fin 3)).val < s + 1; omega⟩
      · exact h.2
      · exact ⟨Nat.zero_le _, by show (y (2 : Fin 3)).val < 0 + 512; omega⟩
    obtain ⟨x, hx⟩ := (Rect.unit (s := S2x4096x512) ![s, 512 * k, 0] S1x512x512.size inb).exists_idx_of_mem hm
    have hx' : (Rect.unit (s := S2x4096x512) ![s, 512 * k, 0] S1x512x512.size inb).emb x = y := hx
    rw [← hx', View.read_writes_cons_emb]
    exact hq x
  · refine View.read_writes_cons_miss sGate.view b _ L y fun hm => h ?_
    replace hm : y ∈ (Rect.unit (s := S2x4096x512) ![s, 512 * k, 0] S1x512x512.size inb).set := hm
    rw [Rect.mem_set_unit] at hm
    have h0 := hm (0 : Fin 3)
    have h1 := hm (1 : Fin 3)
    have h2 : s ≤ (y (0 : Fin 3)).val := h0.1
    have h3 : (y (0 : Fin 3)).val < s + 1 := h0.2
    exact ⟨by omega, h1.1, h1.2⟩

/-- Eight G pieces that are the rounded weights leave them in set `s`, and the other set as it was. -/
theorem putG_of_pieces (c : Dev nD) (b : bufOf (F := F) c sGate) (s : ℕ) (e : Fin 64) (w : S64x4096x512.Idx → F .f32)
    {o0 o1 o2 o3 o4 o5 o6 o7 : Fin 3 → ℕ}
    {i0 : ∀ a, o0 a + S1x512x512.size a ≤ S2x4096x512.size a} {i1 : ∀ a, o1 a + S1x512x512.size a ≤ S2x4096x512.size a} {i2 : ∀ a, o2 a + S1x512x512.size a ≤ S2x4096x512.size a} {i3 : ∀ a, o3 a + S1x512x512.size a ≤ S2x4096x512.size a} {i4 : ∀ a, o4 a + S1x512x512.size a ≤ S2x4096x512.size a} {i5 : ∀ a, o5 a + S1x512x512.size a ≤ S2x4096x512.size a} {i6 : ∀ a, o6 a + S1x512x512.size a ≤ S2x4096x512.size a} {i7 : ∀ a, o7 a + S1x512x512.size a ≤ S2x4096x512.size a}
    {q0 q1 q2 q3 q4 q5 q6 q7 : S1x512x512.Idx → F .bf16}
    (ho0 : o0 = ![s, 512 * 0, 0]) (ho1 : o1 = ![s, 512 * 1, 0]) (ho2 : o2 = ![s, 512 * 2, 0]) (ho3 : o3 = ![s, 512 * 3, 0]) (ho4 : o4 = ![s, 512 * 4, 0]) (ho5 : o5 = ![s, 512 * 5, 0]) (ho6 : o6 = ![s, 512 * 6, 0]) (ho7 : o7 = ![s, 512 * 7, 0])
    (hq0 : ∀ x : S1x512x512.Idx, q0 x = putG s e w b ((Rect.unit (s := S2x4096x512) o0 S1x512x512.size i0).emb x))
    (hq1 : ∀ x : S1x512x512.Idx, q1 x = putG s e w b ((Rect.unit (s := S2x4096x512) o1 S1x512x512.size i1).emb x))
    (hq2 : ∀ x : S1x512x512.Idx, q2 x = putG s e w b ((Rect.unit (s := S2x4096x512) o2 S1x512x512.size i2).emb x))
    (hq3 : ∀ x : S1x512x512.Idx, q3 x = putG s e w b ((Rect.unit (s := S2x4096x512) o3 S1x512x512.size i3).emb x))
    (hq4 : ∀ x : S1x512x512.Idx, q4 x = putG s e w b ((Rect.unit (s := S2x4096x512) o4 S1x512x512.size i4).emb x))
    (hq5 : ∀ x : S1x512x512.Idx, q5 x = putG s e w b ((Rect.unit (s := S2x4096x512) o5 S1x512x512.size i5).emb x))
    (hq6 : ∀ x : S1x512x512.Idx, q6 x = putG s e w b ((Rect.unit (s := S2x4096x512) o6 S1x512x512.size i6).emb x))
    (hq7 : ∀ x : S1x512x512.Idx, q7 x = putG s e w b ((Rect.unit (s := S2x4096x512) o7 S1x512x512.size i7).emb x)) :
    sGate.view.writes (Elt F) b [⟨Rect.unit (s := S2x4096x512) o7 S1x512x512.size i7, q7⟩, ⟨Rect.unit (s := S2x4096x512) o6 S1x512x512.size i6, q6⟩, ⟨Rect.unit (s := S2x4096x512) o5 S1x512x512.size i5, q5⟩, ⟨Rect.unit (s := S2x4096x512) o4 S1x512x512.size i4, q4⟩, ⟨Rect.unit (s := S2x4096x512) o3 S1x512x512.size i3, q3⟩, ⟨Rect.unit (s := S2x4096x512) o2 S1x512x512.size i2, q2⟩, ⟨Rect.unit (s := S2x4096x512) o1 S1x512x512.size i1, q1⟩, ⟨Rect.unit (s := S2x4096x512) o0 S1x512x512.size i0, q0⟩] = putG s e w b := by
  refine (show ∀ f : S2x4096x512.Idx → F .bf16, (∀ y, sGate.view.read (Elt F) f y = putG s e w b y) → f = putG s e w b from fun f h => funext h) _ fun y => ?_
  have hy : (y (1 : Fin 3)).val < 4096 := (y (1 : Fin 3)).isLt
  rw [stepG c b s e w 7 ho7 hq7]
  rw [stepG c b s e w 6 ho6 hq6]
  rw [stepG c b s e w 5 ho5 hq5]
  rw [stepG c b s e w 4 ho4 hq4]
  rw [stepG c b s e w 3 ho3 hq3]
  rw [stepG c b s e w 2 ho2 hq2]
  rw [stepG c b s e w 1 ho1 hq1]
  rw [stepG c b s e w 0 ho0 hq0]
  split_ifs with g7 g6 g5 g4 g3 g2 g1 g0
  · rfl
  · rfl
  · rfl
  · rfl
  · rfl
  · rfl
  · rfl
  · rfl
  · have h : ¬ (y (0 : Fin 3)).val = s := fun h => by
      clear hq0 hq1 hq2 hq3 hq4 hq5 hq6 hq7
      simp only [h, true_and] at g7 g6 g5 g4 g3 g2 g1 g0
      omega
    unfold putG
    rw [if_neg h]
    rfl

/-- Reading set `s'` of a weight buffer after pieces stored in another set `s` reads what was there before. -/
theorem missG {s s' : ℕ} (hs : s ≠ s') (c : Dev nD) (b : bufOf (F := F) c sGate) {o : Fin 3 → ℕ} {sz : Fin 3 → ℕ}
    (inb : ∀ a, o a + sz a ≤ S2x4096x512.size a) (ho : o 0 = s') (hsz : sz 0 = 1) (L : List (View.Piece (Elt F) S2x4096x512 .bf16))
    (hL : ∀ p ∈ L, p.1.off (0 : Fin 3) = s ∧ p.1.size (0 : Fin 3) = 1 ∧ p.1.stride (0 : Fin 3) = 1) :
    sGate.view.readAt (Elt F) (Rect.unit (s := S2x4096x512) o sz inb).toLoadRect (sGate.view.writes (Elt F) b L)
      = sGate.view.readAt (Elt F) (Rect.unit (s := S2x4096x512) o sz inb).toLoadRect b := by
  funext x
  refine (View.read_writes_apply_of_forall_not_mem sGate.view b _ L ?_)
  intro p hp
  obtain ⟨h1, h2, h3⟩ := hL p hp
  have hx : (x (0 : Fin 3)).val < sz 0 := (x (0 : Fin 3)).isLt
  refine p.1.not_mem_set_of_axis _ (0 : Fin 3) s 1 h1 h3 h2 ?_
  have : ((Rect.unit (s := S2x4096x512) o sz inb).toLoadRect.idx x (0 : Fin 3)).val = o 0 + 1 * (x (0 : Fin 3)).val := rfl
  rw [this]
  omega

/-- A D piece: the block of rows from `64 * g` of expert `e`, through a staging slot, is the rounded weights there. -/
theorem pieceD {sp : Space} (M : Memref sig .tc .vmem S6x64x4096 .f32) (N : Memref sig .tc sp S64x512x4096 .f32)
    (fM : M.view.ty.Contents (Elt F)) (fN : N.view.ty.Contents (Elt F)) (b : S2x512x4096.Idx → F .bf16)
    (g s : ℕ) (e : Fin 64) {o1 o2 o3 : Fin 3 → ℕ}
    (inb1 : ∀ a, o1 a + S1x64x4096.size a ≤ S6x64x4096.size a) (inb2 : ∀ a, o2 a + S1x64x4096.size a ≤ S64x512x4096.size a)
    (inb3 : ∀ a, o3 a + S1x64x4096.size a ≤ S2x512x4096.size a)
    (h1 : ∀ a, (Rect.unit (s := S6x64x4096) o1 S1x64x4096.size inb1).stride a = 1) (h2 : ∀ a, (Rect.unit (s := S64x512x4096) o2 S1x64x4096.size inb2).stride a = 1)
    (hq : S1x64x4096.Squeezes S64x4096)
    (e2 : o2 = ![e.val, 64 * g, 0]) (e3 : o3 = ![s, 64 * g, 0]) (x : S1x64x4096.Idx) :
    cvD (M.view.readAt (Elt F) (Rect.unit (s := S6x64x4096) o1 S1x64x4096.size inb1).toLoadRect
        (((M.slice (Rect.unit (s := S6x64x4096) o1 S1x64x4096.size inb1) h1).squeeze S64x4096 hq).view.write (Elt F) fM
          (ReadAs.same.apply (((N.slice (Rect.unit (s := S64x512x4096) o2 S1x64x4096.size inb2) h2).squeeze S64x4096 hq).view.read (Elt F) fN)) Finset.univ)) x
      = putD s e (N.view.read (Elt F) fN) b ((Rect.unit (s := S2x512x4096) o3 S1x64x4096.size inb3).emb x) := by
  subst e2 e3
  rw [cvD_apply]
  have hA := readAt_landed M.view (Rect.unit (s := S6x64x4096) o1 S1x64x4096.size inb1) hq.numel_eq fM
    (ReadAs.same.apply (((N.slice (Rect.unit (s := S64x512x4096) ![e.val, 64 * g, 0] S1x64x4096.size inb2) h2).squeeze S64x4096 hq).view.read (Elt F) fN))
  have hB := read_reshaped N.view (Rect.unit (s := S64x512x4096) ![e.val, 64 * g, 0] S1x64x4096.size inb2) hq.numel_eq fN x
  have hx : (x (0 : Fin 3)).val = 0 := by have := (x (0 : Fin 3)).isLt; exact Nat.lt_one_iff.mp this
  have h0 : ((Rect.unit (s := S2x512x4096) ![s, 64 * g, 0] S1x64x4096.size inb3).emb x (0 : Fin 3)).val = s := by
    show s + 1 * (x (0 : Fin 3)).val = s
    omega
  unfold putD
  rw [if_pos h0]
  congr 1
  refine (congrFun hA x).trans (Eq.trans hB ?_)
  congr 1
  funext a
  apply Fin.ext
  fin_cases a
  · show e.val + 1 * (x (0 : Fin 3)).val = e.val
    omega
  · rfl
  · rfl

/-- Reading one staging slot passes over a transfer that landed in another. -/
theorem skipD (M : Memref sig .tc .vmem S6x64x4096 .f32) (f : M.view.ty.Contents (Elt F)) {o o' : Fin 3 → ℕ}
    {inb : ∀ a, o a + S1x64x4096.size a ≤ S6x64x4096.size a} {inb' : ∀ a, o' a + S1x64x4096.size a ≤ S6x64x4096.size a}
    {h' : ∀ a, (Rect.unit (s := S6x64x4096) o' S1x64x4096.size inb').stride a = 1} {hq : S1x64x4096.Squeezes S64x4096} {w : S64x4096.Idx → F .f32} (hne : o 0 ≠ o' 0) :
    M.view.readAt (Elt F) (Rect.unit (s := S6x64x4096) o S1x64x4096.size inb).toLoadRect
        (((M.slice (Rect.unit (s := S6x64x4096) o' S1x64x4096.size inb') h').squeeze S64x4096 hq).view.write (Elt F) f w Finset.univ)
      = M.view.readAt (Elt F) (Rect.unit (s := S6x64x4096) o S1x64x4096.size inb).toLoadRect f := by
  have hw : ((M.slice (Rect.unit (s := S6x64x4096) o' S1x64x4096.size inb') h').squeeze S64x4096 hq).view.write (Elt F) f w Finset.univ
      = (M.view.slice (Rect.unit (s := S6x64x4096) o' S1x64x4096.size inb')).write (Elt F) f (fun x => w ((Shape.reshapeEquiv hq.numel_eq).symm x)) Finset.univ :=
    View.write_reshape_univ ..
  rw [hw]
  funext x
  refine View.read_slice_write_of_not_mem (v := M.view) (Rect.unit (s := S6x64x4096) o' S1x64x4096.size inb') _ _ _ ?_
  rw [Rect.map_emb_univ, Rect.mem_set_unit]
  intro hm
  have h0 := hm (0 : Fin 3)
  have hx : (x (0 : Fin 3)).val < 1 := (x (0 : Fin 3)).isLt
  have h1 : o' 0 ≤ o 0 + 1 * (x (0 : Fin 3)).val := h0.1
  have h2 : o 0 + 1 * (x (0 : Fin 3)).val < o' 0 + 1 := h0.2
  omega
/-- One D piece of the rounded weights, newest in a list of stores, read at a place. -/
theorem stepD (c : Dev nD) (b : bufOf (F := F) c sDown) (s : ℕ) (e : Fin 64) (w : S64x512x4096.Idx → F .f32) (k : ℕ)
    {o : Fin 3 → ℕ} {inb : ∀ a, o a + S1x64x4096.size a ≤ S2x512x4096.size a} {q : S1x64x4096.Idx → F .bf16} (ho : o = ![s, 64 * k, 0])
    (hq : ∀ x : S1x64x4096.Idx, q x = putD s e w b ((Rect.unit (s := S2x512x4096) o S1x64x4096.size inb).emb x)) (L : List (View.Piece (Elt F) S2x512x4096 .bf16)) (y : S2x512x4096.Idx) :
    sDown.view.read (Elt F) (sDown.view.writes (Elt F) b (⟨Rect.unit (s := S2x512x4096) o S1x64x4096.size inb, q⟩ :: L)) y
      = if (y (0 : Fin 3)).val = s ∧ 64 * k ≤ (y (1 : Fin 3)).val ∧ (y (1 : Fin 3)).val < 64 * k + 64 then putD s e w b y
        else sDown.view.read (Elt F) (sDown.view.writes (Elt F) b L) y := by
  subst ho
  have hy2 : (y (2 : Fin 3)).val < 4096 := (y (2 : Fin 3)).isLt
  split_ifs with h
  · have hm : y ∈ (Rect.unit (s := S2x512x4096) ![s, 64 * k, 0] S1x64x4096.size inb).set := by
      rw [Rect.mem_set_unit]
      intro a
      fin_cases a
      · exact ⟨le_of_eq h.1.symm, by show (y (0 : Fin 3)).val < s + 1; omega⟩
      · exact h.2
      · exact ⟨Nat.zero_le _, by show (y (2 : Fin 3)).val < 0 + 4096; omega⟩
    obtain ⟨x, hx⟩ := (Rect.unit (s := S2x512x4096) ![s, 64 * k, 0] S1x64x4096.size inb).exists_idx_of_mem hm
    have hx' : (Rect.unit (s := S2x512x4096) ![s, 64 * k, 0] S1x64x4096.size inb).emb x = y := hx
    rw [← hx', View.read_writes_cons_emb]
    exact hq x
  · refine View.read_writes_cons_miss sDown.view b _ L y fun hm => h ?_
    replace hm : y ∈ (Rect.unit (s := S2x512x4096) ![s, 64 * k, 0] S1x64x4096.size inb).set := hm
    rw [Rect.mem_set_unit] at hm
    have h0 := hm (0 : Fin 3)
    have h1 := hm (1 : Fin 3)
    have h2 : s ≤ (y (0 : Fin 3)).val := h0.1
    have h3 : (y (0 : Fin 3)).val < s + 1 := h0.2
    exact ⟨by omega, h1.1, h1.2⟩

/-- Eight D pieces that are the rounded weights leave them in set `s`, and the other set as it was. -/
theorem putD_of_pieces (c : Dev nD) (b : bufOf (F := F) c sDown) (s : ℕ) (e : Fin 64) (w : S64x512x4096.Idx → F .f32)
    {o0 o1 o2 o3 o4 o5 o6 o7 : Fin 3 → ℕ}
    {i0 : ∀ a, o0 a + S1x64x4096.size a ≤ S2x512x4096.size a} {i1 : ∀ a, o1 a + S1x64x4096.size a ≤ S2x512x4096.size a} {i2 : ∀ a, o2 a + S1x64x4096.size a ≤ S2x512x4096.size a} {i3 : ∀ a, o3 a + S1x64x4096.size a ≤ S2x512x4096.size a} {i4 : ∀ a, o4 a + S1x64x4096.size a ≤ S2x512x4096.size a} {i5 : ∀ a, o5 a + S1x64x4096.size a ≤ S2x512x4096.size a} {i6 : ∀ a, o6 a + S1x64x4096.size a ≤ S2x512x4096.size a} {i7 : ∀ a, o7 a + S1x64x4096.size a ≤ S2x512x4096.size a}
    {q0 q1 q2 q3 q4 q5 q6 q7 : S1x64x4096.Idx → F .bf16}
    (ho0 : o0 = ![s, 64 * 0, 0]) (ho1 : o1 = ![s, 64 * 1, 0]) (ho2 : o2 = ![s, 64 * 2, 0]) (ho3 : o3 = ![s, 64 * 3, 0]) (ho4 : o4 = ![s, 64 * 4, 0]) (ho5 : o5 = ![s, 64 * 5, 0]) (ho6 : o6 = ![s, 64 * 6, 0]) (ho7 : o7 = ![s, 64 * 7, 0])
    (hq0 : ∀ x : S1x64x4096.Idx, q0 x = putD s e w b ((Rect.unit (s := S2x512x4096) o0 S1x64x4096.size i0).emb x))
    (hq1 : ∀ x : S1x64x4096.Idx, q1 x = putD s e w b ((Rect.unit (s := S2x512x4096) o1 S1x64x4096.size i1).emb x))
    (hq2 : ∀ x : S1x64x4096.Idx, q2 x = putD s e w b ((Rect.unit (s := S2x512x4096) o2 S1x64x4096.size i2).emb x))
    (hq3 : ∀ x : S1x64x4096.Idx, q3 x = putD s e w b ((Rect.unit (s := S2x512x4096) o3 S1x64x4096.size i3).emb x))
    (hq4 : ∀ x : S1x64x4096.Idx, q4 x = putD s e w b ((Rect.unit (s := S2x512x4096) o4 S1x64x4096.size i4).emb x))
    (hq5 : ∀ x : S1x64x4096.Idx, q5 x = putD s e w b ((Rect.unit (s := S2x512x4096) o5 S1x64x4096.size i5).emb x))
    (hq6 : ∀ x : S1x64x4096.Idx, q6 x = putD s e w b ((Rect.unit (s := S2x512x4096) o6 S1x64x4096.size i6).emb x))
    (hq7 : ∀ x : S1x64x4096.Idx, q7 x = putD s e w b ((Rect.unit (s := S2x512x4096) o7 S1x64x4096.size i7).emb x)) :
    sDown.view.writes (Elt F) b [⟨Rect.unit (s := S2x512x4096) o7 S1x64x4096.size i7, q7⟩, ⟨Rect.unit (s := S2x512x4096) o6 S1x64x4096.size i6, q6⟩, ⟨Rect.unit (s := S2x512x4096) o5 S1x64x4096.size i5, q5⟩, ⟨Rect.unit (s := S2x512x4096) o4 S1x64x4096.size i4, q4⟩, ⟨Rect.unit (s := S2x512x4096) o3 S1x64x4096.size i3, q3⟩, ⟨Rect.unit (s := S2x512x4096) o2 S1x64x4096.size i2, q2⟩, ⟨Rect.unit (s := S2x512x4096) o1 S1x64x4096.size i1, q1⟩, ⟨Rect.unit (s := S2x512x4096) o0 S1x64x4096.size i0, q0⟩] = putD s e w b := by
  refine (show ∀ f : S2x512x4096.Idx → F .bf16, (∀ y, sDown.view.read (Elt F) f y = putD s e w b y) → f = putD s e w b from fun f h => funext h) _ fun y => ?_
  have hy : (y (1 : Fin 3)).val < 512 := (y (1 : Fin 3)).isLt
  rw [stepD c b s e w 7 ho7 hq7]
  rw [stepD c b s e w 6 ho6 hq6]
  rw [stepD c b s e w 5 ho5 hq5]
  rw [stepD c b s e w 4 ho4 hq4]
  rw [stepD c b s e w 3 ho3 hq3]
  rw [stepD c b s e w 2 ho2 hq2]
  rw [stepD c b s e w 1 ho1 hq1]
  rw [stepD c b s e w 0 ho0 hq0]
  split_ifs with g7 g6 g5 g4 g3 g2 g1 g0
  · rfl
  · rfl
  · rfl
  · rfl
  · rfl
  · rfl
  · rfl
  · rfl
  · have h : ¬ (y (0 : Fin 3)).val = s := fun h => by
      clear hq0 hq1 hq2 hq3 hq4 hq5 hq6 hq7
      simp only [h, true_and] at g7 g6 g5 g4 g3 g2 g1 g0
      omega
    unfold putD
    rw [if_neg h]
    rfl

/-- Reading set `s'` of a weight buffer after pieces stored in another set `s` reads what was there before. -/
theorem missD {s s' : ℕ} (hs : s ≠ s') (c : Dev nD) (b : bufOf (F := F) c sDown) {o : Fin 3 → ℕ} {sz : Fin 3 → ℕ}
    (inb : ∀ a, o a + sz a ≤ S2x512x4096.size a) (ho : o 0 = s') (hsz : sz 0 = 1) (L : List (View.Piece (Elt F) S2x512x4096 .bf16))
    (hL : ∀ p ∈ L, p.1.off (0 : Fin 3) = s ∧ p.1.size (0 : Fin 3) = 1 ∧ p.1.stride (0 : Fin 3) = 1) :
    sDown.view.readAt (Elt F) (Rect.unit (s := S2x512x4096) o sz inb).toLoadRect (sDown.view.writes (Elt F) b L)
      = sDown.view.readAt (Elt F) (Rect.unit (s := S2x512x4096) o sz inb).toLoadRect b := by
  funext x
  refine (View.read_writes_apply_of_forall_not_mem sDown.view b _ L ?_)
  intro p hp
  obtain ⟨h1, h2, h3⟩ := hL p hp
  have hx : (x (0 : Fin 3)).val < sz 0 := (x (0 : Fin 3)).isLt
  refine p.1.not_mem_set_of_axis _ (0 : Fin 3) s 1 h1 h3 h2 ?_
  have : ((Rect.unit (s := S2x512x4096) o sz inb).toLoadRect.idx x (0 : Fin 3)).val = o 0 + 1 * (x (0 : Fin 3)).val := rfl
  rw [this]
  omega
/-- One G piece of the rounded weights, newest in a list of stores, read at a place. -/
theorem stepGU (c : Dev nD) (b : bufOf (F := F) c sUp) (s : ℕ) (e : Fin 64) (w : S64x4096x512.Idx → F .f32) (k : ℕ)
    {o : Fin 3 → ℕ} {inb : ∀ a, o a + S1x512x512.size a ≤ S2x4096x512.size a} {q : S1x512x512.Idx → F .bf16} (ho : o = ![s, 512 * k, 0])
    (hq : ∀ x : S1x512x512.Idx, q x = putG s e w b ((Rect.unit (s := S2x4096x512) o S1x512x512.size inb).emb x)) (L : List (View.Piece (Elt F) S2x4096x512 .bf16)) (y : S2x4096x512.Idx) :
    sUp.view.read (Elt F) (sUp.view.writes (Elt F) b (⟨Rect.unit (s := S2x4096x512) o S1x512x512.size inb, q⟩ :: L)) y
      = if (y (0 : Fin 3)).val = s ∧ 512 * k ≤ (y (1 : Fin 3)).val ∧ (y (1 : Fin 3)).val < 512 * k + 512 then putG s e w b y
        else sUp.view.read (Elt F) (sUp.view.writes (Elt F) b L) y := by
  subst ho
  have hy2 : (y (2 : Fin 3)).val < 512 := (y (2 : Fin 3)).isLt
  split_ifs with h
  · have hm : y ∈ (Rect.unit (s := S2x4096x512) ![s, 512 * k, 0] S1x512x512.size inb).set := by
      rw [Rect.mem_set_unit]
      intro a
      fin_cases a
      · exact ⟨le_of_eq h.1.symm, by show (y (0 : Fin 3)).val < s + 1; omega⟩
      · exact h.2
      · exact ⟨Nat.zero_le _, by show (y (2 : Fin 3)).val < 0 + 512; omega⟩
    obtain ⟨x, hx⟩ := (Rect.unit (s := S2x4096x512) ![s, 512 * k, 0] S1x512x512.size inb).exists_idx_of_mem hm
    have hx' : (Rect.unit (s := S2x4096x512) ![s, 512 * k, 0] S1x512x512.size inb).emb x = y := hx
    rw [← hx', View.read_writes_cons_emb]
    exact hq x
  · refine View.read_writes_cons_miss sUp.view b _ L y fun hm => h ?_
    replace hm : y ∈ (Rect.unit (s := S2x4096x512) ![s, 512 * k, 0] S1x512x512.size inb).set := hm
    rw [Rect.mem_set_unit] at hm
    have h0 := hm (0 : Fin 3)
    have h1 := hm (1 : Fin 3)
    have h2 : s ≤ (y (0 : Fin 3)).val := h0.1
    have h3 : (y (0 : Fin 3)).val < s + 1 := h0.2
    exact ⟨by omega, h1.1, h1.2⟩

/-- Eight G pieces that are the rounded weights leave them in set `s`, and the other set as it was. -/
theorem putG_of_piecesU (c : Dev nD) (b : bufOf (F := F) c sUp) (s : ℕ) (e : Fin 64) (w : S64x4096x512.Idx → F .f32)
    {o0 o1 o2 o3 o4 o5 o6 o7 : Fin 3 → ℕ}
    {i0 : ∀ a, o0 a + S1x512x512.size a ≤ S2x4096x512.size a} {i1 : ∀ a, o1 a + S1x512x512.size a ≤ S2x4096x512.size a} {i2 : ∀ a, o2 a + S1x512x512.size a ≤ S2x4096x512.size a} {i3 : ∀ a, o3 a + S1x512x512.size a ≤ S2x4096x512.size a} {i4 : ∀ a, o4 a + S1x512x512.size a ≤ S2x4096x512.size a} {i5 : ∀ a, o5 a + S1x512x512.size a ≤ S2x4096x512.size a} {i6 : ∀ a, o6 a + S1x512x512.size a ≤ S2x4096x512.size a} {i7 : ∀ a, o7 a + S1x512x512.size a ≤ S2x4096x512.size a}
    {q0 q1 q2 q3 q4 q5 q6 q7 : S1x512x512.Idx → F .bf16}
    (ho0 : o0 = ![s, 512 * 0, 0]) (ho1 : o1 = ![s, 512 * 1, 0]) (ho2 : o2 = ![s, 512 * 2, 0]) (ho3 : o3 = ![s, 512 * 3, 0]) (ho4 : o4 = ![s, 512 * 4, 0]) (ho5 : o5 = ![s, 512 * 5, 0]) (ho6 : o6 = ![s, 512 * 6, 0]) (ho7 : o7 = ![s, 512 * 7, 0])
    (hq0 : ∀ x : S1x512x512.Idx, q0 x = putG s e w b ((Rect.unit (s := S2x4096x512) o0 S1x512x512.size i0).emb x))
    (hq1 : ∀ x : S1x512x512.Idx, q1 x = putG s e w b ((Rect.unit (s := S2x4096x512) o1 S1x512x512.size i1).emb x))
    (hq2 : ∀ x : S1x512x512.Idx, q2 x = putG s e w b ((Rect.unit (s := S2x4096x512) o2 S1x512x512.size i2).emb x))
    (hq3 : ∀ x : S1x512x512.Idx, q3 x = putG s e w b ((Rect.unit (s := S2x4096x512) o3 S1x512x512.size i3).emb x))
    (hq4 : ∀ x : S1x512x512.Idx, q4 x = putG s e w b ((Rect.unit (s := S2x4096x512) o4 S1x512x512.size i4).emb x))
    (hq5 : ∀ x : S1x512x512.Idx, q5 x = putG s e w b ((Rect.unit (s := S2x4096x512) o5 S1x512x512.size i5).emb x))
    (hq6 : ∀ x : S1x512x512.Idx, q6 x = putG s e w b ((Rect.unit (s := S2x4096x512) o6 S1x512x512.size i6).emb x))
    (hq7 : ∀ x : S1x512x512.Idx, q7 x = putG s e w b ((Rect.unit (s := S2x4096x512) o7 S1x512x512.size i7).emb x)) :
    sUp.view.writes (Elt F) b [⟨Rect.unit (s := S2x4096x512) o7 S1x512x512.size i7, q7⟩, ⟨Rect.unit (s := S2x4096x512) o6 S1x512x512.size i6, q6⟩, ⟨Rect.unit (s := S2x4096x512) o5 S1x512x512.size i5, q5⟩, ⟨Rect.unit (s := S2x4096x512) o4 S1x512x512.size i4, q4⟩, ⟨Rect.unit (s := S2x4096x512) o3 S1x512x512.size i3, q3⟩, ⟨Rect.unit (s := S2x4096x512) o2 S1x512x512.size i2, q2⟩, ⟨Rect.unit (s := S2x4096x512) o1 S1x512x512.size i1, q1⟩, ⟨Rect.unit (s := S2x4096x512) o0 S1x512x512.size i0, q0⟩] = putG s e w b := by
  refine (show ∀ f : S2x4096x512.Idx → F .bf16, (∀ y, sUp.view.read (Elt F) f y = putG s e w b y) → f = putG s e w b from fun f h => funext h) _ fun y => ?_
  have hy : (y (1 : Fin 3)).val < 4096 := (y (1 : Fin 3)).isLt
  rw [stepGU c b s e w 7 ho7 hq7]
  rw [stepGU c b s e w 6 ho6 hq6]
  rw [stepGU c b s e w 5 ho5 hq5]
  rw [stepGU c b s e w 4 ho4 hq4]
  rw [stepGU c b s e w 3 ho3 hq3]
  rw [stepGU c b s e w 2 ho2 hq2]
  rw [stepGU c b s e w 1 ho1 hq1]
  rw [stepGU c b s e w 0 ho0 hq0]
  split_ifs with g7 g6 g5 g4 g3 g2 g1 g0
  · rfl
  · rfl
  · rfl
  · rfl
  · rfl
  · rfl
  · rfl
  · rfl
  · have h : ¬ (y (0 : Fin 3)).val = s := fun h => by
      clear hq0 hq1 hq2 hq3 hq4 hq5 hq6 hq7
      simp only [h, true_and] at g7 g6 g5 g4 g3 g2 g1 g0
      omega
    unfold putG
    rw [if_neg h]
    rfl

/-- Reading set `s'` of a weight buffer after pieces stored in another set `s` reads what was there before. -/
theorem missGU {s s' : ℕ} (hs : s ≠ s') (c : Dev nD) (b : bufOf (F := F) c sUp) {o : Fin 3 → ℕ} {sz : Fin 3 → ℕ}
    (inb : ∀ a, o a + sz a ≤ S2x4096x512.size a) (ho : o 0 = s') (hsz : sz 0 = 1) (L : List (View.Piece (Elt F) S2x4096x512 .bf16))
    (hL : ∀ p ∈ L, p.1.off (0 : Fin 3) = s ∧ p.1.size (0 : Fin 3) = 1 ∧ p.1.stride (0 : Fin 3) = 1) :
    sUp.view.readAt (Elt F) (Rect.unit (s := S2x4096x512) o sz inb).toLoadRect (sUp.view.writes (Elt F) b L)
      = sUp.view.readAt (Elt F) (Rect.unit (s := S2x4096x512) o sz inb).toLoadRect b := by
  funext x
  refine (View.read_writes_apply_of_forall_not_mem sUp.view b _ L ?_)
  intro p hp
  obtain ⟨h1, h2, h3⟩ := hL p hp
  have hx : (x (0 : Fin 3)).val < sz 0 := (x (0 : Fin 3)).isLt
  refine p.1.not_mem_set_of_axis _ (0 : Fin 3) s 1 h1 h3 h2 ?_
  have : ((Rect.unit (s := S2x4096x512) o sz inb).toLoadRect.idx x (0 : Fin 3)).val = o 0 + 1 * (x (0 : Fin 3)).val := rfl
  rw [this]
  omega

theorem rd_lt_G {s : ℕ} (hs : s < 2) (x : S1x4096x512.Idx) (a : Fin 3) : (![s, 0, 0] : Fin 3 → ℕ) a + 1 * (x a).val < S2x4096x512.size a := by
  have h0 : (x (0 : Fin 3)).val < 1 := (x (0 : Fin 3)).isLt
  have h1 : (x (1 : Fin 3)).val < 4096 := (x (1 : Fin 3)).isLt
  have h2 : (x (2 : Fin 3)).val < 512 := (x (2 : Fin 3)).isLt
  fin_cases a
  · show s + 1 * (x (0 : Fin 3)).val < 2
    omega
  · show 0 + 1 * (x (1 : Fin 3)).val < 4096
    omega
  · show 0 + 1 * (x (2 : Fin 3)).val < 512
    omega
theorem rd_lt_D {s : ℕ} (hs : s < 2) (x : S1x512x4096.Idx) (a : Fin 3) : (![s, 0, 0] : Fin 3 → ℕ) a + 1 * (x a).val < S2x512x4096.size a := by
  have h0 : (x (0 : Fin 3)).val < 1 := (x (0 : Fin 3)).isLt
  have h1 : (x (1 : Fin 3)).val < 512 := (x (1 : Fin 3)).isLt
  have h2 : (x (2 : Fin 3)).val < 4096 := (x (2 : Fin 3)).isLt
  fin_cases a
  · show s + 1 * (x (0 : Fin 3)).val < 2
    omega
  · show 0 + 1 * (x (1 : Fin 3)).val < 512
    omega
  · show 0 + 1 * (x (2 : Fin 3)).val < 4096
    omega

/-- Set `s` of a weight buffer, as a body's load of the set reads it. -/
def rdG (s : ℕ) (hs : s < 2) (b : S2x4096x512.Idx → F .bf16) : Vec F S1x4096x512 .bf16 :=
  fun x => b (fun a => ⟨(![s, 0, 0] : Fin 3 → ℕ) a + 1 * (x a).val, rd_lt_G hs x a⟩)
/-- Set `s` of the down-weight buffer, as a body's load of the set reads it. -/
def rdD (s : ℕ) (hs : s < 2) (b : S2x512x4096.Idx → F .bf16) : Vec F S1x512x4096 .bf16 :=
  fun x => b (fun a => ⟨(![s, 0, 0] : Fin 3 → ℕ) a + 1 * (x a).val, rd_lt_D hs x a⟩)

/-- The block a step stores: its rows of the input through its expert, over what the output block held. -/
def outBlock {c : Dev nD} (arg5 arg9 : Memref sig .tc .vmem S256x2048 .i32) (fx : bufOf (F := F) c arg5) (fy : bufOf (F := F) c arg9)
    (g u : Vec F S1x4096x512 .bf16) (d : Vec F S1x512x4096 .bf16) : bufOf (F := F) c arg9 :=
  arg9.view.writes (Elt F) fy [⟨Rect.unit (s := S256x2048) ![0, 0] S256x2048.size inb_S256x2048_S256x2048_0_0,
    k0_pay4 (arg5.view.readAt (Elt F) (Rect.unit (s := S256x2048) ![0, 0] S256x2048.size inb_S256x2048_S256x2048_0_0).toLoadRect fx) g u d⟩]

end Cert.Kernel.Hand
-- ==== Proof.Load.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

local notation "𝕄" => MT nD τ sig Unit (Elt F) ℕ (Pipeline.UD sig nD τ) ℕ

set_option maxHeartbeats 4000000 in
/-- The first step's load of its expert's weights, the branch of the body as printed. -/
def loadFirst (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg6 : Memref sig .tc .hbm S64x4096x512 .f32) (harg6 : arg6.IsWhole) (arg7 : Memref sig .tc .hbm S64x4096x512 .f32) (harg7 : arg7.IsWhole) (arg8 : Memref sig .tc .hbm S64x512x4096 .f32) (harg8 : arg8.IsWhole) (arg9 : Memref sig .tc .vmem S256x2048 .i32) (harg9 : arg9.IsWhole) (arg10 : Memref sig .tc .vmem S2x4096x512 .bf16) (harg10 : arg10.IsWhole) (arg11 : Memref sig .tc .vmem S2x4096x512 .bf16) (harg11 : arg11.IsWhole) (arg12 : Memref sig .tc .vmem S2x512x4096 .bf16) (harg12 : arg12.IsWhole) (arg13 : Memref sig .tc .vmem S6x512x512 .f32) (harg13 : arg13.IsWhole) (arg14 : Memref sig .tc .vmem S6x512x512 .f32) (harg14 : arg14.IsWhole) (arg15 : Memref sig .tc .vmem S6x64x4096 .f32) (harg15 : arg15.IsWhole) (arg16 : DmaSems sig S3x6) (v1 : BitVec 32) (k0_hw1 : k0_chk1 i v1) (v3 : BitVec 32) (k0_hw2 : k0_chk2 i v3) (k0_h1 : k0_cond1 i = 1#1) : Prog (TpuEff nD τ sig (Elt F) Λ₀ .tc) PUnit := do
    k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    let v155 : FVec F S512x512 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1 v155
    k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    let v353 : FVec F S512x512 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1 v353
    k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    let ⟨v439, v441⟩ : Σ' (v439 : FVec F S64x4096 .bf16), Vec F S1x64x4096 .bf16 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1 v439 v441
    let v469 : Vec F S1x512x512 .f32 ← Prog.lift (.load arg14 (Rect.unit (s := S6x512x512) ![1, 0, 0] S1x512x512.size inb_S6x512x512_S1x512x512_1_0_0).toLoadRect (View.loadsAt_vmem h_S1x512x512))
    let v473 : Vec F S1x512x512 .bf16 ← Prog.lift (.load arg11 (Rect.unit (s := S2x4096x512) (k0_off43 v3) S1x512x512.size (k0_off43_inb i v3 k0_hw2 k0_h1)).toLoadRect (View.loadsAt_vmem h_S1x512x512))
    Prog.lift (.store arg11 (Rect.unit (s := S2x4096x512) (k0_off43 v3) S1x512x512.size (k0_off43_inb i v3 k0_hw2 k0_h1)) (k0_pay1 v469) Finset.univ (View.stores_vmem h_S1x512x512 (harg11.storeExact_slice rfl _ (k0_off43_packedbf16 i v3 k0_hw2 k0_h1)) (fun _ => rfl)) (.inl rfl))
    let v476 : Vec F S1x64x4096 .f32 ← Prog.lift (.load arg15 (Rect.unit (s := S6x64x4096) ![1, 0, 0] S1x64x4096.size inb_S6x64x4096_S1x64x4096_1_0_0).toLoadRect (View.loadsAt_vmem h_S1x64x4096))
    let v480 : Vec F S1x64x4096 .bf16 ← Prog.lift (.load arg12 (Rect.unit (s := S2x512x4096) (k0_off44 v3) S1x64x4096.size (k0_off44_inb i v3 k0_hw2 k0_h1)).toLoadRect (View.loadsAt_vmem h_S1x64x4096))
    Prog.lift (.store arg12 (Rect.unit (s := S2x512x4096) (k0_off44 v3) S1x64x4096.size (k0_off44_inb i v3 k0_hw2 k0_h1)) (k0_pay2 v476) Finset.univ (View.stores_vmem h_S1x64x4096 (harg12.storeExact_slice rfl _ (k0_off44_packedbf16 i v3 k0_hw2 k0_h1)) (fun _ => rfl)) (.inl rfl))
    pure ⟨⟩

set_option sl_exec.dmaWindow true
set_option maxHeartbeats 4000000 in
theorem loadFirst_wp (c : Dev nD) (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg9 : Memref sig .tc .vmem S256x2048 .i32) (harg9 : arg9.IsWhole) (v1 : BitVec 32) (k0_hw1 : k0_chk1 i v1) (v3 : BitVec 32) (k0_hw2 : k0_chk2 i v3) (k0_h1 : k0_cond1 i = 1#1)
    (fg : bufOf (F := F) c mWg) (fu : bufOf (F := F) c mWu) (fd : bufOf (F := F) c mWd) (b0 : bufOf (F := F) c sGate) (b1 : bufOf (F := F) c sUp) (b2 : bufOf (F := F) c sDown)
    (hv1 : v1.toNat < 64) (W : Waits sig Unit) (K : PUnit → sProp 𝕄) :
    iprop((∃ f, pt c stG fullShare f) ∗ (∃ f, pt c stU fullShare f) ∗ (∃ f, pt c stD fullShare f)
      ∗ pt c mWg fullShare fg ∗ pt c mWu fullShare fu ∗ pt c mWd fullShare fd
      ∗ pt c sGate fullShare b0 ∗ pt c sUp fullShare b1 ∗ pt c sDown fullShare b2
      ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ owes (c : Thread nD τ) 0 W ∗ ((∃ f, pt c stG fullShare f) ∗ (∃ f, pt c stU fullShare f) ∗ (∃ f, pt c stD fullShare f)
      ∗ pt c mWg fullShare fg ∗ pt c mWu fullShare fu ∗ pt c mWd fullShare fd
      ∗ (∃ f, pt c sGate fullShare f ∗ ⌜f = putG v3.toNat ⟨v1.toNat, hv1⟩ fg b0⌝) ∗ (∃ f, pt c sUp fullShare f ∗ ⌜f = putG v3.toNat ⟨v1.toNat, hv1⟩ fu b1⌝) ∗ (∃ f, pt c sDown fullShare f ∗ ⌜f = putD v3.toNat ⟨v1.toNat, hv1⟩ fd b2⌝)
      ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ (∃ W', owes (c : Thread nD τ) 0 W') -∗ K ⟨⟩))
    ⊢ wp frame (wpE (defs₀ (F := F)) Variants.none c none) Set.univ (loadFirst i arg1 harg1 arg2 harg2 arg3 harg3 arg4 harg4 arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6 v1 k0_hw1 v3 k0_hw2 k0_h1) K := by
  iintro ⟨⟨%g0, HG⟩, ⟨%g1, HU⟩, ⟨%g2, HD⟩, Hg, Hu, Hd, HB0, HB1, HB2, Hs0, Hs1, Hs2, Hs3, Hs4, Hs5, Hs6, Hs7, Hs8, Hs9, Hs10, Hs11, Hs12, Hs13, Hs14, Hs15, Hs16, Hs17, HW, Hk⟩
  ihave Hg' := ((Transfers.pointsTo_toks_split (Ix := Unit) (Name := ℕ) (U := Pipeline.UD sig nD τ) (Lvl := ℕ) fullShare 6).trans (Entails.of_eq (by rw [bigSep_univ_eq_bigSepL [(0 : Fin 6), 1, 2, 3, 4, 5] (by decide) (by decide)]; rfl) : _ ⊢ iprop(pt c mWg (Transfers.shareDrop fullShare 6) fg ∗ pt c mWg (Transfers.shareTok fullShare 6 0) fg ∗ pt c mWg (Transfers.shareTok fullShare 6 1) fg ∗ pt c mWg (Transfers.shareTok fullShare 6 2) fg ∗ pt c mWg (Transfers.shareTok fullShare 6 3) fg ∗ pt c mWg (Transfers.shareTok fullShare 6 4) fg ∗ pt c mWg (Transfers.shareTok fullShare 6 5) fg))) $$ Hg
  icases Hg' with ⟨Hgr, Hg0, Hg1, Hg2, Hg3, Hg4, Hg5⟩
  ihave Hu' := ((Transfers.pointsTo_toks_split (Ix := Unit) (Name := ℕ) (U := Pipeline.UD sig nD τ) (Lvl := ℕ) fullShare 6).trans (Entails.of_eq (by rw [bigSep_univ_eq_bigSepL [(0 : Fin 6), 1, 2, 3, 4, 5] (by decide) (by decide)]; rfl) : _ ⊢ iprop(pt c mWu (Transfers.shareDrop fullShare 6) fu ∗ pt c mWu (Transfers.shareTok fullShare 6 0) fu ∗ pt c mWu (Transfers.shareTok fullShare 6 1) fu ∗ pt c mWu (Transfers.shareTok fullShare 6 2) fu ∗ pt c mWu (Transfers.shareTok fullShare 6 3) fu ∗ pt c mWu (Transfers.shareTok fullShare 6 4) fu ∗ pt c mWu (Transfers.shareTok fullShare 6 5) fu))) $$ Hu
  icases Hu' with ⟨Hur, Hu0, Hu1, Hu2, Hu3, Hu4, Hu5⟩
  ihave Hd' := ((Transfers.pointsTo_toks_split (Ix := Unit) (Name := ℕ) (U := Pipeline.UD sig nD τ) (Lvl := ℕ) fullShare 6).trans (Entails.of_eq (by rw [bigSep_univ_eq_bigSepL [(0 : Fin 6), 1, 2, 3, 4, 5] (by decide) (by decide)]; rfl) : _ ⊢ iprop(pt c mWd (Transfers.shareDrop fullShare 6) fd ∗ pt c mWd (Transfers.shareTok fullShare 6 0) fd ∗ pt c mWd (Transfers.shareTok fullShare 6 1) fd ∗ pt c mWd (Transfers.shareTok fullShare 6 2) fd ∗ pt c mWd (Transfers.shareTok fullShare 6 3) fd ∗ pt c mWd (Transfers.shareTok fullShare 6 4) fd ∗ pt c mWd (Transfers.shareTok fullShare 6 5) fd))) $$ Hd
  icases Hd' with ⟨Hdr, Hd0, Hd1, Hd2, Hd3, Hd4, Hd5⟩
  unfold loadFirst
  simp only [k0_part1_eq_skeleton]
  unfold k0_part1_skel
  sl_exec
  sl_step
  iapply Hk
  isplitl [HG]; · iexists _; iexact HG
  isplitl [HU]; · iexists _; iexact HU
  isplitl [HD]; · iexists _; iexact HD
  isplitl [Hgr Hg0 Hg1 Hg2 Hg3 Hg4 Hg5]
  · iapply ((show iprop(pt c mWg (Transfers.shareDrop fullShare 6) fg ∗ pt c mWg (Transfers.shareTok fullShare 6 0) fg ∗ pt c mWg (Transfers.shareTok fullShare 6 1) fg ∗ pt c mWg (Transfers.shareTok fullShare 6 2) fg ∗ pt c mWg (Transfers.shareTok fullShare 6 3) fg ∗ pt c mWg (Transfers.shareTok fullShare 6 4) fg ∗ pt c mWg (Transfers.shareTok fullShare 6 5) fg) ⊢ _
        from Entails.of_eq (by rw [bigSep_univ_eq_bigSepL [(0 : Fin 6), 1, 2, 3, 4, 5] (by decide) (by decide)]; rfl)).trans
      (Transfers.pointsTo_toks_join (Ix := Unit) (Name := ℕ) (U := Pipeline.UD sig nD τ) (Lvl := ℕ) fullShare 6))
    isplitl [Hgr]; · iexact Hgr
    isplitl [Hg0]; · iexact Hg0
    isplitl [Hg1]; · iexact Hg1
    isplitl [Hg2]; · iexact Hg2
    isplitl [Hg3]; · iexact Hg3
    isplitl [Hg4]; · iexact Hg4
    iexact Hg5
  isplitl [Hur Hu0 Hu1 Hu2 Hu3 Hu4 Hu5]
  · iapply ((show iprop(pt c mWu (Transfers.shareDrop fullShare 6) fu ∗ pt c mWu (Transfers.shareTok fullShare 6 0) fu ∗ pt c mWu (Transfers.shareTok fullShare 6 1) fu ∗ pt c mWu (Transfers.shareTok fullShare 6 2) fu ∗ pt c mWu (Transfers.shareTok fullShare 6 3) fu ∗ pt c mWu (Transfers.shareTok fullShare 6 4) fu ∗ pt c mWu (Transfers.shareTok fullShare 6 5) fu) ⊢ _
        from Entails.of_eq (by rw [bigSep_univ_eq_bigSepL [(0 : Fin 6), 1, 2, 3, 4, 5] (by decide) (by decide)]; rfl)).trans
      (Transfers.pointsTo_toks_join (Ix := Unit) (Name := ℕ) (U := Pipeline.UD sig nD τ) (Lvl := ℕ) fullShare 6))
    isplitl [Hur]; · iexact Hur
    isplitl [Hu0]; · iexact Hu0
    isplitl [Hu1]; · iexact Hu1
    isplitl [Hu2]; · iexact Hu2
    isplitl [Hu3]; · iexact Hu3
    isplitl [Hu4]; · iexact Hu4
    iexact Hu5
  isplitl [Hdr Hd0 Hd1 Hd2 Hd3 Hd4 Hd5]
  · iapply ((show iprop(pt c mWd (Transfers.shareDrop fullShare 6) fd ∗ pt c mWd (Transfers.shareTok fullShare 6 0) fd ∗ pt c mWd (Transfers.shareTok fullShare 6 1) fd ∗ pt c mWd (Transfers.shareTok fullShare 6 2) fd ∗ pt c mWd (Transfers.shareTok fullShare 6 3) fd ∗ pt c mWd (Transfers.shareTok fullShare 6 4) fd ∗ pt c mWd (Transfers.shareTok fullShare 6 5) fd) ⊢ _
        from Entails.of_eq (by rw [bigSep_univ_eq_bigSepL [(0 : Fin 6), 1, 2, 3, 4, 5] (by decide) (by decide)]; rfl)).trans
      (Transfers.pointsTo_toks_join (Ix := Unit) (Name := ℕ) (U := Pipeline.UD sig nD τ) (Lvl := ℕ) fullShare 6))
    isplitl [Hdr]; · iexact Hdr
    isplitl [Hd0]; · iexact Hd0
    isplitl [Hd1]; · iexact Hd1
    isplitl [Hd2]; · iexact Hd2
    isplitl [Hd3]; · iexact Hd3
    isplitl [Hd4]; · iexact Hd4
    iexact Hd5
  isplitl [HB0]
  · iexists _
    isplitl [HB0]
    · iexact HB0
    · ipureintro
      refine putG_of_pieces c b0 v3.toNat ⟨v1.toNat, hv1⟩ fg ?_ ?_ ?_ ?_ ?_ ?_ ?_ ?_ ?_ ?_ ?_ ?_ ?_ ?_ ?_ ?_
      · rfl
      · rfl
      · rfl
      · rfl
      · rfl
      · rfl
      · rfl
      · rfl
      · intro x
        unfold loadFirst_wp.sl.r
        rw [show ∀ v : Vec F S1x512x512 .f32, k0_pay6 (k0_pay5 v) = cvG v from fun _ => rfl]
        try unfold loadFirst_wp.sl.v153
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stG mWg _ fg b0 0 v3.toNat ⟨v1.toNat, hv1⟩ _ _ _ _ _ _ rfl rfl x
      · intro x
        rw [show ∀ v : Vec F S1x512x512 .f32, k0_pay9 v = cvG v from fun _ => rfl]
        unfold loadFirst_wp.sl.v210
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stG mWg _ fg b0 1 v3.toNat ⟨v1.toNat, hv1⟩ _ _ _ _ _ _ rfl rfl x
      · intro x
        rw [show ∀ v : Vec F S1x512x512 .f32, k0_pay12 v = cvG v from fun _ => rfl]
        unfold loadFirst_wp.sl.v267
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stG mWg _ fg b0 2 v3.toNat ⟨v1.toNat, hv1⟩ _ _ _ _ _ _ rfl rfl x
      · intro x
        rw [show ∀ v : Vec F S1x512x512 .f32, k0_pay15 v = cvG v from fun _ => rfl]
        unfold loadFirst_wp.sl.v306
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stG mWg _ fg b0 3 v3.toNat ⟨v1.toNat, hv1⟩ _ _ _ _ _ _ rfl rfl x
      · intro x
        rw [show ∀ v : Vec F S1x512x512 .f32, k0_pay18 v = cvG v from fun _ => rfl]
        unfold loadFirst_wp.sl.v345
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stG mWg _ fg b0 4 v3.toNat ⟨v1.toNat, hv1⟩ _ _ _ _ _ _ rfl rfl x
      · intro x
        rw [show ∀ v : Vec F S1x512x512 .f32, k0_pay22 v = cvG v from fun _ => rfl]
        unfold loadFirst_wp.sl.v384
        refine (congrArg (fun v => cvG v x) (skipG _ _ (by decide))).trans ?_
        refine (congrArg (fun v => cvG v x) (skipG _ _ (by decide))).trans ?_
        exact pieceG stG mWg _ fg b0 5 v3.toNat ⟨v1.toNat, hv1⟩ _ _ _ _ _ _ rfl rfl x
      · intro x
        rw [show ∀ v : Vec F S1x512x512 .f32, k0_pay25 v = cvG v from fun _ => rfl]
        unfold loadFirst_wp.sl.v423
        refine (congrArg (fun v => cvG v x) (skipG _ _ (by decide))).trans ?_
        exact pieceG stG mWg _ fg b0 6 v3.toNat ⟨v1.toNat, hv1⟩ _ _ _ _ _ _ rfl rfl x
      · intro x
        rw [show ∀ v : Vec F S1x512x512 .f32, k0_pay29 v = cvG v from fun _ => rfl]
        unfold loadFirst_wp.sl.v462
        exact pieceG stG mWg _ fg b0 7 v3.toNat ⟨v1.toNat, hv1⟩ _ _ _ _ _ _ rfl rfl x
  isplitl [HB1]
  · iexists _
    isplitl [HB1]
    · iexact HB1
    · ipureintro
      refine putG_of_piecesU c b1 v3.toNat ⟨v1.toNat, hv1⟩ fu ?_ ?_ ?_ ?_ ?_ ?_ ?_ ?_ ?_ ?_ ?_ ?_ ?_ ?_ ?_ ?_
      · rfl
      · rfl
      · rfl
      · rfl
      · rfl
      · rfl
      · rfl
      · rfl
      · intro x
        rw [show ∀ v : Vec F S1x512x512 .f32, k0_pay7 v = cvG v from fun _ => rfl]
        unfold loadFirst_wp.sl.v160
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stU mWu _ fu b1 0 v3.toNat ⟨v1.toNat, hv1⟩ _ _ _ _ _ _ rfl rfl x
      · intro x
        rw [show ∀ v : Vec F S1x512x512 .f32, k0_pay10 v = cvG v from fun _ => rfl]
        unfold loadFirst_wp.sl.v217
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stU mWu _ fu b1 1 v3.toNat ⟨v1.toNat, hv1⟩ _ _ _ _ _ _ rfl rfl x
      · intro x
        rw [show ∀ v : Vec F S1x512x512 .f32, k0_pay13 v = cvG v from fun _ => rfl]
        unfold loadFirst_wp.sl.v274
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stU mWu _ fu b1 2 v3.toNat ⟨v1.toNat, hv1⟩ _ _ _ _ _ _ rfl rfl x
      · intro x
        rw [show ∀ v : Vec F S1x512x512 .f32, k0_pay16 v = cvG v from fun _ => rfl]
        unfold loadFirst_wp.sl.v313
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stU mWu _ fu b1 3 v3.toNat ⟨v1.toNat, hv1⟩ _ _ _ _ _ _ rfl rfl x
      · intro x
        unfold loadFirst_wp.sl.r_1
        rw [show ∀ v : Vec F S1x512x512 .f32, k0_pay20 (k0_pay19 v) = cvG v from fun _ => rfl]
        try unfold loadFirst_wp.sl.v352
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stU mWu _ fu b1 4 v3.toNat ⟨v1.toNat, hv1⟩ _ _ _ _ _ _ rfl rfl x
      · intro x
        rw [show ∀ v : Vec F S1x512x512 .f32, k0_pay23 v = cvG v from fun _ => rfl]
        unfold loadFirst_wp.sl.v391
        refine (congrArg (fun v => cvG v x) (skipG _ _ (by decide))).trans ?_
        refine (congrArg (fun v => cvG v x) (skipG _ _ (by decide))).trans ?_
        exact pieceG stU mWu _ fu b1 5 v3.toNat ⟨v1.toNat, hv1⟩ _ _ _ _ _ _ rfl rfl x
      · intro x
        rw [show ∀ v : Vec F S1x512x512 .f32, k0_pay26 v = cvG v from fun _ => rfl]
        unfold loadFirst_wp.sl.v430
        refine (congrArg (fun v => cvG v x) (skipG _ _ (by decide))).trans ?_
        exact pieceG stU mWu _ fu b1 6 v3.toNat ⟨v1.toNat, hv1⟩ _ _ _ _ _ _ rfl rfl x
      · intro x
        rw [show ∀ v : Vec F S1x512x512 .f32, k0_pay1 v = cvG v from fun _ => rfl]
        unfold loadFirst_wp.sl.v469
        exact pieceG stU mWu _ fu b1 7 v3.toNat ⟨v1.toNat, hv1⟩ _ _ _ _ _ _ rfl rfl x
  isplitl [HB2]
  · iexists _
    isplitl [HB2]
    · iexact HB2
    · ipureintro
      refine putD_of_pieces c b2 v3.toNat ⟨v1.toNat, hv1⟩ fd ?_ ?_ ?_ ?_ ?_ ?_ ?_ ?_ ?_ ?_ ?_ ?_ ?_ ?_ ?_ ?_
      · rfl
      · rfl
      · rfl
      · rfl
      · rfl
      · rfl
      · rfl
      · rfl
      · intro x
        rw [show ∀ v : Vec F S1x64x4096 .f32, k0_pay8 v = cvD v from fun _ => rfl]
        unfold loadFirst_wp.sl.v167
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        exact pieceD stD mWd _ fd b2 0 v3.toNat ⟨v1.toNat, hv1⟩ _ _ _ _ _ _ rfl rfl x
      · intro x
        rw [show ∀ v : Vec F S1x64x4096 .f32, k0_pay11 v = cvD v from fun _ => rfl]
        unfold loadFirst_wp.sl.v224
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        exact pieceD stD mWd _ fd b2 1 v3.toNat ⟨v1.toNat, hv1⟩ _ _ _ _ _ _ rfl rfl x
      · intro x
        rw [show ∀ v : Vec F S1x64x4096 .f32, k0_pay14 v = cvD v from fun _ => rfl]
        unfold loadFirst_wp.sl.v281
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        exact pieceD stD mWd _ fd b2 2 v3.toNat ⟨v1.toNat, hv1⟩ _ _ _ _ _ _ rfl rfl x
      · intro x
        rw [show ∀ v : Vec F S1x64x4096 .f32, k0_pay17 v = cvD v from fun _ => rfl]
        unfold loadFirst_wp.sl.v320
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        exact pieceD stD mWd _ fd b2 3 v3.toNat ⟨v1.toNat, hv1⟩ _ _ _ _ _ _ rfl rfl x
      · intro x
        rw [show ∀ v : Vec F S1x64x4096 .f32, k0_pay21 v = cvD v from fun _ => rfl]
        unfold loadFirst_wp.sl.v359
        refine (congrArg (fun v => cvD v x) (skipD _ _ (by decide))).trans ?_
        refine (congrArg (fun v => cvD v x) (skipD _ _ (by decide))).trans ?_
        refine (congrArg (fun v => cvD v x) (skipD _ _ (by decide))).trans ?_
        exact pieceD stD mWd _ fd b2 4 v3.toNat ⟨v1.toNat, hv1⟩ _ _ _ _ _ _ rfl rfl x
      · intro x
        rw [show ∀ v : Vec F S1x64x4096 .f32, k0_pay24 v = cvD v from fun _ => rfl]
        unfold loadFirst_wp.sl.v398
        refine (congrArg (fun v => cvD v x) (skipD _ _ (by decide))).trans ?_
        refine (congrArg (fun v => cvD v x) (skipD _ _ (by decide))).trans ?_
        exact pieceD stD mWd _ fd b2 5 v3.toNat ⟨v1.toNat, hv1⟩ _ _ _ _ _ _ rfl rfl x
      · intro x
        unfold loadFirst_wp.sl.r_2
        rw [show ∀ v : Vec F S1x64x4096 .f32, k0_pay28 (k0_pay27 v) = cvD v from fun _ => rfl]
        try unfold loadFirst_wp.sl.v437
        refine (congrArg (fun v => cvD v x) (skipD _ _ (by decide))).trans ?_
        exact pieceD stD mWd _ fd b2 6 v3.toNat ⟨v1.toNat, hv1⟩ _ _ _ _ _ _ rfl rfl x
      · intro x
        rw [show ∀ v : Vec F S1x64x4096 .f32, k0_pay2 v = cvD v from fun _ => rfl]
        unfold loadFirst_wp.sl.v476
        exact pieceD stD mWd _ fd b2 7 v3.toNat ⟨v1.toNat, hv1⟩ _ _ _ _ _ _ rfl rfl x
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  iexists _; iexact HW
end Cert.Kernel.Hand
-- ==== Proof.Next.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

local notation "𝕄" => MT nD τ sig Unit (Elt F) ℕ (Pipeline.UD sig nD τ) ℕ

set_option maxHeartbeats 4000000 in
/-- The step that computes its block while the next expert's weights come in, the branch of the body as printed. -/
def loadNext (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg6 : Memref sig .tc .hbm S64x4096x512 .f32) (harg6 : arg6.IsWhole) (arg7 : Memref sig .tc .hbm S64x4096x512 .f32) (harg7 : arg7.IsWhole) (arg8 : Memref sig .tc .hbm S64x512x4096 .f32) (harg8 : arg8.IsWhole) (arg9 : Memref sig .tc .vmem S256x2048 .i32) (harg9 : arg9.IsWhole) (arg10 : Memref sig .tc .vmem S2x4096x512 .bf16) (harg10 : arg10.IsWhole) (arg11 : Memref sig .tc .vmem S2x4096x512 .bf16) (harg11 : arg11.IsWhole) (arg12 : Memref sig .tc .vmem S2x512x4096 .bf16) (harg12 : arg12.IsWhole) (arg13 : Memref sig .tc .vmem S6x512x512 .f32) (harg13 : arg13.IsWhole) (arg14 : Memref sig .tc .vmem S6x512x512 .f32) (harg14 : arg14.IsWhole) (arg15 : Memref sig .tc .vmem S6x64x4096 .f32) (harg15 : arg15.IsWhole) (arg16 : DmaSems sig S3x6) (v1 v3 v5 v10 v13 : BitVec 32) (k0_hw3 : k0_chk3 i v1 v3 v5 v10 v13) (k0_h2 : k0_cond2 i v1 v5 v10 v13 = 1#1) : Prog (TpuEff nD τ sig (Elt F) Λ₀ .tc) PUnit := do
    let v27 : BitVec 32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2
    k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2
    k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2
    k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2
    let ⟨v140, v144⟩ : Σ' (v140 : FVec F S256x4096 .bf16), FVec F S256x512 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2
    k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    let v215 : FVec F S256x512 .bf16 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v140 v144
    k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    let ⟨v275, cst_238⟩ : Σ' (v275 : FVec F S512x4096 .bf16), FVec F S256x4096 .f32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    let ⟨v301, v303⟩ : Σ' (v301 : FVec F S512x512 .bf16), Vec F S1x512x512 .bf16 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27 v215 v275 cst_238
    k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27 v301 v303
    k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    let v418 : FVec F S512x512 .bf16 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27 v418
    k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    let v507 : FVec F S1x512x512 .bf16 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    Prog.lift (.store arg11 (Rect.unit (s := S2x4096x512) (k0_off77 v3) S1x512x512.size (k0_off77_inb i v1 v3 v5 v10 v13 k0_hw3 k0_h2)) v507 Finset.univ (View.stores_vmem h_S1x512x512 (harg11.storeExact_slice rfl _ (k0_off77_packedbf16 i v1 v3 v5 v10 v13 k0_hw3 k0_h2)) (fun _ => rfl)) (.inl rfl))
    let v508 : Vec F S1x64x4096 .f32 ← Prog.lift (.load arg15 (Rect.unit (s := S6x64x4096) ![1, 0, 0] S1x64x4096.size inb_S6x64x4096_S1x64x4096_1_0_0).toLoadRect (View.loadsAt_vmem h_S1x64x4096))
    let v512 : Vec F S1x64x4096 .bf16 ← Prog.lift (.load arg12 (Rect.unit (s := S2x512x4096) (k0_off78 v3) S1x64x4096.size (k0_off78_inb i v1 v3 v5 v10 v13 k0_hw3 k0_h2)).toLoadRect (View.loadsAt_vmem h_S1x64x4096))
    Prog.lift (.store arg12 (Rect.unit (s := S2x512x4096) (k0_off78 v3) S1x64x4096.size (k0_off78_inb i v1 v3 v5 v10 v13 k0_hw3 k0_h2)) (k0_pay3 v508) Finset.univ (View.stores_vmem h_S1x64x4096 (harg12.storeExact_slice rfl _ (k0_off78_packedbf16 i v1 v3 v5 v10 v13 k0_hw3 k0_h2)) (fun _ => rfl)) (.inl rfl))
    pure ⟨⟩

set_option sl_exec.dmaWindow true
set_option maxHeartbeats 8000000 in
theorem loadNext_wp (c : Dev nD) (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg9 : Memref sig .tc .vmem S256x2048 .i32) (harg9 : arg9.IsWhole) (v1 v3 v5 v10 v13 : BitVec 32) (k0_hw3 : k0_chk3 i v1 v3 v5 v10 v13) (k0_h2 : k0_cond2 i v1 v5 v10 v13 = 1#1) (hv5 : v5.toNat < 64) (hv3 : v3.toNat < 2)
    (fg : bufOf (F := F) c mWg) (fu : bufOf (F := F) c mWu) (fd : bufOf (F := F) c mWd) (b0 : bufOf (F := F) c sGate) (b1 : bufOf (F := F) c sUp) (b2 : bufOf (F := F) c sDown)
    (fx : bufOf (F := F) c arg5) (fy : bufOf (F := F) c arg9)
    (W : Waits sig Unit) (K : PUnit → sProp 𝕄) :
    iprop((∃ f, pt c stG fullShare f) ∗ (∃ f, pt c stU fullShare f) ∗ (∃ f, pt c stD fullShare f)
      ∗ pt c mWg fullShare fg ∗ pt c mWu fullShare fu ∗ pt c mWd fullShare fd
      ∗ pt c sGate fullShare b0 ∗ pt c sUp fullShare b1 ∗ pt c sDown fullShare b2
      ∗ pt c arg5 fullShare fx ∗ pt c arg9 fullShare fy
      ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ owes (c : Thread nD τ) 0 W ∗ ((∃ f, pt c stG fullShare f) ∗ (∃ f, pt c stU fullShare f) ∗ (∃ f, pt c stD fullShare f)
      ∗ pt c mWg fullShare fg ∗ pt c mWu fullShare fu ∗ pt c mWd fullShare fd
      ∗ (∃ f, pt c sGate fullShare f ∗ ⌜f = putG ((1#32 : BitVec 32) - v3).toNat ⟨v5.toNat, hv5⟩ fg b0⌝) ∗ (∃ f, pt c sUp fullShare f ∗ ⌜f = putG ((1#32 : BitVec 32) - v3).toNat ⟨v5.toNat, hv5⟩ fu b1⌝) ∗ (∃ f, pt c sDown fullShare f ∗ ⌜f = putD ((1#32 : BitVec 32) - v3).toNat ⟨v5.toNat, hv5⟩ fd b2⌝)
      ∗ pt c arg5 fullShare fx
      ∗ (∃ f, pt c arg9 fullShare f ∗ ⌜f = outBlock arg5 arg9 fx fy (rdG v3.toNat hv3 b0) (rdG v3.toNat hv3 b1) (rdD v3.toNat hv3 b2)⌝)
      ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ (∃ W', owes (c : Thread nD τ) 0 W') -∗ K ⟨⟩))
    ⊢ wp frame (wpE (defs₀ (F := F)) Variants.none c none) Set.univ (loadNext i arg1 harg1 arg2 harg2 arg3 harg3 arg4 harg4 arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6 v1 v3 v5 v10 v13 k0_hw3 k0_h2) K := by
  iintro ⟨⟨%g0, HG⟩, ⟨%g1, HU⟩, ⟨%g2, HD⟩, Hg, Hu, Hd, HB0, HB1, HB2, Hx, Hy, Hs0, Hs1, Hs2, Hs3, Hs4, Hs5, Hs6, Hs7, Hs8, Hs9, Hs10, Hs11, Hs12, Hs13, Hs14, Hs15, Hs16, Hs17, HW, Hk⟩
  ihave Hg' := ((Transfers.pointsTo_toks_split (Ix := Unit) (Name := ℕ) (U := Pipeline.UD sig nD τ) (Lvl := ℕ) fullShare 6).trans (Entails.of_eq (by rw [bigSep_univ_eq_bigSepL [(0 : Fin 6), 1, 2, 3, 4, 5] (by decide) (by decide)]; rfl) : _ ⊢ iprop(pt c mWg (Transfers.shareDrop fullShare 6) fg ∗ pt c mWg (Transfers.shareTok fullShare 6 0) fg ∗ pt c mWg (Transfers.shareTok fullShare 6 1) fg ∗ pt c mWg (Transfers.shareTok fullShare 6 2) fg ∗ pt c mWg (Transfers.shareTok fullShare 6 3) fg ∗ pt c mWg (Transfers.shareTok fullShare 6 4) fg ∗ pt c mWg (Transfers.shareTok fullShare 6 5) fg))) $$ Hg
  icases Hg' with ⟨Hgr, Hg0, Hg1, Hg2, Hg3, Hg4, Hg5⟩
  ihave Hu' := ((Transfers.pointsTo_toks_split (Ix := Unit) (Name := ℕ) (U := Pipeline.UD sig nD τ) (Lvl := ℕ) fullShare 6).trans (Entails.of_eq (by rw [bigSep_univ_eq_bigSepL [(0 : Fin 6), 1, 2, 3, 4, 5] (by decide) (by decide)]; rfl) : _ ⊢ iprop(pt c mWu (Transfers.shareDrop fullShare 6) fu ∗ pt c mWu (Transfers.shareTok fullShare 6 0) fu ∗ pt c mWu (Transfers.shareTok fullShare 6 1) fu ∗ pt c mWu (Transfers.shareTok fullShare 6 2) fu ∗ pt c mWu (Transfers.shareTok fullShare 6 3) fu ∗ pt c mWu (Transfers.shareTok fullShare 6 4) fu ∗ pt c mWu (Transfers.shareTok fullShare 6 5) fu))) $$ Hu
  icases Hu' with ⟨Hur, Hu0, Hu1, Hu2, Hu3, Hu4, Hu5⟩
  ihave Hd' := ((Transfers.pointsTo_toks_split (Ix := Unit) (Name := ℕ) (U := Pipeline.UD sig nD τ) (Lvl := ℕ) fullShare 6).trans (Entails.of_eq (by rw [bigSep_univ_eq_bigSepL [(0 : Fin 6), 1, 2, 3, 4, 5] (by decide) (by decide)]; rfl) : _ ⊢ iprop(pt c mWd (Transfers.shareDrop fullShare 6) fd ∗ pt c mWd (Transfers.shareTok fullShare 6 0) fd ∗ pt c mWd (Transfers.shareTok fullShare 6 1) fd ∗ pt c mWd (Transfers.shareTok fullShare 6 2) fd ∗ pt c mWd (Transfers.shareTok fullShare 6 3) fd ∗ pt c mWd (Transfers.shareTok fullShare 6 4) fd ∗ pt c mWd (Transfers.shareTok fullShare 6 5) fd))) $$ Hd
  icases Hd' with ⟨Hdr, Hd0, Hd1, Hd2, Hd3, Hd4, Hd5⟩
  unfold loadNext
  simp only [k0_part17_eq_skeleton]
  unfold k0_part17_skel
  sl_exec
  sl_step
  iapply Hk
  isplitl [HG]; · iexists _; iexact HG
  isplitl [HU]; · iexists _; iexact HU
  isplitl [HD]; · iexists _; iexact HD
  isplitl [Hgr Hg0 Hg1 Hg2 Hg3 Hg4 Hg5]
  · iapply ((show iprop(pt c mWg (Transfers.shareDrop fullShare 6) fg ∗ pt c mWg (Transfers.shareTok fullShare 6 0) fg ∗ pt c mWg (Transfers.shareTok fullShare 6 1) fg ∗ pt c mWg (Transfers.shareTok fullShare 6 2) fg ∗ pt c mWg (Transfers.shareTok fullShare 6 3) fg ∗ pt c mWg (Transfers.shareTok fullShare 6 4) fg ∗ pt c mWg (Transfers.shareTok fullShare 6 5) fg) ⊢ _
        from Entails.of_eq (by rw [bigSep_univ_eq_bigSepL [(0 : Fin 6), 1, 2, 3, 4, 5] (by decide) (by decide)]; rfl)).trans
      (Transfers.pointsTo_toks_join (Ix := Unit) (Name := ℕ) (U := Pipeline.UD sig nD τ) (Lvl := ℕ) fullShare 6))
    isplitl [Hgr]; · iexact Hgr
    isplitl [Hg0]; · iexact Hg0
    isplitl [Hg1]; · iexact Hg1
    isplitl [Hg2]; · iexact Hg2
    isplitl [Hg3]; · iexact Hg3
    isplitl [Hg4]; · iexact Hg4
    iexact Hg5
  isplitl [Hur Hu0 Hu1 Hu2 Hu3 Hu4 Hu5]
  · iapply ((show iprop(pt c mWu (Transfers.shareDrop fullShare 6) fu ∗ pt c mWu (Transfers.shareTok fullShare 6 0) fu ∗ pt c mWu (Transfers.shareTok fullShare 6 1) fu ∗ pt c mWu (Transfers.shareTok fullShare 6 2) fu ∗ pt c mWu (Transfers.shareTok fullShare 6 3) fu ∗ pt c mWu (Transfers.shareTok fullShare 6 4) fu ∗ pt c mWu (Transfers.shareTok fullShare 6 5) fu) ⊢ _
        from Entails.of_eq (by rw [bigSep_univ_eq_bigSepL [(0 : Fin 6), 1, 2, 3, 4, 5] (by decide) (by decide)]; rfl)).trans
      (Transfers.pointsTo_toks_join (Ix := Unit) (Name := ℕ) (U := Pipeline.UD sig nD τ) (Lvl := ℕ) fullShare 6))
    isplitl [Hur]; · iexact Hur
    isplitl [Hu0]; · iexact Hu0
    isplitl [Hu1]; · iexact Hu1
    isplitl [Hu2]; · iexact Hu2
    isplitl [Hu3]; · iexact Hu3
    isplitl [Hu4]; · iexact Hu4
    iexact Hu5
  isplitl [Hdr Hd0 Hd1 Hd2 Hd3 Hd4 Hd5]
  · iapply ((show iprop(pt c mWd (Transfers.shareDrop fullShare 6) fd ∗ pt c mWd (Transfers.shareTok fullShare 6 0) fd ∗ pt c mWd (Transfers.shareTok fullShare 6 1) fd ∗ pt c mWd (Transfers.shareTok fullShare 6 2) fd ∗ pt c mWd (Transfers.shareTok fullShare 6 3) fd ∗ pt c mWd (Transfers.shareTok fullShare 6 4) fd ∗ pt c mWd (Transfers.shareTok fullShare 6 5) fd) ⊢ _
        from Entails.of_eq (by rw [bigSep_univ_eq_bigSepL [(0 : Fin 6), 1, 2, 3, 4, 5] (by decide) (by decide)]; rfl)).trans
      (Transfers.pointsTo_toks_join (Ix := Unit) (Name := ℕ) (U := Pipeline.UD sig nD τ) (Lvl := ℕ) fullShare 6))
    isplitl [Hdr]; · iexact Hdr
    isplitl [Hd0]; · iexact Hd0
    isplitl [Hd1]; · iexact Hd1
    isplitl [Hd2]; · iexact Hd2
    isplitl [Hd3]; · iexact Hd3
    isplitl [Hd4]; · iexact Hd4
    iexact Hd5
  isplitl [HB0]
  · iexists _
    isplitl [HB0]
    · iexact HB0
    · ipureintro
      refine putG_of_pieces c b0 ((1#32 : BitVec 32) - v3).toNat ⟨v5.toNat, hv5⟩ fg ?_ ?_ ?_ ?_ ?_ ?_ ?_ ?_ ?_ ?_ ?_ ?_ ?_ ?_ ?_ ?_
      · rfl
      · rfl
      · rfl
      · rfl
      · rfl
      · rfl
      · rfl
      · rfl
      · intro x
        rw [show ∀ v : Vec F S1x512x512 .f32, k0_pay32 v = cvG v from fun _ => rfl]
        try unfold loadNext_wp.sl.v163
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stG mWg _ fg b0 0 ((1#32 : BitVec 32) - v3).toNat ⟨v5.toNat, hv5⟩ _ _ _ _ _ _ rfl rfl x
      · intro x
        rw [show ∀ v : Vec F S1x512x512 .f32, k0_pay36 v = cvG v from fun _ => rfl]
        try unfold loadNext_wp.sl.v234
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stG mWg _ fg b0 1 ((1#32 : BitVec 32) - v3).toNat ⟨v5.toNat, hv5⟩ _ _ _ _ _ _ rfl rfl x
      · intro x
        unfold loadNext_wp.sl.r_4
        rw [show ∀ v : Vec F S1x512x512 .f32, k0_pay42 (k0_pay41 v) = cvG v from fun _ => rfl]
        try unfold loadNext_wp.sl.v299
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stG mWg _ fg b0 2 ((1#32 : BitVec 32) - v3).toNat ⟨v5.toNat, hv5⟩ _ _ _ _ _ _ rfl rfl x
      · intro x
        rw [show ∀ v : Vec F S1x512x512 .f32, k0_pay45 v = cvG v from fun _ => rfl]
        try unfold loadNext_wp.sl.v338
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stG mWg _ fg b0 3 ((1#32 : BitVec 32) - v3).toNat ⟨v5.toNat, hv5⟩ _ _ _ _ _ _ rfl rfl x
      · intro x
        rw [show ∀ v : Vec F S1x512x512 .f32, k0_pay48 v = cvG v from fun _ => rfl]
        try unfold loadNext_wp.sl.v377
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stG mWg _ fg b0 4 ((1#32 : BitVec 32) - v3).toNat ⟨v5.toNat, hv5⟩ _ _ _ _ _ _ rfl rfl x
      · intro x
        unfold loadNext_wp.sl.r_6
        rw [show ∀ v : Vec F S1x512x512 .f32, k0_pay52 (k0_pay51 v) = cvG v from fun _ => rfl]
        try unfold loadNext_wp.sl.v416
        refine (congrArg (fun v => cvG v x) (skipG _ _ (by decide))).trans ?_
        refine (congrArg (fun v => cvG v x) (skipG _ _ (by decide))).trans ?_
        exact pieceG stG mWg _ fg b0 5 ((1#32 : BitVec 32) - v3).toNat ⟨v5.toNat, hv5⟩ _ _ _ _ _ _ rfl rfl x
      · intro x
        rw [show ∀ v : Vec F S1x512x512 .f32, k0_pay55 v = cvG v from fun _ => rfl]
        try unfold loadNext_wp.sl.v455
        refine (congrArg (fun v => cvG v x) (skipG _ _ (by decide))).trans ?_
        exact pieceG stG mWg _ fg b0 6 ((1#32 : BitVec 32) - v3).toNat ⟨v5.toNat, hv5⟩ _ _ _ _ _ _ rfl rfl x
      · intro x
        rw [show ∀ v : Vec F S1x512x512 .f32, k0_pay58 v = cvG v from fun _ => rfl]
        try unfold loadNext_wp.sl.v494
        exact pieceG stG mWg _ fg b0 7 ((1#32 : BitVec 32) - v3).toNat ⟨v5.toNat, hv5⟩ _ _ _ _ _ _ rfl rfl x
  isplitl [HB1]
  · iexists _
    isplitl [HB1]
    · iexact HB1
    · ipureintro
      refine putG_of_piecesU c b1 ((1#32 : BitVec 32) - v3).toNat ⟨v5.toNat, hv5⟩ fu ?_ ?_ ?_ ?_ ?_ ?_ ?_ ?_ ?_ ?_ ?_ ?_ ?_ ?_ ?_ ?_
      · rfl
      · rfl
      · rfl
      · rfl
      · rfl
      · rfl
      · rfl
      · rfl
      · intro x
        rw [show ∀ v : Vec F S1x512x512 .f32, k0_pay33 v = cvG v from fun _ => rfl]
        try unfold loadNext_wp.sl.v170
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stU mWu _ fu b1 0 ((1#32 : BitVec 32) - v3).toNat ⟨v5.toNat, hv5⟩ _ _ _ _ _ _ rfl rfl x
      · intro x
        rw [show ∀ v : Vec F S1x512x512 .f32, k0_pay37 v = cvG v from fun _ => rfl]
        try unfold loadNext_wp.sl.v241
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stU mWu _ fu b1 1 ((1#32 : BitVec 32) - v3).toNat ⟨v5.toNat, hv5⟩ _ _ _ _ _ _ rfl rfl x
      · intro x
        rw [show ∀ v : Vec F S1x512x512 .f32, k0_pay43 v = cvG v from fun _ => rfl]
        try unfold loadNext_wp.sl.v306
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stU mWu _ fu b1 2 ((1#32 : BitVec 32) - v3).toNat ⟨v5.toNat, hv5⟩ _ _ _ _ _ _ rfl rfl x
      · intro x
        rw [show ∀ v : Vec F S1x512x512 .f32, k0_pay46 v = cvG v from fun _ => rfl]
        try unfold loadNext_wp.sl.v345
        refine (congrArg (fun v => cvG v x) (skipG _ _ (by decide))).trans ?_
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stU mWu _ fu b1 3 ((1#32 : BitVec 32) - v3).toNat ⟨v5.toNat, hv5⟩ _ _ _ _ _ _ rfl rfl x
      · intro x
        rw [show ∀ v : Vec F S1x512x512 .f32, k0_pay49 v = cvG v from fun _ => rfl]
        try unfold loadNext_wp.sl.v384
        refine (congrArg (fun v => cvG v x) (skipG _ _ (by decide))).trans ?_
        refine (congrArg (fun v => cvG v x) (skipG _ _ (by decide))).trans ?_
        refine (congrArg (fun v => cvG v x) (skipG _ _ (by decide))).trans ?_
        exact pieceG stU mWu _ fu b1 4 ((1#32 : BitVec 32) - v3).toNat ⟨v5.toNat, hv5⟩ _ _ _ _ _ _ rfl rfl x
      · intro x
        rw [show ∀ v : Vec F S1x512x512 .f32, k0_pay53 v = cvG v from fun _ => rfl]
        try unfold loadNext_wp.sl.v423
        refine (congrArg (fun v => cvG v x) (skipG _ _ (by decide))).trans ?_
        refine (congrArg (fun v => cvG v x) (skipG _ _ (by decide))).trans ?_
        exact pieceG stU mWu _ fu b1 5 ((1#32 : BitVec 32) - v3).toNat ⟨v5.toNat, hv5⟩ _ _ _ _ _ _ rfl rfl x
      · intro x
        rw [show ∀ v : Vec F S1x512x512 .f32, k0_pay56 v = cvG v from fun _ => rfl]
        try unfold loadNext_wp.sl.v462
        refine (congrArg (fun v => cvG v x) (skipG _ _ (by decide))).trans ?_
        exact pieceG stU mWu _ fu b1 6 ((1#32 : BitVec 32) - v3).toNat ⟨v5.toNat, hv5⟩ _ _ _ _ _ _ rfl rfl x
      · intro x
        unfold loadNext_wp.sl.r_7
        rw [show ∀ v : Vec F S1x512x512 .f32, k0_pay59 v = cvG v from fun _ => rfl]
        try unfold loadNext_wp.sl.v501
        exact pieceG stU mWu _ fu b1 7 ((1#32 : BitVec 32) - v3).toNat ⟨v5.toNat, hv5⟩ _ _ _ _ _ _ rfl rfl x
  isplitl [HB2]
  · iexists _
    isplitl [HB2]
    · iexact HB2
    · ipureintro
      refine putD_of_pieces c b2 ((1#32 : BitVec 32) - v3).toNat ⟨v5.toNat, hv5⟩ fd ?_ ?_ ?_ ?_ ?_ ?_ ?_ ?_ ?_ ?_ ?_ ?_ ?_ ?_ ?_ ?_
      · rfl
      · rfl
      · rfl
      · rfl
      · rfl
      · rfl
      · rfl
      · rfl
      · intro x
        rw [show ∀ v : Vec F S1x64x4096 .f32, k0_pay34 v = cvD v from fun _ => rfl]
        try unfold loadNext_wp.sl.v177
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        exact pieceD stD mWd _ fd b2 0 ((1#32 : BitVec 32) - v3).toNat ⟨v5.toNat, hv5⟩ _ _ _ _ _ _ rfl rfl x
      · intro x
        rw [show ∀ v : Vec F S1x64x4096 .f32, k0_pay38 v = cvD v from fun _ => rfl]
        try unfold loadNext_wp.sl.v248
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        exact pieceD stD mWd _ fd b2 1 ((1#32 : BitVec 32) - v3).toNat ⟨v5.toNat, hv5⟩ _ _ _ _ _ _ rfl rfl x
      · intro x
        rw [show ∀ v : Vec F S1x64x4096 .f32, k0_pay44 v = cvD v from fun _ => rfl]
        try unfold loadNext_wp.sl.v313
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        exact pieceD stD mWd _ fd b2 2 ((1#32 : BitVec 32) - v3).toNat ⟨v5.toNat, hv5⟩ _ _ _ _ _ _ rfl rfl x
      · intro x
        rw [show ∀ v : Vec F S1x64x4096 .f32, k0_pay47 v = cvD v from fun _ => rfl]
        try unfold loadNext_wp.sl.v352
        refine (congrArg (fun v => cvD v x) (skipD _ _ (by decide))).trans ?_
        refine (congrArg (fun v => cvD v x) (skipD _ _ (by decide))).trans ?_
        refine (congrArg (fun v => cvD v x) (skipD _ _ (by decide))).trans ?_
        refine (congrArg (fun v => cvD v x) (skipD _ _ (by decide))).trans ?_
        exact pieceD stD mWd _ fd b2 3 ((1#32 : BitVec 32) - v3).toNat ⟨v5.toNat, hv5⟩ _ _ _ _ _ _ rfl rfl x
      · intro x
        rw [show ∀ v : Vec F S1x64x4096 .f32, k0_pay50 v = cvD v from fun _ => rfl]
        try unfold loadNext_wp.sl.v391
        refine (congrArg (fun v => cvD v x) (skipD _ _ (by decide))).trans ?_
        refine (congrArg (fun v => cvD v x) (skipD _ _ (by decide))).trans ?_
        refine (congrArg (fun v => cvD v x) (skipD _ _ (by decide))).trans ?_
        exact pieceD stD mWd _ fd b2 4 ((1#32 : BitVec 32) - v3).toNat ⟨v5.toNat, hv5⟩ _ _ _ _ _ _ rfl rfl x
      · intro x
        rw [show ∀ v : Vec F S1x64x4096 .f32, k0_pay54 v = cvD v from fun _ => rfl]
        try unfold loadNext_wp.sl.v430
        refine (congrArg (fun v => cvD v x) (skipD _ _ (by decide))).trans ?_
        refine (congrArg (fun v => cvD v x) (skipD _ _ (by decide))).trans ?_
        exact pieceD stD mWd _ fd b2 5 ((1#32 : BitVec 32) - v3).toNat ⟨v5.toNat, hv5⟩ _ _ _ _ _ _ rfl rfl x
      · intro x
        rw [show ∀ v : Vec F S1x64x4096 .f32, k0_pay57 v = cvD v from fun _ => rfl]
        try unfold loadNext_wp.sl.v469
        refine (congrArg (fun v => cvD v x) (skipD _ _ (by decide))).trans ?_
        exact pieceD stD mWd _ fd b2 6 ((1#32 : BitVec 32) - v3).toNat ⟨v5.toNat, hv5⟩ _ _ _ _ _ _ rfl rfl x
      · intro x
        rw [show ∀ v : Vec F S1x64x4096 .f32, k0_pay3 v = cvD v from fun _ => rfl]
        try unfold loadNext_wp.sl.v508
        exact pieceD stD mWd _ fd b2 7 ((1#32 : BitVec 32) - v3).toNat ⟨v5.toNat, hv5⟩ _ _ _ _ _ _ rfl rfl x
  isplitl [Hx]; · iexact Hx
  isplitl [Hy]
  · iexists _
    isplitl [Hy]
    · iexact Hy
    · ipureintro
      unfold loadNext_wp.sl.r_2 loadNext_wp.sl.r_3
      have hne : ((1#32 : BitVec 32) - v3).toNat ≠ v3.toNat := by
        intro h
        have h' := BitVec.eq_of_toNat_eq h
        bv_omega
      rw [missGU hne c b1 _ ?_ ?_ _ ?_, missD hne c b2 _ ?_ ?_ _ ?_]
      · rfl
      · rfl
      · rfl
      · exact List.forall_mem_cons.mpr ⟨⟨rfl, rfl, rfl⟩, List.forall_mem_cons.mpr ⟨⟨rfl, rfl, rfl⟩, List.forall_mem_nil _⟩⟩
      · rfl
      · rfl
      · exact List.forall_mem_cons.mpr ⟨⟨rfl, rfl, rfl⟩, List.forall_mem_nil _⟩
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  iexists _; iexact HW

end Cert.Kernel.Hand
-- ==== Proof.Comp.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

local notation "𝕄" => MT nD τ sig Unit (Elt F) ℕ (Pipeline.UD sig nD τ) ℕ

set_option maxHeartbeats 4000000 in
/-- The step that only computes its block, the branch of the body as printed. -/
def compute (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg6 : Memref sig .tc .hbm S64x4096x512 .f32) (harg6 : arg6.IsWhole) (arg7 : Memref sig .tc .hbm S64x4096x512 .f32) (harg7 : arg7.IsWhole) (arg8 : Memref sig .tc .hbm S64x512x4096 .f32) (harg8 : arg8.IsWhole) (arg9 : Memref sig .tc .vmem S256x2048 .i32) (harg9 : arg9.IsWhole) (arg10 : Memref sig .tc .vmem S2x4096x512 .bf16) (harg10 : arg10.IsWhole) (arg11 : Memref sig .tc .vmem S2x4096x512 .bf16) (harg11 : arg11.IsWhole) (arg12 : Memref sig .tc .vmem S2x512x4096 .bf16) (harg12 : arg12.IsWhole) (arg13 : Memref sig .tc .vmem S6x512x512 .f32) (harg13 : arg13.IsWhole) (arg14 : Memref sig .tc .vmem S6x512x512 .f32) (harg14 : arg14.IsWhole) (arg15 : Memref sig .tc .vmem S6x64x4096 .f32) (harg15 : arg15.IsWhole) (arg16 : DmaSems sig S3x6) (v1 v3 v5 v10 v13 : BitVec 32) (k0_hw2 : k0_chk2 i v3) (k0_hw3 : k0_chk3 i v1 v3 v5 v10 v13) (k0_h3 : k0_cond3 i v1 v5 v10 v13 = 1#1) : Prog (TpuEff nD τ sig (Elt F) Λ₀ .tc) PUnit := do
    let v27 : Vec F S256x2048 .i32 ← Prog.lift (.load arg5 (Rect.unit (s := S256x2048) ![0, 0] S256x2048.size inb_S256x2048_S256x2048_0_0).toLoadRect (View.loadsAt_vmem h_S256x2048))
    let v33 : Vec F S1x4096x512 .bf16 ← Prog.lift (.load arg10 (Rect.unit (s := S2x4096x512) (k0_off79 v3) S1x4096x512.size (k0_off79_inb i v1 v3 v5 v10 v13 k0_hw3 k0_h3)).toLoadRect (View.loadsAt_vmem h_S1x4096x512))
    let v45 : Vec F S1x4096x512 .bf16 ← Prog.lift (.load arg11 (Rect.unit (s := S2x4096x512) (k0_off79 v3) S1x4096x512.size (k0_off79_inb i v1 v3 v5 v10 v13 k0_hw3 k0_h3)).toLoadRect (View.loadsAt_vmem h_S1x4096x512))
    let v51 : Vec F S1x512x4096 .bf16 ← Prog.lift (.load arg12 (Rect.unit (s := S2x512x4096) (k0_off80 v3) S1x512x4096.size (k0_off80_inb i v1 v3 v5 v10 v13 k0_hw3 k0_h3)).toLoadRect (View.loadsAt_vmem h_S1x512x4096))
    let v57 : Vec F S256x2048 .i32 ← Prog.lift (.load arg9 (Rect.unit (s := S256x2048) ![0, 0] S256x2048.size inb_S256x2048_S256x2048_0_0).toLoadRect (View.loadsAt_vmem h_S256x2048))
    Prog.lift (.store arg9 (Rect.unit (s := S256x2048) ![0, 0] S256x2048.size inb_S256x2048_S256x2048_0_0) (k0_pay4 v27 v33 v45 v51) Finset.univ (View.stores_vmem_bits_univ h_S256x2048 rfl) (.inl rfl))
    pure ⟨⟩

set_option maxHeartbeats 8000000 in
theorem compute_wp (c : Dev nD) (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg9 : Memref sig .tc .vmem S256x2048 .i32) (harg9 : arg9.IsWhole) (v1 v3 v5 v10 v13 : BitVec 32) (k0_hw2 : k0_chk2 i v3) (k0_hw3 : k0_chk3 i v1 v3 v5 v10 v13) (k0_h3 : k0_cond3 i v1 v5 v10 v13 = 1#1) (hv3 : v3.toNat < 2)
    (b0 : bufOf (F := F) c sGate) (b1 : bufOf (F := F) c sUp) (b2 : bufOf (F := F) c sDown)
    (fx : bufOf (F := F) c arg5) (fy : bufOf (F := F) c arg9) (K : PUnit → sProp 𝕄) :
    iprop(pt c sGate fullShare b0 ∗ pt c sUp fullShare b1 ∗ pt c sDown fullShare b2
      ∗ pt c arg5 fullShare fx ∗ pt c arg9 fullShare fy
      ∗ ((pt c sGate fullShare b0 ∗ pt c sUp fullShare b1 ∗ pt c sDown fullShare b2 ∗ pt c arg5 fullShare fx
        ∗ (∃ f, pt c arg9 fullShare f ∗ ⌜f = outBlock arg5 arg9 fx fy (rdG v3.toNat hv3 b0) (rdG v3.toNat hv3 b1) (rdD v3.toNat hv3 b2)⌝)) -∗ K ⟨⟩))
    ⊢ wp frame (wpE (defs₀ (F := F)) Variants.none c none) Set.univ (compute i arg1 harg1 arg2 harg2 arg3 harg3 arg4 harg4 arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6 v1 v3 v5 v10 v13 k0_hw2 k0_hw3 k0_h3) K := by
  iintro ⟨HB0, HB1, HB2, Hx, Hy, Hk⟩
  unfold compute
  sl_exec
  sl_step
  iapply Hk
  isplitl [HB0]; · iexact HB0
  isplitl [HB1]; · iexact HB1
  isplitl [HB2]; · iexact HB2
  isplitl [Hx]; · iexact Hx
  iexists _
  isplitl [Hy]
  · iexact Hy
  · ipureintro
    rfl

end Cert.Kernel.Hand
-- ==== Proof.Step.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

local notation "𝕄" => MT nD τ sig Unit (Elt F) ℕ (Pipeline.UD sig nD τ) ℕ

theorem inbW (v : BitVec 32) (hv : v.toNat < 64) (k : ℕ) (hk : k + 512 ≤ 4096) :
    ∀ a, (![v.toNat, k, 0] : Fin 3 → ℕ) a + S1x512x512.size a ≤ S64x4096x512.size a := by
  intro a; fin_cases a
  · show v.toNat + 1 ≤ 64; omega
  · show k + 512 ≤ 4096; omega
  · show 0 + 512 ≤ 512; omega

theorem inbD (v : BitVec 32) (hv : v.toNat < 64) (k : ℕ) (hk : k + 64 ≤ 512) :
    ∀ a, (![v.toNat, k, 0] : Fin 3 → ℕ) a + S1x64x4096.size a ≤ S64x512x4096.size a := by
  intro a; fin_cases a
  · show v.toNat + 1 ≤ 64; omega
  · show k + 64 ≤ 512; omega
  · show 0 + 4096 ≤ 4096; omega

theorem packed_at {s : Shape} {p : ℕ} {off size : Fin s.rank → ℕ} {hinb : ∀ a, off a + size a ≤ s.size a}
    (h : s.PackedRowsAt p off size fun _ => 1) : (Rect.unit (s := s) off size hinb).PackedRows p := h

/-- The first side condition holds of every expert's number. -/
theorem chk1_of (i : grid0.Coords) (v1 : BitVec 32) (hv1 : v1.toNat < 64) : k0_chk1 i v1 := by
  unfold k0_chk1
  and_intros <;> first
    | exact fun _ => inbW v1 hv1 _ (by decide)
    | exact fun _ => inbD v1 hv1 _ (by decide)

/-- A word below two is one of two words. -/
theorem two_words (v : BitVec 32) (h : v.toNat < 2) : v = 0#32 ∨ v = 1#32 := by
  rcases (by omega : v.toNat = 0 ∨ v.toNat = 1) with h | h
  · exact .inl (BitVec.eq_of_toNat_eq h)
  · exact .inr (BitVec.eq_of_toNat_eq h)

/-- The second holds of both sets. -/
theorem chk2_of (i : grid0.Coords) (v3 : BitVec 32) (hv3 : v3.toNat < 2) : k0_chk2 i v3 := by
  rcases two_words v3 hv3 with rfl | rfl <;> unfold k0_chk2 <;> and_intros <;> first
    | exact fun _ => by decide
    | exact fun _ _ => packed_at (by decide)

/-- The third holds when the next expert's number, where there is one, is an expert's. -/
theorem chk3_of (i : grid0.Coords) (v1 v3 v5 v10 v13 : BitVec 32) (hv3 : v3.toNat < 2)
    (hv5 : k0_cond2 i v1 v5 v10 v13 = 1#1 → v5.toNat < 64) : k0_chk3 i v1 v3 v5 v10 v13 := by
  rcases two_words v3 hv3 with rfl | rfl <;> unfold k0_chk3 k0_chk3_0 k0_chk3_1 <;> and_intros <;> first
    | exact fun h => inbW v5 (hv5 h) _ (by decide)
    | exact fun h => inbD v5 (hv5 h) _ (by decide)
    | exact fun _ => by decide
    | exact fun _ _ => packed_at (by decide)

/-- A step that fetches the next expert is not one that only computes. -/
theorem not_both (i : grid0.Coords) (v1 v5 v10 v13 : BitVec 32) (h : k0_cond2 i v1 v5 v10 v13 = 1#1) :
    ¬ k0_cond3 i v1 v5 v10 v13 = 1#1 := by
  have key : ∀ p q : BitVec 1, Scalar.cmpi .ne (Scalar.extui q : BitVec 32) 0#32 = 1#1 →
      ¬ Scalar.cmpi .ne (Scalar.extui (Scalar.andi p (Scalar.xori q 1#1)) : BitVec 32) 0#32 = 1#1 := by decide
  exact key _ _ h

/-- What the body holds besides its two windows and the tables: the staging slots at anything, the experts' weights,
    the rounded weights of the two sets, the transfers' semaphores at zero. -/
def Res (c : Dev nD) (fg : bufOf (F := F) c mWg) (fu : bufOf (F := F) c mWu) (fd : bufOf (F := F) c mWd)
    (b0 : bufOf (F := F) c sGate) (b1 : bufOf (F := F) c sUp) (b2 : bufOf (F := F) c sDown) : sProp 𝕄 :=
  iprop((∃ f, pt c stG fullShare f) ∗ (∃ f, pt c stU fullShare f) ∗ (∃ f, pt c stD fullShare f)
      ∗ pt c mWg fullShare fg ∗ pt c mWu fullShare fu ∗ pt c mWd fullShare fd
      ∗ pt c sGate fullShare b0 ∗ pt c sUp fullShare b1 ∗ pt c sDown fullShare b2
      ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)

set_option maxHeartbeats 4000000 in
/-- The first branch, where it runs. -/
theorem first_wp (c : Dev nD) (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg9 : Memref sig .tc .vmem S256x2048 .i32) (harg9 : arg9.IsWhole) (v1 : BitVec 32) (k0_hw1 : k0_chk1 i v1) (v3 : BitVec 32) (k0_hw2 : k0_chk2 i v3) (k0_h1 : k0_cond1 i = 1#1)
    (fg : bufOf (F := F) c mWg) (fu : bufOf (F := F) c mWu) (fd : bufOf (F := F) c mWd) (b0 : bufOf (F := F) c sGate) (b1 : bufOf (F := F) c sUp) (b2 : bufOf (F := F) c sDown)
    (hv1 : v1.toNat < 64) (W : Waits sig Unit) (K : PUnit → sProp 𝕄) :
    iprop(Res c fg fu fd b0 b1 b2 ∗ owes (c : Thread nD τ) 0 W
      ∗ (Res c fg fu fd (putG v3.toNat ⟨v1.toNat, hv1⟩ fg b0) (putG v3.toNat ⟨v1.toNat, hv1⟩ fu b1) (putD v3.toNat ⟨v1.toNat, hv1⟩ fd b2)
        ∗ (∃ W', owes (c : Thread nD τ) 0 W') -∗ K ⟨⟩))
    ⊢ wp frame (wpE (defs₀ (F := F)) Variants.none c none) Set.univ (loadFirst i arg1 harg1 arg2 harg2 arg3 harg3 arg4 harg4 arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6 v1 k0_hw1 v3 k0_hw2 k0_h1) K := by
  unfold Res
  iintro ⟨⟨HSG, HSU, HSD, Hg, Hu, Hd, HB0, HB1, HB2, Hs4, Hs5, Hs6, Hs7, Hs8, Hs9, Hs10, Hs11, Hs12, Hs13, Hs14, Hs15, Hs16, Hs17, Hs18, Hs19, Hs20, Hs21⟩, Ho, Hk⟩
  iapply (loadFirst_wp c i arg1 harg1 arg2 harg2 arg3 harg3 arg4 harg4 arg5 harg5 arg9 harg9 v1 k0_hw1 v3 k0_hw2 k0_h1 fg fu fd b0 b1 b2 hv1 W K)
  isplitl [HSG]; · iexact HSG
  isplitl [HSU]; · iexact HSU
  isplitl [HSD]; · iexact HSD
  isplitl [Hg]; · iexact Hg
  isplitl [Hu]; · iexact Hu
  isplitl [Hd]; · iexact Hd
  isplitl [HB0]; · iexact HB0
  isplitl [HB1]; · iexact HB1
  isplitl [HB2]; · iexact HB2
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Ho]; · iexact Ho
  iintro ⟨HSG, HSU, HSD, Hg, Hu, Hd, ⟨%f0, HB0, %e0⟩, ⟨%f1, HB1, %e1⟩, ⟨%f2, HB2, %e2⟩, Hs4, Hs5, Hs6, Hs7, Hs8, Hs9, Hs10, Hs11, Hs12, Hs13, Hs14, Hs15, Hs16, Hs17, Hs18, Hs19, Hs20, Hs21, Ho⟩
  subst e0 e1 e2
  iapply Hk
  isplitr [Ho]; swap; · iexact Ho
  isplitl [HSG]; · iexact HSG
  isplitl [HSU]; · iexact HSU
  isplitl [HSD]; · iexact HSD
  isplitl [Hg]; · iexact Hg
  isplitl [Hu]; · iexact Hu
  isplitl [Hd]; · iexact Hd
  isplitl [HB0]; · iexact HB0
  isplitl [HB1]; · iexact HB1
  isplitl [HB2]; · iexact HB2
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  iexact Hs21

set_option maxHeartbeats 4000000 in
/-- The second branch, where it runs. -/
theorem next_wp (c : Dev nD) (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg9 : Memref sig .tc .vmem S256x2048 .i32) (harg9 : arg9.IsWhole) (v1 v3 v5 v10 v13 : BitVec 32) (k0_hw3 : k0_chk3 i v1 v3 v5 v10 v13) (k0_h2 : k0_cond2 i v1 v5 v10 v13 = 1#1)
    (hv5 : v5.toNat < 64) (hv3 : v3.toNat < 2)
    (fg : bufOf (F := F) c mWg) (fu : bufOf (F := F) c mWu) (fd : bufOf (F := F) c mWd) (b0 : bufOf (F := F) c sGate) (b1 : bufOf (F := F) c sUp) (b2 : bufOf (F := F) c sDown)
    (fx : bufOf (F := F) c arg5) (fy : bufOf (F := F) c arg9) (W : Waits sig Unit) (K : PUnit → sProp 𝕄) :
    iprop(Res c fg fu fd b0 b1 b2 ∗ pt c arg5 fullShare fx ∗ pt c arg9 fullShare fy ∗ owes (c : Thread nD τ) 0 W
      ∗ (Res c fg fu fd (putG ((1#32 : BitVec 32) - v3).toNat ⟨v5.toNat, hv5⟩ fg b0) (putG ((1#32 : BitVec 32) - v3).toNat ⟨v5.toNat, hv5⟩ fu b1) (putD ((1#32 : BitVec 32) - v3).toNat ⟨v5.toNat, hv5⟩ fd b2)
        ∗ pt c arg5 fullShare fx
        ∗ pt c arg9 fullShare (outBlock arg5 arg9 fx fy (rdG v3.toNat hv3 b0) (rdG v3.toNat hv3 b1) (rdD v3.toNat hv3 b2))
        ∗ (∃ W', owes (c : Thread nD τ) 0 W') -∗ K ⟨⟩))
    ⊢ wp frame (wpE (defs₀ (F := F)) Variants.none c none) Set.univ (loadNext i arg1 harg1 arg2 harg2 arg3 harg3 arg4 harg4 arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6 v1 v3 v5 v10 v13 k0_hw3 k0_h2) K := by
  unfold Res
  iintro ⟨⟨HSG, HSU, HSD, Hg, Hu, Hd, HB0, HB1, HB2, Hs4, Hs5, Hs6, Hs7, Hs8, Hs9, Hs10, Hs11, Hs12, Hs13, Hs14, Hs15, Hs16, Hs17, Hs18, Hs19, Hs20, Hs21⟩, Hx, Hy, Ho, Hk⟩
  iapply (loadNext_wp c i arg1 harg1 arg2 harg2 arg3 harg3 arg4 harg4 arg5 harg5 arg9 harg9 v1 v3 v5 v10 v13 k0_hw3 k0_h2 hv5 hv3 fg fu fd b0 b1 b2 fx fy W K)
  isplitl [HSG]; · iexact HSG
  isplitl [HSU]; · iexact HSU
  isplitl [HSD]; · iexact HSD
  isplitl [Hg]; · iexact Hg
  isplitl [Hu]; · iexact Hu
  isplitl [Hd]; · iexact Hd
  isplitl [HB0]; · iexact HB0
  isplitl [HB1]; · iexact HB1
  isplitl [HB2]; · iexact HB2
  isplitl [Hx]; · iexact Hx
  isplitl [Hy]; · iexact Hy
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Ho]; · iexact Ho
  iintro ⟨HSG, HSU, HSD, Hg, Hu, Hd, ⟨%f0, HB0, %e0⟩, ⟨%f1, HB1, %e1⟩, ⟨%f2, HB2, %e2⟩, Hx, ⟨%f3, Hy, %e3⟩, Hs4, Hs5, Hs6, Hs7, Hs8, Hs9, Hs10, Hs11, Hs12, Hs13, Hs14, Hs15, Hs16, Hs17, Hs18, Hs19, Hs20, Hs21, Ho⟩
  subst e0 e1 e2 e3
  iapply Hk
  isplitr [Hx Hy Ho]; swap
  · isplitl [Hx]; · iexact Hx
    isplitl [Hy]; · iexact Hy
    iexact Ho
  isplitl [HSG]; · iexact HSG
  isplitl [HSU]; · iexact HSU
  isplitl [HSD]; · iexact HSD
  isplitl [Hg]; · iexact Hg
  isplitl [Hu]; · iexact Hu
  isplitl [Hd]; · iexact Hd
  isplitl [HB0]; · iexact HB0
  isplitl [HB1]; · iexact HB1
  isplitl [HB2]; · iexact HB2
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  iexact Hs21

set_option maxHeartbeats 4000000 in
/-- The third branch, where it runs. -/
theorem comp_wp (c : Dev nD) (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg9 : Memref sig .tc .vmem S256x2048 .i32) (harg9 : arg9.IsWhole) (v1 v3 v5 v10 v13 : BitVec 32) (k0_hw2 : k0_chk2 i v3) (k0_hw3 : k0_chk3 i v1 v3 v5 v10 v13) (k0_h3 : k0_cond3 i v1 v5 v10 v13 = 1#1)
    (hv3 : v3.toNat < 2)
    (fg : bufOf (F := F) c mWg) (fu : bufOf (F := F) c mWu) (fd : bufOf (F := F) c mWd) (b0 : bufOf (F := F) c sGate) (b1 : bufOf (F := F) c sUp) (b2 : bufOf (F := F) c sDown)
    (fx : bufOf (F := F) c arg5) (fy : bufOf (F := F) c arg9) (K : PUnit → sProp 𝕄) :
    iprop(Res c fg fu fd b0 b1 b2 ∗ pt c arg5 fullShare fx ∗ pt c arg9 fullShare fy
      ∗ (Res c fg fu fd b0 b1 b2
        ∗ pt c arg5 fullShare fx
        ∗ pt c arg9 fullShare (outBlock arg5 arg9 fx fy (rdG v3.toNat hv3 b0) (rdG v3.toNat hv3 b1) (rdD v3.toNat hv3 b2)) -∗ K ⟨⟩))
    ⊢ wp frame (wpE (defs₀ (F := F)) Variants.none c none) Set.univ (compute i arg1 harg1 arg2 harg2 arg3 harg3 arg4 harg4 arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6 v1 v3 v5 v10 v13 k0_hw2 k0_hw3 k0_h3) K := by
  unfold Res
  iintro ⟨⟨HSG, HSU, HSD, Hg, Hu, Hd, HB0, HB1, HB2, Hs4, Hs5, Hs6, Hs7, Hs8, Hs9, Hs10, Hs11, Hs12, Hs13, Hs14, Hs15, Hs16, Hs17, Hs18, Hs19, Hs20, Hs21⟩, Hx, Hy, Hk⟩
  iapply (compute_wp c i arg1 harg1 arg2 harg2 arg3 harg3 arg4 harg4 arg5 harg5 arg9 harg9 v1 v3 v5 v10 v13 k0_hw2 k0_hw3 k0_h3 hv3 b0 b1 b2 fx fy K)
  isplitl [HB0]; · iexact HB0
  isplitl [HB1]; · iexact HB1
  isplitl [HB2]; · iexact HB2
  isplitl [Hx]; · iexact Hx
  isplitl [Hy]; · iexact Hy
  iintro ⟨HB0, HB1, HB2, Hx, ⟨%f3, Hy, %e3⟩⟩
  subst e3
  iapply Hk
  isplitr [Hx Hy]; swap
  · isplitl [Hx]; · iexact Hx
    iexact Hy
  isplitl [HSG]; · iexact HSG
  isplitl [HSU]; · iexact HSU
  isplitl [HSD]; · iexact HSD
  isplitl [Hg]; · iexact Hg
  isplitl [Hu]; · iexact Hu
  isplitl [Hd]; · iexact Hd
  isplitl [HB0]; · iexact HB0
  isplitl [HB1]; · iexact HB1
  isplitl [HB2]; · iexact HB2
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  iexact Hs21

end Cert.Kernel.Hand

end
-- ==== Proof.Body.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import proofs.«01_k».proof.Proof.Step
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

local notation "𝕄" => MT nD τ sig Unit (Elt F) ℕ (Pipeline.UD sig nD τ) ℕ

set_option maxHeartbeats 8000000 in
/-- The branch `loadFirst` and what follows it, written on. -/
theorem loadFirst_bind (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg6 : Memref sig .tc .hbm S64x4096x512 .f32) (harg6 : arg6.IsWhole) (arg7 : Memref sig .tc .hbm S64x4096x512 .f32) (harg7 : arg7.IsWhole) (arg8 : Memref sig .tc .hbm S64x512x4096 .f32) (harg8 : arg8.IsWhole) (arg9 : Memref sig .tc .vmem S256x2048 .i32) (harg9 : arg9.IsWhole) (arg10 : Memref sig .tc .vmem S2x4096x512 .bf16) (harg10 : arg10.IsWhole) (arg11 : Memref sig .tc .vmem S2x4096x512 .bf16) (harg11 : arg11.IsWhole) (arg12 : Memref sig .tc .vmem S2x512x4096 .bf16) (harg12 : arg12.IsWhole) (arg13 : Memref sig .tc .vmem S6x512x512 .f32) (harg13 : arg13.IsWhole) (arg14 : Memref sig .tc .vmem S6x512x512 .f32) (harg14 : arg14.IsWhole) (arg15 : Memref sig .tc .vmem S6x64x4096 .f32) (harg15 : arg15.IsWhole) (arg16 : DmaSems sig S3x6) (v1 : BitVec 32) (k0_hw1 : k0_chk1 i v1) (v3 : BitVec 32) (k0_hw2 : k0_chk2 i v3) (k0_h1 : k0_cond1 i = 1#1) (k : PUnit → Prog (TpuEff nD τ sig (Elt F) Λ₀ .tc) PUnit) :
    (loadFirst i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1 >>= k) = (do
    k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    let v155 : FVec F S512x512 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1 v155
    k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 k0_h1
    k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    let v353 : FVec F S512x512 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1 v353
    k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    let ⟨v439, v441⟩ : Σ' (v439 : FVec F S64x4096 .bf16), Vec F S1x64x4096 .bf16 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1
    k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1 v439 v441
    let v469 : Vec F S1x512x512 .f32 ← Prog.lift (.load arg14 (Rect.unit (s := S6x512x512) ![1, 0, 0] S1x512x512.size inb_S6x512x512_S1x512x512_1_0_0).toLoadRect (View.loadsAt_vmem h_S1x512x512))
    let v473 : Vec F S1x512x512 .bf16 ← Prog.lift (.load arg11 (Rect.unit (s := S2x4096x512) (k0_off43 v3) S1x512x512.size (k0_off43_inb i v3 k0_hw2 k0_h1)).toLoadRect (View.loadsAt_vmem h_S1x512x512))
    Prog.lift (.store arg11 (Rect.unit (s := S2x4096x512) (k0_off43 v3) S1x512x512.size (k0_off43_inb i v3 k0_hw2 k0_h1)) (k0_pay1 v469) Finset.univ (View.stores_vmem h_S1x512x512 (harg11.storeExact_slice rfl _ (k0_off43_packedbf16 i v3 k0_hw2 k0_h1)) (fun _ => rfl)) (.inl rfl))
    let v476 : Vec F S1x64x4096 .f32 ← Prog.lift (.load arg15 (Rect.unit (s := S6x64x4096) ![1, 0, 0] S1x64x4096.size inb_S6x64x4096_S1x64x4096_1_0_0).toLoadRect (View.loadsAt_vmem h_S1x64x4096))
    let v480 : Vec F S1x64x4096 .bf16 ← Prog.lift (.load arg12 (Rect.unit (s := S2x512x4096) (k0_off44 v3) S1x64x4096.size (k0_off44_inb i v3 k0_hw2 k0_h1)).toLoadRect (View.loadsAt_vmem h_S1x64x4096))
    Prog.lift (.store arg12 (Rect.unit (s := S2x512x4096) (k0_off44 v3) S1x64x4096.size (k0_off44_inb i v3 k0_hw2 k0_h1)) (k0_pay2 v476) Finset.univ (View.stores_vmem h_S1x64x4096 (harg12.storeExact_slice rfl _ (k0_off44_packedbf16 i v3 k0_hw2 k0_h1)) (fun _ => rfl)) (.inl rfl))
    k ⟨⟩ : Prog (TpuEff nD τ sig (Elt F) Λ₀ .tc) PUnit) := by
  unfold loadFirst
  simp only [Prog.bind_assoc, pure_bind]
  repeat' first
    | rfl
    | (refine bind_congr fun x => ?_; first | (rcases x with ⟨_, _⟩; simp only [Prog.bind_assoc, pure_bind]) | skip)

set_option maxHeartbeats 8000000 in
/-- The branch `loadNext` and what follows it, written on. -/
theorem loadNext_bind (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg6 : Memref sig .tc .hbm S64x4096x512 .f32) (harg6 : arg6.IsWhole) (arg7 : Memref sig .tc .hbm S64x4096x512 .f32) (harg7 : arg7.IsWhole) (arg8 : Memref sig .tc .hbm S64x512x4096 .f32) (harg8 : arg8.IsWhole) (arg9 : Memref sig .tc .vmem S256x2048 .i32) (harg9 : arg9.IsWhole) (arg10 : Memref sig .tc .vmem S2x4096x512 .bf16) (harg10 : arg10.IsWhole) (arg11 : Memref sig .tc .vmem S2x4096x512 .bf16) (harg11 : arg11.IsWhole) (arg12 : Memref sig .tc .vmem S2x512x4096 .bf16) (harg12 : arg12.IsWhole) (arg13 : Memref sig .tc .vmem S6x512x512 .f32) (harg13 : arg13.IsWhole) (arg14 : Memref sig .tc .vmem S6x512x512 .f32) (harg14 : arg14.IsWhole) (arg15 : Memref sig .tc .vmem S6x64x4096 .f32) (harg15 : arg15.IsWhole) (arg16 : DmaSems sig S3x6) (v1 v3 v5 v10 v13 : BitVec 32) (k0_hw3 : k0_chk3 i v1 v3 v5 v10 v13) (k0_h2 : k0_cond2 i v1 v5 v10 v13 = 1#1) (k : PUnit → Prog (TpuEff nD τ sig (Elt F) Λ₀ .tc) PUnit) :
    (loadNext i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 >>= k) = (do
    let v27 : BitVec 32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2
    k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2
    k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2
    k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2
    let ⟨v140, v144⟩ : Σ' (v140 : FVec F S256x4096 .bf16), FVec F S256x512 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2
    k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    let v215 : FVec F S256x512 .bf16 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v140 v144
    k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    let ⟨v275, cst_238⟩ : Σ' (v275 : FVec F S512x4096 .bf16), FVec F S256x4096 .f32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    let ⟨v301, v303⟩ : Σ' (v301 : FVec F S512x512 .bf16), Vec F S1x512x512 .bf16 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27 v215 v275 cst_238
    k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27 v301 v303
    k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    let v418 : FVec F S512x512 .bf16 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27 v418
    k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    let v507 : FVec F S1x512x512 .bf16 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 v27
    Prog.lift (.store arg11 (Rect.unit (s := S2x4096x512) (k0_off77 v3) S1x512x512.size (k0_off77_inb i v1 v3 v5 v10 v13 k0_hw3 k0_h2)) v507 Finset.univ (View.stores_vmem h_S1x512x512 (harg11.storeExact_slice rfl _ (k0_off77_packedbf16 i v1 v3 v5 v10 v13 k0_hw3 k0_h2)) (fun _ => rfl)) (.inl rfl))
    let v508 : Vec F S1x64x4096 .f32 ← Prog.lift (.load arg15 (Rect.unit (s := S6x64x4096) ![1, 0, 0] S1x64x4096.size inb_S6x64x4096_S1x64x4096_1_0_0).toLoadRect (View.loadsAt_vmem h_S1x64x4096))
    let v512 : Vec F S1x64x4096 .bf16 ← Prog.lift (.load arg12 (Rect.unit (s := S2x512x4096) (k0_off78 v3) S1x64x4096.size (k0_off78_inb i v1 v3 v5 v10 v13 k0_hw3 k0_h2)).toLoadRect (View.loadsAt_vmem h_S1x64x4096))
    Prog.lift (.store arg12 (Rect.unit (s := S2x512x4096) (k0_off78 v3) S1x64x4096.size (k0_off78_inb i v1 v3 v5 v10 v13 k0_hw3 k0_h2)) (k0_pay3 v508) Finset.univ (View.stores_vmem h_S1x64x4096 (harg12.storeExact_slice rfl _ (k0_off78_packedbf16 i v1 v3 v5 v10 v13 k0_hw3 k0_h2)) (fun _ => rfl)) (.inl rfl))
    k ⟨⟩ : Prog (TpuEff nD τ sig (Elt F) Λ₀ .tc) PUnit) := by
  unfold loadNext
  simp only [Prog.bind_assoc, pure_bind]
  repeat' first
    | rfl
    | (refine bind_congr fun x => ?_; first | (rcases x with ⟨_, _⟩; simp only [Prog.bind_assoc, pure_bind]) | skip)

set_option maxHeartbeats 8000000 in
/-- The branch `compute` and what follows it, written on. -/
theorem compute_bind (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg6 : Memref sig .tc .hbm S64x4096x512 .f32) (harg6 : arg6.IsWhole) (arg7 : Memref sig .tc .hbm S64x4096x512 .f32) (harg7 : arg7.IsWhole) (arg8 : Memref sig .tc .hbm S64x512x4096 .f32) (harg8 : arg8.IsWhole) (arg9 : Memref sig .tc .vmem S256x2048 .i32) (harg9 : arg9.IsWhole) (arg10 : Memref sig .tc .vmem S2x4096x512 .bf16) (harg10 : arg10.IsWhole) (arg11 : Memref sig .tc .vmem S2x4096x512 .bf16) (harg11 : arg11.IsWhole) (arg12 : Memref sig .tc .vmem S2x512x4096 .bf16) (harg12 : arg12.IsWhole) (arg13 : Memref sig .tc .vmem S6x512x512 .f32) (harg13 : arg13.IsWhole) (arg14 : Memref sig .tc .vmem S6x512x512 .f32) (harg14 : arg14.IsWhole) (arg15 : Memref sig .tc .vmem S6x64x4096 .f32) (harg15 : arg15.IsWhole) (arg16 : DmaSems sig S3x6) (v1 v3 v5 v10 v13 : BitVec 32) (k0_hw2 : k0_chk2 i v3) (k0_hw3 : k0_chk3 i v1 v3 v5 v10 v13) (k0_h3 : k0_cond3 i v1 v5 v10 v13 = 1#1) (k : PUnit → Prog (TpuEff nD τ sig (Elt F) Λ₀ .tc) PUnit) :
    (compute i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw2 k0_hw3 k0_h3 >>= k) = (do
    let v27 : Vec F S256x2048 .i32 ← Prog.lift (.load arg5 (Rect.unit (s := S256x2048) ![0, 0] S256x2048.size inb_S256x2048_S256x2048_0_0).toLoadRect (View.loadsAt_vmem h_S256x2048))
    let v33 : Vec F S1x4096x512 .bf16 ← Prog.lift (.load arg10 (Rect.unit (s := S2x4096x512) (k0_off79 v3) S1x4096x512.size (k0_off79_inb i v1 v3 v5 v10 v13 k0_hw3 k0_h3)).toLoadRect (View.loadsAt_vmem h_S1x4096x512))
    let v45 : Vec F S1x4096x512 .bf16 ← Prog.lift (.load arg11 (Rect.unit (s := S2x4096x512) (k0_off79 v3) S1x4096x512.size (k0_off79_inb i v1 v3 v5 v10 v13 k0_hw3 k0_h3)).toLoadRect (View.loadsAt_vmem h_S1x4096x512))
    let v51 : Vec F S1x512x4096 .bf16 ← Prog.lift (.load arg12 (Rect.unit (s := S2x512x4096) (k0_off80 v3) S1x512x4096.size (k0_off80_inb i v1 v3 v5 v10 v13 k0_hw3 k0_h3)).toLoadRect (View.loadsAt_vmem h_S1x512x4096))
    let v57 : Vec F S256x2048 .i32 ← Prog.lift (.load arg9 (Rect.unit (s := S256x2048) ![0, 0] S256x2048.size inb_S256x2048_S256x2048_0_0).toLoadRect (View.loadsAt_vmem h_S256x2048))
    Prog.lift (.store arg9 (Rect.unit (s := S256x2048) ![0, 0] S256x2048.size inb_S256x2048_S256x2048_0_0) (k0_pay4 v27 v33 v45 v51) Finset.univ (View.stores_vmem_bits_univ h_S256x2048 rfl) (.inl rfl))
    k ⟨⟩ : Prog (TpuEff nD τ sig (Elt F) Λ₀ .tc) PUnit) := by
  unfold compute
  simp only [Prog.bind_assoc, pure_bind]
  repeat' first
    | rfl
    | (refine bind_congr fun x => ?_; first | (rcases x with ⟨_, _⟩; simp only [Prog.bind_assoc, pure_bind]) | skip)

/-- The body with its three branches named. -/
def body3 (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg6 : Memref sig .tc .hbm S64x4096x512 .f32) (harg6 : arg6.IsWhole) (arg7 : Memref sig .tc .hbm S64x4096x512 .f32) (harg7 : arg7.IsWhole) (arg8 : Memref sig .tc .hbm S64x512x4096 .f32) (harg8 : arg8.IsWhole) (arg9 : Memref sig .tc .vmem S256x2048 .i32) (harg9 : arg9.IsWhole) (arg10 : Memref sig .tc .vmem S2x4096x512 .bf16) (harg10 : arg10.IsWhole) (arg11 : Memref sig .tc .vmem S2x4096x512 .bf16) (harg11 : arg11.IsWhole) (arg12 : Memref sig .tc .vmem S2x512x4096 .bf16) (harg12 : arg12.IsWhole) (arg13 : Memref sig .tc .vmem S6x512x512 .f32) (harg13 : arg13.IsWhole) (arg14 : Memref sig .tc .vmem S6x512x512 .f32) (harg14 : arg14.IsWhole) (arg15 : Memref sig .tc .vmem S6x64x4096 .f32) (harg15 : arg15.IsWhole) (arg16 : DmaSems sig S3x6) : Prog (TpuEff nD τ sig (Elt F) Λ₀ .tc) PUnit := do
  let v1 : Elt F .i32 ← smemLoad arg1 (Rect.unit (s := S128) (k0_off1 i) S1.size (k0_off1_inb i)) numel1_S1 rfl
  have k0_hw1 : k0_chk1 i v1 := (← Prog.lift (TpuEff.assume (k0_chk1 i v1) (k0_chk1.dec i v1))).down
  let v3 : Elt F .i32 ← smemLoad arg3 (Rect.unit (s := S128) (k0_off1 i) S1.size (k0_off1_inb i)) numel1_S1 rfl
  have k0_hw2 : k0_chk2 i v3 := (← Prog.lift (TpuEff.assume (k0_chk2 i v3) (k0_chk2.dec i v3))).down
  let v5 : Elt F .i32 ← smemLoad arg2 (Rect.unit (s := S128) (k0_off1 i) S1.size (k0_off1_inb i)) numel1_S1 rfl
  let v10 : Elt F .i32 ← smemLoad arg1 (Rect.unit (s := S128) (k0_off2 i) S1.size (k0_off2_inb i)) numel1_S1 rfl
  let v13 : Elt F .i32 ← smemLoad arg4 (Rect.unit (s := S1) ![0] S1.size inb_S1_S1_0) numel1_S1 rfl
  have k0_hw3 : k0_chk3 i v1 v3 v5 v10 v13 := (← Prog.lift (TpuEff.assume (k0_chk3 i v1 v3 v5 v10 v13) (k0_chk3.dec i v1 v3 v5 v10 v13))).down
  (if k0_h1 : k0_cond1 i = 1#1 then loadFirst i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1 else pure ⟨⟩)
  (if k0_h2 : k0_cond2 i v1 v5 v10 v13 = 1#1 then loadNext i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 else pure ⟨⟩)
  (if k0_h3 : k0_cond3 i v1 v5 v10 v13 = 1#1 then compute i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw2 k0_hw3 k0_h3 else pure ⟨⟩)
  pure ⟨⟩

set_option maxHeartbeats 8000000 in
theorem skel_eq (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg6 : Memref sig .tc .hbm S64x4096x512 .f32) (harg6 : arg6.IsWhole) (arg7 : Memref sig .tc .hbm S64x4096x512 .f32) (harg7 : arg7.IsWhole) (arg8 : Memref sig .tc .hbm S64x512x4096 .f32) (harg8 : arg8.IsWhole) (arg9 : Memref sig .tc .vmem S256x2048 .i32) (harg9 : arg9.IsWhole) (arg10 : Memref sig .tc .vmem S2x4096x512 .bf16) (harg10 : arg10.IsWhole) (arg11 : Memref sig .tc .vmem S2x4096x512 .bf16) (harg11 : arg11.IsWhole) (arg12 : Memref sig .tc .vmem S2x512x4096 .bf16) (harg12 : arg12.IsWhole) (arg13 : Memref sig .tc .vmem S6x512x512 .f32) (harg13 : arg13.IsWhole) (arg14 : Memref sig .tc .vmem S6x512x512 .f32) (harg14 : arg14.IsWhole) (arg15 : Memref sig .tc .vmem S6x64x4096 .f32) (harg15 : arg15.IsWhole) (arg16 : DmaSems sig S3x6) : cc0_expert_ffn_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 = body3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 := by
  unfold cc0_expert_ffn_skel body3
  refine bind_congr fun v1 => bind_congr fun hw1 => bind_congr fun v3 => bind_congr fun hw2 => bind_congr fun v5 => bind_congr fun v10 => bind_congr fun v13 => bind_congr fun hw3 => ?_
  by_cases h1 : k0_cond1 i = 1#1 <;> by_cases h2 : k0_cond2 i v1 v5 v10 v13 = 1#1 <;> by_cases h3 : k0_cond3 i v1 v5 v10 v13 = 1#1 <;>
    simp only [dif_pos, dif_neg, h1, h2, h3, not_false_eq_true, pure_bind, loadFirst_bind, loadNext_bind, compute_bind] <;> rfl

end Cert.Kernel.Hand

end
-- ==== Proof.Run.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import proofs.«01_k».proof.Proof.Step
public import proofs.«01_k».proof.Proof.Body
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

local notation "𝕄" => MT nD τ sig Unit (Elt F) ℕ (Pipeline.UD sig nD τ) ℕ

/-- The four tables the kernel prefetches: each block's expert, the expert after it, its set, the blocks in use. -/
abbrev mT1 : Memref sig .tc .smem S128 .i32 := Memref.whole main_v25
abbrev mT2 : Memref sig .tc .smem S128 .i32 := Memref.whole main_v36
abbrev mT3 : Memref sig .tc .smem S128 .i32 := Memref.whole main_v46
abbrev mT4 : Memref sig .tc .smem S1 .i32 := Memref.whole main_v47

def ix1 (k : ℕ) (h : k < 128) : S128.Idx := fun a => ⟨k, by fin_cases a; exact h⟩
/-- The word of a table of 128 words at an offset, and the one word of the last table. -/
def wd (T : Vec F S128 .i32) (k : ℕ) (h : k < 128) : BitVec 32 := T (ix1 k h)
def wd1 (T : Vec F S1 .i32) : BitVec 32 := T (fun a => ⟨0, by fin_cases a; exact Nat.one_pos⟩)
theorem off1_lt (i : grid0.Coords) : (k0_off1 i) 0 < 128 := by have h : (k0_off1 i) 0 + 1 ≤ 128 := k0_off1_inb i 0; omega
theorem off2_lt (i : grid0.Coords) : (k0_off2 i) 0 < 128 := by have h : (k0_off2 i) 0 + 1 ≤ 128 := k0_off2_inb i 0; omega

/-- The weights after the first branch: at the first point, the first expert's put in its set. -/
def usedG (i : grid0.Coords) (v1 v3 : BitVec 32) (hv1 : v1.toNat < 64) (w : Vec F S64x4096x512 .f32) (b : Vec F S2x4096x512 .bf16) : Vec F S2x4096x512 .bf16 :=
  if k0_cond1 i = 1#1 then putG v3.toNat ⟨v1.toNat, hv1⟩ w b else b
def usedD (i : grid0.Coords) (v1 v3 : BitVec 32) (hv1 : v1.toNat < 64) (w : Vec F S64x512x4096 .f32) (b : Vec F S2x512x4096 .bf16) : Vec F S2x512x4096 .bf16 :=
  if k0_cond1 i = 1#1 then putD v3.toNat ⟨v1.toNat, hv1⟩ w b else b
/-- The weights after the second branch: where the block opens an expert with a next one, that one's in the other set. -/
def nextG (i : grid0.Coords) (v1 v3 v5 v10 v13 : BitVec 32) (hv5 : k0_cond2 i v1 v5 v10 v13 = 1#1 → v5.toNat < 64)
    (w : Vec F S64x4096x512 .f32) (b : Vec F S2x4096x512 .bf16) : Vec F S2x4096x512 .bf16 :=
  if h : k0_cond2 i v1 v5 v10 v13 = 1#1 then putG ((1#32 : BitVec 32) - v3).toNat ⟨v5.toNat, hv5 h⟩ w b else b
def nextD (i : grid0.Coords) (v1 v3 v5 v10 v13 : BitVec 32) (hv5 : k0_cond2 i v1 v5 v10 v13 = 1#1 → v5.toNat < 64)
    (w : Vec F S64x512x4096 .f32) (b : Vec F S2x512x4096 .bf16) : Vec F S2x512x4096 .bf16 :=
  if h : k0_cond2 i v1 v5 v10 v13 = 1#1 then putD ((1#32 : BitVec 32) - v3).toNat ⟨v5.toNat, hv5 h⟩ w b else b

theorem pure_wp (c : Dev nD) (K : PUnit → sProp 𝕄) : K ⟨⟩ ⊢ wp frame (wpE (defs₀ (F := F)) Variants.none c none) Set.univ (pure ⟨⟩ : Prog (TpuEff nD τ sig (Elt F) Λ₀ .tc) PUnit) K := by
  iintro H
  sl_step
  iexact H

set_option maxHeartbeats 4000000 in
/-- The first branch, run or not. -/
theorem ite1_wp (c : Dev nD) (i : grid0.Coords) (arg5 : Memref sig .tc .vmem S256x2048 .i32) (harg5 : arg5.IsWhole) (arg9 : Memref sig .tc .vmem S256x2048 .i32) (harg9 : arg9.IsWhole) (v1 : BitVec 32) (k0_hw1 : k0_chk1 i v1) (v3 : BitVec 32) (k0_hw2 : k0_chk2 i v3)
    (hv1 : v1.toNat < 64) (fg : bufOf (F := F) c mWg) (fu : bufOf (F := F) c mWu) (fd : bufOf (F := F) c mWd) (b0 : bufOf (F := F) c sGate) (b1 : bufOf (F := F) c sUp) (b2 : bufOf (F := F) c sDown) (W : Waits sig Unit) (K : PUnit → sProp 𝕄) :
    iprop(Res c fg fu fd b0 b1 b2 ∗ owes (c : Thread nD τ) 0 W ∗ (Res c fg fu fd (usedG i v1 v3 hv1 fg b0) (usedG i v1 v3 hv1 fu b1) (usedD i v1 v3 hv1 fd b2) ∗ (∃ W', owes (c : Thread nD τ) 0 W') -∗ K ⟨⟩))
    ⊢ wp frame (wpE (defs₀ (F := F)) Variants.none c none) Set.univ ((if k0_h1 : k0_cond1 i = 1#1 then loadFirst i mT1 (Memref.isWhole_whole _) mT2 (Memref.isWhole_whole _) mT3 (Memref.isWhole_whole _) mT4 (Memref.isWhole_whole _) arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6 v1 k0_hw1 v3 k0_hw2 k0_h1 else pure ⟨⟩)) K := by
  by_cases h : k0_cond1 i = 1#1
  · rw [dif_pos h]
    have E0 : usedG i v1 v3 hv1 fg b0 = putG v3.toNat ⟨v1.toNat, hv1⟩ fg b0 := if_pos h
    have E1 : usedG i v1 v3 hv1 fu b1 = putG v3.toNat ⟨v1.toNat, hv1⟩ fu b1 := if_pos h
    have E2 : usedD i v1 v3 hv1 fd b2 = putD v3.toNat ⟨v1.toNat, hv1⟩ fd b2 := if_pos h
    rw [E0, E1, E2]
    exact first_wp c i mT1 (Memref.isWhole_whole _) mT2 (Memref.isWhole_whole _) mT3 (Memref.isWhole_whole _) mT4 (Memref.isWhole_whole _) arg5 harg5 arg9 harg9 v1 k0_hw1 v3 k0_hw2 h fg fu fd b0 b1 b2 hv1 W K
  · rw [dif_neg h]
    have E0 : usedG i v1 v3 hv1 fg b0 = b0 := if_neg h
    have E1 : usedG i v1 v3 hv1 fu b1 = b1 := if_neg h
    have E2 : usedD i v1 v3 hv1 fd b2 = b2 := if_neg h
    rw [E0, E1, E2]
    iintro ⟨HR, Ho, Hk⟩
    iapply (pure_wp c K)
    iapply Hk
    isplitl [HR]; · iexact HR
    iexists _; iexact Ho

set_option maxHeartbeats 4000000 in
/-- The second branch, run or not. -/
theorem ite2_wp (c : Dev nD) (i : grid0.Coords) (arg5 : Memref sig .tc .vmem S256x2048 .i32) (harg5 : arg5.IsWhole) (arg9 : Memref sig .tc .vmem S256x2048 .i32) (harg9 : arg9.IsWhole) (v1 v3 v5 v10 v13 : BitVec 32) (k0_hw3 : k0_chk3 i v1 v3 v5 v10 v13)
    (hv5 : k0_cond2 i v1 v5 v10 v13 = 1#1 → v5.toNat < 64) (hv3 : v3.toNat < 2) (fg : bufOf (F := F) c mWg) (fu : bufOf (F := F) c mWu) (fd : bufOf (F := F) c mWd) (b0 : bufOf (F := F) c sGate) (b1 : bufOf (F := F) c sUp) (b2 : bufOf (F := F) c sDown)
    (fx : bufOf (F := F) c arg5) (fy : bufOf (F := F) c arg9) (W : Waits sig Unit) (K : PUnit → sProp 𝕄) :
    iprop(Res c fg fu fd b0 b1 b2 ∗ pt c arg5 fullShare fx ∗ pt c arg9 fullShare fy ∗ owes (c : Thread nD τ) 0 W
      ∗ (Res c fg fu fd (nextG i v1 v3 v5 v10 v13 hv5 fg b0) (nextG i v1 v3 v5 v10 v13 hv5 fu b1) (nextD i v1 v3 v5 v10 v13 hv5 fd b2) ∗ pt c arg5 fullShare fx
        ∗ pt c arg9 fullShare (if k0_cond2 i v1 v5 v10 v13 = 1#1 then (outBlock arg5 arg9 fx fy (rdG v3.toNat hv3 b0) (rdG v3.toNat hv3 b1) (rdD v3.toNat hv3 b2)) else fy) ∗ (∃ W', owes (c : Thread nD τ) 0 W') -∗ K ⟨⟩))
    ⊢ wp frame (wpE (defs₀ (F := F)) Variants.none c none) Set.univ ((if k0_h2 : k0_cond2 i v1 v5 v10 v13 = 1#1 then loadNext i mT1 (Memref.isWhole_whole _) mT2 (Memref.isWhole_whole _) mT3 (Memref.isWhole_whole _) mT4 (Memref.isWhole_whole _) arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6 v1 v3 v5 v10 v13 k0_hw3 k0_h2 else pure ⟨⟩)) K := by
  by_cases h : k0_cond2 i v1 v5 v10 v13 = 1#1
  · rw [dif_pos h, if_pos h]
    have E0 : nextG i v1 v3 v5 v10 v13 hv5 fg b0 = putG ((1#32 : BitVec 32) - v3).toNat ⟨v5.toNat, hv5 h⟩ fg b0 := dif_pos h
    have E1 : nextG i v1 v3 v5 v10 v13 hv5 fu b1 = putG ((1#32 : BitVec 32) - v3).toNat ⟨v5.toNat, hv5 h⟩ fu b1 := dif_pos h
    have E2 : nextD i v1 v3 v5 v10 v13 hv5 fd b2 = putD ((1#32 : BitVec 32) - v3).toNat ⟨v5.toNat, hv5 h⟩ fd b2 := dif_pos h
    rw [E0, E1, E2]
    exact next_wp c i mT1 (Memref.isWhole_whole _) mT2 (Memref.isWhole_whole _) mT3 (Memref.isWhole_whole _) mT4 (Memref.isWhole_whole _) arg5 harg5 arg9 harg9 v1 v3 v5 v10 v13 k0_hw3 h (hv5 h) hv3 fg fu fd b0 b1 b2 fx fy W K
  · rw [dif_neg h, if_neg h]
    have E0 : nextG i v1 v3 v5 v10 v13 hv5 fg b0 = b0 := dif_neg h
    have E1 : nextG i v1 v3 v5 v10 v13 hv5 fu b1 = b1 := dif_neg h
    have E2 : nextD i v1 v3 v5 v10 v13 hv5 fd b2 = b2 := dif_neg h
    rw [E0, E1, E2]
    iintro ⟨HR, Hx, Hy, Ho, Hk⟩
    iapply (pure_wp c K)
    iapply Hk
    isplitl [HR]; · iexact HR
    isplitl [Hx]; · iexact Hx
    isplitl [Hy]; · iexact Hy
    iexists _; iexact Ho

set_option maxHeartbeats 4000000 in
/-- The third branch, run or not. -/
theorem ite3_wp (c : Dev nD) (i : grid0.Coords) (arg5 : Memref sig .tc .vmem S256x2048 .i32) (harg5 : arg5.IsWhole) (arg9 : Memref sig .tc .vmem S256x2048 .i32) (harg9 : arg9.IsWhole) (v1 v3 v5 v10 v13 : BitVec 32) (k0_hw2 : k0_chk2 i v3) (k0_hw3 : k0_chk3 i v1 v3 v5 v10 v13)
    (hv3 : v3.toNat < 2) (fg : bufOf (F := F) c mWg) (fu : bufOf (F := F) c mWu) (fd : bufOf (F := F) c mWd) (b0 : bufOf (F := F) c sGate) (b1 : bufOf (F := F) c sUp) (b2 : bufOf (F := F) c sDown)
    (fx : bufOf (F := F) c arg5) (fy : bufOf (F := F) c arg9) (K : PUnit → sProp 𝕄) :
    iprop(Res c fg fu fd b0 b1 b2 ∗ pt c arg5 fullShare fx ∗ pt c arg9 fullShare fy
      ∗ (Res c fg fu fd b0 b1 b2 ∗ pt c arg5 fullShare fx
        ∗ pt c arg9 fullShare (if k0_cond3 i v1 v5 v10 v13 = 1#1 then (outBlock arg5 arg9 fx fy (rdG v3.toNat hv3 b0) (rdG v3.toNat hv3 b1) (rdD v3.toNat hv3 b2)) else fy) -∗ K ⟨⟩))
    ⊢ wp frame (wpE (defs₀ (F := F)) Variants.none c none) Set.univ ((if k0_h3 : k0_cond3 i v1 v5 v10 v13 = 1#1 then compute i mT1 (Memref.isWhole_whole _) mT2 (Memref.isWhole_whole _) mT3 (Memref.isWhole_whole _) mT4 (Memref.isWhole_whole _) arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6 v1 v3 v5 v10 v13 k0_hw2 k0_hw3 k0_h3 else pure ⟨⟩)) K := by
  by_cases h : k0_cond3 i v1 v5 v10 v13 = 1#1
  · rw [dif_pos h, if_pos h]
    exact comp_wp c i mT1 (Memref.isWhole_whole _) mT2 (Memref.isWhole_whole _) mT3 (Memref.isWhole_whole _) mT4 (Memref.isWhole_whole _) arg5 harg5 arg9 harg9 v1 v3 v5 v10 v13 k0_hw2 k0_hw3 h hv3 fg fu fd b0 b1 b2 fx fy K
  · rw [dif_neg h, if_neg h]
    iintro ⟨HR, Hx, Hy, Hk⟩
    iapply (pure_wp c K)
    iapply Hk
    isplitl [HR]; · iexact HR
    isplitl [Hx]; · iexact Hx
    iexact Hy

/-- The three branches of a point. -/
def tail (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg6 : Memref sig .tc .hbm S64x4096x512 .f32) (harg6 : arg6.IsWhole) (arg7 : Memref sig .tc .hbm S64x4096x512 .f32) (harg7 : arg7.IsWhole) (arg8 : Memref sig .tc .hbm S64x512x4096 .f32) (harg8 : arg8.IsWhole) (arg9 : Memref sig .tc .vmem S256x2048 .i32) (harg9 : arg9.IsWhole) (arg10 : Memref sig .tc .vmem S2x4096x512 .bf16) (harg10 : arg10.IsWhole) (arg11 : Memref sig .tc .vmem S2x4096x512 .bf16) (harg11 : arg11.IsWhole) (arg12 : Memref sig .tc .vmem S2x512x4096 .bf16) (harg12 : arg12.IsWhole) (arg13 : Memref sig .tc .vmem S6x512x512 .f32) (harg13 : arg13.IsWhole) (arg14 : Memref sig .tc .vmem S6x512x512 .f32) (harg14 : arg14.IsWhole) (arg15 : Memref sig .tc .vmem S6x64x4096 .f32) (harg15 : arg15.IsWhole) (arg16 : DmaSems sig S3x6) (v1 v3 v5 v10 v13 : BitVec 32) (k0_hw1 : k0_chk1 i v1) (k0_hw2 : k0_chk2 i v3) (k0_hw3 : k0_chk3 i v1 v3 v5 v10 v13) : Prog (TpuEff nD τ sig (Elt F) Λ₀ .tc) PUnit :=
  (if k0_h1 : k0_cond1 i = 1#1 then loadFirst i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 k0_hw1 v3 k0_hw2 k0_h1 else pure ⟨⟩) >>= fun _ =>
  (if k0_h2 : k0_cond2 i v1 v5 v10 v13 = 1#1 then loadNext i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw3 k0_h2 else pure ⟨⟩) >>= fun _ =>
  (if k0_h3 : k0_cond3 i v1 v5 v10 v13 = 1#1 then compute i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 k0_hw2 k0_hw3 k0_h3 else pure ⟨⟩) >>= fun _ => pure ⟨⟩

theorem ret_bnd {E : Type → Type _} {α β : Type} (a : α) (k : α → Prog E β) : (Prog.ret a >>= k) = k a := rfl
theorem lift_bnd {E : Type → Type _} {α β : Type} (e : E α) (k : α → Prog E β) : (Prog.lift e >>= k) = Prog.op e k := rfl

set_option maxHeartbeats 600000 in
theorem body3_eq (i : grid0.Coords) (arg1 : Memref sig .tc .smem S128 .i32) (harg1 : arg1.IsWhole) (arg2 : Memref sig .tc .smem S128 .i32) (harg2 : arg2.IsWhole) (arg3 : Memref sig .tc .smem S128 .i32) (harg3 : arg3.IsWhole) (arg4 : Memref sig .tc .smem S1 .i32) (harg4 : arg4.IsWhole) (arg5 : Memref sig .tc .vmem S256x2048 .i32) (harg5 : arg5.IsWhole) (arg6 : Memref sig .tc .hbm S64x4096x512 .f32) (harg6 : arg6.IsWhole) (arg7 : Memref sig .tc .hbm S64x4096x512 .f32) (harg7 : arg7.IsWhole) (arg8 : Memref sig .tc .hbm S64x512x4096 .f32) (harg8 : arg8.IsWhole) (arg9 : Memref sig .tc .vmem S256x2048 .i32) (harg9 : arg9.IsWhole) (arg10 : Memref sig .tc .vmem S2x4096x512 .bf16) (harg10 : arg10.IsWhole) (arg11 : Memref sig .tc .vmem S2x4096x512 .bf16) (harg11 : arg11.IsWhole) (arg12 : Memref sig .tc .vmem S2x512x4096 .bf16) (harg12 : arg12.IsWhole) (arg13 : Memref sig .tc .vmem S6x512x512 .f32) (harg13 : arg13.IsWhole) (arg14 : Memref sig .tc .vmem S6x512x512 .f32) (harg14 : arg14.IsWhole) (arg15 : Memref sig .tc .vmem S6x64x4096 .f32) (harg15 : arg15.IsWhole) (arg16 : DmaSems sig S3x6) : body3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 =
    (smemLoadElt (Val := Elt F) (Λ := Λ₀) arg1 (Rect.unit (s := S128) (k0_off1 i) S1.size (k0_off1_inb i)) (View.loads_smem_one rfl numel1_S1) (Shape.Idx.first (numel1_S1.symm ▸ Nat.one_pos)) fun (v1 : Elt F .i32) =>
    Prog.op (TpuEff.assume (nD := nD) (τ := τ) (sig := sig) (Val := Elt F) (Λ := Λ₀) (k0_chk1 i v1) (k0_chk1.dec i v1)) fun (h1 : PLift (k0_chk1 i v1)) =>
    smemLoadElt arg3 (Rect.unit (s := S128) (k0_off1 i) S1.size (k0_off1_inb i)) (View.loads_smem_one rfl numel1_S1) (Shape.Idx.first (numel1_S1.symm ▸ Nat.one_pos)) fun (v3 : Elt F .i32) =>
    Prog.op (TpuEff.assume (nD := nD) (τ := τ) (sig := sig) (Val := Elt F) (Λ := Λ₀) (k0_chk2 i v3) (k0_chk2.dec i v3)) fun (h2 : PLift (k0_chk2 i v3)) =>
    smemLoadElt arg2 (Rect.unit (s := S128) (k0_off1 i) S1.size (k0_off1_inb i)) (View.loads_smem_one rfl numel1_S1) (Shape.Idx.first (numel1_S1.symm ▸ Nat.one_pos)) fun (v5 : Elt F .i32) =>
    smemLoadElt arg1 (Rect.unit (s := S128) (k0_off2 i) S1.size (k0_off2_inb i)) (View.loads_smem_one rfl numel1_S1) (Shape.Idx.first (numel1_S1.symm ▸ Nat.one_pos)) fun (v10 : Elt F .i32) =>
    smemLoadElt arg4 (Rect.unit (s := S1) ![0] S1.size inb_S1_S1_0) (View.loads_smem_one rfl numel1_S1) (Shape.Idx.first (numel1_S1.symm ▸ Nat.one_pos)) fun (v13 : Elt F .i32) =>
    Prog.op (TpuEff.assume (nD := nD) (τ := τ) (sig := sig) (Val := Elt F) (Λ := Λ₀) (k0_chk3 i v1 v3 v5 v10 v13) (k0_chk3.dec i v1 v3 v5 v10 v13)) fun (h3 : PLift (k0_chk3 i v1 v3 v5 v10 v13)) =>
    tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v1 v3 v5 v10 v13 h1.down h2.down h3.down : Prog (TpuEff nD τ sig (Elt F) Λ₀ .tc) PUnit) := by
  unfold body3 smemLoad tail
  simp only [smemLoadElt_bind, ret_bnd, lift_bnd]

set_option maxHeartbeats 4000000 in
theorem tail_wp (c : Dev nD) (i : grid0.Coords) (arg5 : Memref sig .tc .vmem S256x2048 .i32) (harg5 : arg5.IsWhole) (arg9 : Memref sig .tc .vmem S256x2048 .i32) (harg9 : arg9.IsWhole) (v1 v3 v5 v10 v13 : BitVec 32) (k0_hw1 : k0_chk1 i v1) (k0_hw2 : k0_chk2 i v3) (k0_hw3 : k0_chk3 i v1 v3 v5 v10 v13)
    (hv1 : v1.toNat < 64) (hv3 : v3.toNat < 2) (hv5 : k0_cond2 i v1 v5 v10 v13 = 1#1 → v5.toNat < 64) (fg : bufOf (F := F) c mWg) (fu : bufOf (F := F) c mWu) (fd : bufOf (F := F) c mWd) (b0 : bufOf (F := F) c sGate) (b1 : bufOf (F := F) c sUp) (b2 : bufOf (F := F) c sDown)
    (fx : bufOf (F := F) c arg5) (fy : bufOf (F := F) c arg9) (W : Waits sig Unit) (K : PUnit → sProp 𝕄) :
    iprop(Res c fg fu fd b0 b1 b2 ∗ pt c arg5 fullShare fx ∗ pt c arg9 fullShare fy ∗ owes (c : Thread nD τ) 0 W
      ∗ (Res c fg fu fd (nextG i v1 v3 v5 v10 v13 hv5 fg (usedG i v1 v3 hv1 fg b0)) (nextG i v1 v3 v5 v10 v13 hv5 fu (usedG i v1 v3 hv1 fu b1)) (nextD i v1 v3 v5 v10 v13 hv5 fd (usedD i v1 v3 hv1 fd b2))
        ∗ pt c arg5 fullShare fx
        ∗ pt c arg9 fullShare (if k0_cond2 i v1 v5 v10 v13 = 1#1 ∨ k0_cond3 i v1 v5 v10 v13 = 1#1 then (outBlock arg5 arg9 fx fy (rdG v3.toNat hv3 (usedG i v1 v3 hv1 fg b0)) (rdG v3.toNat hv3 (usedG i v1 v3 hv1 fu b1)) (rdD v3.toNat hv3 (usedD i v1 v3 hv1 fd b2))) else fy)
        ∗ (∃ W', owes (c : Thread nD τ) 0 W') -∗ K ⟨⟩))
    ⊢ wp frame (wpE (defs₀ (F := F)) Variants.none c none) Set.univ (tail i mT1 (Memref.isWhole_whole _) mT2 (Memref.isWhole_whole _) mT3 (Memref.isWhole_whole _) mT4 (Memref.isWhole_whole _) arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6 v1 v3 v5 v10 v13 k0_hw1 k0_hw2 k0_hw3) K := by
  unfold tail
  rw [wp_bind]
  iintro ⟨HR, Hx, Hy, Ho, Hk⟩
  iapply (ite1_wp c i arg5 harg5 arg9 harg9 v1 k0_hw1 v3 k0_hw2 hv1 fg fu fd b0 b1 b2 W _)
  isplitl [HR]; · iexact HR
  isplitl [Ho]; · iexact Ho
  iintro ⟨HR, %W1, Ho⟩
  rw [wp_bind]
  iapply (ite2_wp c i arg5 harg5 arg9 harg9 v1 v3 v5 v10 v13 k0_hw3 hv5 hv3 fg fu fd _ _ _ fx fy W1 _)
  isplitl [HR]; · iexact HR
  isplitl [Hx]; · iexact Hx
  isplitl [Hy]; · iexact Hy
  isplitl [Ho]; · iexact Ho
  iintro ⟨HR, Hx, Hy, Ho⟩
  rw [wp_bind]
  iapply (ite3_wp c i arg5 harg5 arg9 harg9 v1 v3 v5 v10 v13 k0_hw2 k0_hw3 hv3 fg fu fd _ _ _ fx _ _)
  isplitl [HR]; · iexact HR
  isplitl [Hx]; · iexact Hx
  isplitl [Hy]; · iexact Hy
  iintro ⟨HR, Hx, Hy⟩
  iapply (pure_wp c K)
  iapply Hk
  isplitl [HR]; · iexact HR
  isplitl [Hx]; · iexact Hx
  isplitr [Ho]; swap; · iexact Ho
  have hex := not_both i v1 v5 v10 v13
  by_cases h2 : k0_cond2 i v1 v5 v10 v13 = 1#1
  · rw [if_pos h2, if_neg (hex h2), if_pos (Or.inl h2)]; iexact Hy
  · by_cases h3 : k0_cond3 i v1 v5 v10 v13 = 1#1
    · have E0 : ∀ b, nextG i v1 v3 v5 v10 v13 hv5 fg b = b := fun _ => dif_neg h2
      have E1 : ∀ b, nextG i v1 v3 v5 v10 v13 hv5 fu b = b := fun _ => dif_neg h2
      have E2 : ∀ b, nextD i v1 v3 v5 v10 v13 hv5 fd b = b := fun _ => dif_neg h2
      rw [if_neg h2, if_pos h3, if_pos (Or.inr h3), E0, E1, E2]; iexact Hy
    · rw [if_neg h2, if_neg h3, if_neg (by rintro (h | h); exacts [h2 h, h3 h])]; iexact Hy

set_option maxHeartbeats 4000000 in
/-- One point of the grid, from the tables' words. -/
theorem body_wp (c : Dev nD) (i : grid0.Coords) (arg5 : Memref sig .tc .vmem S256x2048 .i32) (harg5 : arg5.IsWhole) (arg9 : Memref sig .tc .vmem S256x2048 .i32) (harg9 : arg9.IsWhole)
    (T1 : bufOf (F := F) c mT1) (T2 : bufOf (F := F) c mT2) (T3 : bufOf (F := F) c mT3) (T4 : bufOf (F := F) c mT4)
    (v1 v3 v5 v10 v13 : BitVec 32) (e1 : v1 = wd (F := F) T1 ((k0_off1 i) 0) (off1_lt i)) (e3 : v3 = wd (F := F) T3 ((k0_off1 i) 0) (off1_lt i))
    (e5 : v5 = wd (F := F) T2 ((k0_off1 i) 0) (off1_lt i)) (e10 : v10 = wd (F := F) T1 ((k0_off2 i) 0) (off2_lt i)) (e13 : v13 = wd1 (F := F) T4)
    (hv1 : v1.toNat < 64) (hv3 : v3.toNat < 2) (hv5 : k0_cond2 i v1 v5 v10 v13 = 1#1 → v5.toNat < 64)
    (fg : bufOf (F := F) c mWg) (fu : bufOf (F := F) c mWu) (fd : bufOf (F := F) c mWd) (b0 : bufOf (F := F) c sGate) (b1 : bufOf (F := F) c sUp) (b2 : bufOf (F := F) c sDown) (fx : bufOf (F := F) c arg5) (fy : bufOf (F := F) c arg9) (W : Waits sig Unit) (K : PUnit → sProp 𝕄) :
    iprop(pt c mT1 fullShare.right T1 ∗ pt c mT2 fullShare.right T2 ∗ pt c mT3 fullShare.right T3 ∗ pt c mT4 fullShare.right T4
      ∗ Res c fg fu fd b0 b1 b2 ∗ pt c arg5 fullShare fx ∗ pt c arg9 fullShare fy ∗ owes (c : Thread nD τ) 0 W
      ∗ (pt c mT1 fullShare.right T1 ∗ pt c mT2 fullShare.right T2 ∗ pt c mT3 fullShare.right T3 ∗ pt c mT4 fullShare.right T4
        ∗ Res c fg fu fd (nextG i v1 v3 v5 v10 v13 hv5 fg (usedG i v1 v3 hv1 fg b0)) (nextG i v1 v3 v5 v10 v13 hv5 fu (usedG i v1 v3 hv1 fu b1)) (nextD i v1 v3 v5 v10 v13 hv5 fd (usedD i v1 v3 hv1 fd b2))
        ∗ pt c arg5 fullShare fx
        ∗ pt c arg9 fullShare (if k0_cond2 i v1 v5 v10 v13 = 1#1 ∨ k0_cond3 i v1 v5 v10 v13 = 1#1 then (outBlock arg5 arg9 fx fy (rdG v3.toNat hv3 (usedG i v1 v3 hv1 fg b0)) (rdG v3.toNat hv3 (usedG i v1 v3 hv1 fu b1)) (rdD v3.toNat hv3 (usedD i v1 v3 hv1 fd b2))) else fy)
        ∗ (∃ W', owes (c : Thread nD τ) 0 W') -∗ K ⟨⟩))
    ⊢ wp frame (wpE (defs₀ (F := F)) Variants.none c none) Set.univ (cc0_expert_ffn i mT1 (Memref.isWhole_whole _) mT2 (Memref.isWhole_whole _) mT3 (Memref.isWhole_whole _) mT4 (Memref.isWhole_whole _) arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6) K := by
  rw [cc0_expert_ffn_eq_skeleton, skel_eq, body3_eq]
  have p1 : v1 = (mT1.access (Rect.unit (s := S128) (k0_off1 i) S1.size (k0_off1_inb i))).read (Elt F) T1 (Shape.Idx.first (numel1_S1.symm ▸ Nat.one_pos)) := by
    rw [e1]; refine congrArg T1 (funext fun a => ?_); fin_cases a; rfl
  have p3 : v3 = (mT3.access (Rect.unit (s := S128) (k0_off1 i) S1.size (k0_off1_inb i))).read (Elt F) T3 (Shape.Idx.first (numel1_S1.symm ▸ Nat.one_pos)) := by
    rw [e3]; refine congrArg T3 (funext fun a => ?_); fin_cases a; rfl
  have p5 : v5 = (mT2.access (Rect.unit (s := S128) (k0_off1 i) S1.size (k0_off1_inb i))).read (Elt F) T2 (Shape.Idx.first (numel1_S1.symm ▸ Nat.one_pos)) := by
    rw [e5]; refine congrArg T2 (funext fun a => ?_); fin_cases a; rfl
  have p10 : v10 = (mT1.access (Rect.unit (s := S128) (k0_off2 i) S1.size (k0_off2_inb i))).read (Elt F) T1 (Shape.Idx.first (numel1_S1.symm ▸ Nat.one_pos)) := by
    rw [e10]; refine congrArg T1 (funext fun a => ?_); fin_cases a; rfl
  have p13 : v13 = (mT4.access (Rect.unit (s := S1) ![0] S1.size inb_S1_S1_0)).read (Elt F) T4 (Shape.Idx.first (numel1_S1.symm ▸ Nat.one_pos)) := by
    rw [e13]; refine congrArg T4 (funext fun a => ?_); fin_cases a; rfl
  iintro ⟨H1, H2, H3, H4, HR, Hx, Hy, Ho, Hk⟩
  named_smem H1 v1 p1
  iapply (wp_assume _ _ _ _ (chk1_of i v1 hv1))
  named_smem H3 v3 p3
  iapply (wp_assume _ _ _ _ (chk2_of i v3 hv3))
  named_smem H2 v5 p5
  named_smem H1 v10 p10
  named_smem H4 v13 p13
  iapply (wp_assume _ _ _ _ (chk3_of i v1 v3 v5 v10 v13 hv3 hv5))
  iapply (tail_wp c i arg5 harg5 arg9 harg9 v1 v3 v5 v10 v13 _ _ _ hv1 hv3 hv5 fg fu fd b0 b1 b2 fx fy W K)
  isplitl [HR]; · iexact HR
  isplitl [Hx]; · iexact Hx
  isplitl [Hy]; · iexact Hy
  isplitl [Ho]; · iexact Ho
  iintro ⟨HR, Hx, Hy, Ho⟩
  iapply Hk
  isplitl [H1]; · iexact H1
  isplitl [H2]; · iexact H2
  isplitl [H3]; · iexact H3
  isplitl [H4]; · iexact H4
  isplitl [HR]; · iexact HR
  isplitl [Hx]; · iexact Hx
  isplitl [Hy]; · iexact Hy
  iexact Ho

end Cert.Kernel.Hand

end
-- ==== Proof.Tab.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import proofs.«01_k».proof.Proof.Step
public import proofs.«01_k».proof.Proof.Body
public import proofs.«01_k».proof.Proof.Run
public import Idealize.ShloMosaic.Lib.Pipeline.AliasedRuns
public import Idealize.ShloMosaic.Lib.Pipeline.TableIdle
public import Idealize.ShloMosaic.Lib.WordCmp
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

local notation "𝕄" => MT nD τ sig Unit (Elt F) ℕ (Pipeline.UD sig nD τ) ℕ

/-- A word of a table of 128 words, at any number. -/
def wt (T : S128.Idx → BitVec 32) (k : ℕ) : BitVec 32 := if h : k < 128 then T (ix1 k h) else 0#32

/-- What the host's tables say: `n` blocks are in use, each of an expert, in one of two sets; a run of blocks of one
    expert shares its set and its next expert, and where the expert changes it is the next one, in the other set. -/
structure Tables (T1 T2 T3 : S128.Idx → BitVec 32) (T4 : S1.Idx → BitVec 32) (n : ℕ) : Prop where
  used : (T4 (fun a => ⟨0, by fin_cases a; exact Nat.one_pos⟩)).toNat = n
  pos : 1 ≤ n
  le : n ≤ 128
  blk : ∀ k, k < 128 → (wt T1 k).toNat < 64
  set : ∀ k, k < 128 → (wt T3 k).toNat < 2
  nxt : ∀ k, k < n → (wt T2 k).toNat < 2 ^ 31 → (wt T2 k).toNat < 64
  same : ∀ k, k + 1 < n → wt T1 (k + 1) = wt T1 k → wt T3 (k + 1) = wt T3 k ∧ wt T2 (k + 1) = wt T2 k
  change : ∀ k, k + 1 < n → wt T1 (k + 1) ≠ wt T1 k → wt T3 (k + 1) = 1#32 - wt T3 k ∧ wt T2 k = wt T1 (k + 1)

theorem gi_lt (i : grid0.Coords) : (i 0).val < 128 := (i 0).isLt

theorem off1_val (i : grid0.Coords) : k0_off1 i 0 = (i 0).val := by
  have h := gi_lt i
  unfold k0_off1
  show (Scalar.indexCast (BitVec.ofNat 32 (i 0).val)).toNat = _
  have : Scalar.indexCast (BitVec.ofNat 32 (i 0).val) = BitVec.ofNat 32 (i 0).val := by simp [Scalar.indexCast]
  rw [this, BitVec.toNat_ofNat]; omega

theorem off2_val (i : grid0.Coords) : k0_off2 i 0 = (i 0).val - 1 := by
  have h := gi_lt i
  have : ∀ k : Fin 128, (Scalar.indexCast (Scalar.maxsi (Scalar.subi (BitVec.ofNat 32 k.val) 1#32) 0#32)).toNat = k.val - 1 := by decide
  exact this ⟨(i 0).val, h⟩

theorem cond1_iff (i : grid0.Coords) : k0_cond1 i = 1#1 ↔ (i 0).val = 0 := by
  have : ∀ k : Fin 128, Iff (Scalar.cmpi .ne (Scalar.extui (Scalar.cmpi .eq (BitVec.ofNat 32 k.val) 0#32) : BitVec 32) 0#32 = 1#1) (k.val = 0) := by decide
  exact this ⟨(i 0).val, gi_lt i⟩

theorem ne_ext (b : Bool) : Scalar.cmpi .ne (Scalar.extui (BitVec.ofBool b) : BitVec 32) 0#32 = BitVec.ofBool b := by cases b <;> decide

theorem slt_used (k n : ℕ) (v : BitVec 32) (hk : k < 128) (hv : v.toNat = n) (hn : n ≤ 128) :
    Scalar.cmpi .slt (BitVec.ofNat 32 k) v = BitVec.ofBool (decide (k < n)) := by
  have := Idealize.ShloMosaic.WordCmp.cmpi_slt_of_lt (x := BitVec.ofNat 32 k) (y := v) (by rw [BitVec.toNat_ofNat]; omega) (by omega)
  rw [show (BitVec.ofNat 32 k).toNat = k from by rw [BitVec.toNat_ofNat]; omega, hv] at this
  exact this

theorem first_iff (k : ℕ) (hk : k < 128) : Scalar.cmpi .eq (BitVec.ofNat 32 k) 0#32 = BitVec.ofBool (decide (k = 0)) := by
  have : ∀ k : Fin 128, Scalar.cmpi .eq (BitVec.ofNat 32 k.val) 0#32 = BitVec.ofBool (decide (k.val = 0)) := by decide
  exact this ⟨k, hk⟩

theorem cond2_iff (i : grid0.Coords) (v1 v5 v10 v13 : BitVec 32) (n : ℕ) (hv : v13.toNat = n) (hn : n ≤ 128) :
    k0_cond2 i v1 v5 v10 v13 = 1#1 ↔ (i 0).val < n ∧ ((i 0).val = 0 ∨ v10 ≠ v1) ∧ v5.toNat < 2 ^ 31 := by
  have h1 := slt_used (i 0).val n v13 (gi_lt i) hv hn
  have h2 := first_iff (i 0).val (gi_lt i)
  have h3 : Scalar.cmpi .ne v10 v1 = BitVec.ofBool (decide (v10 ≠ v1)) := Idealize.ShloMosaic.WordCmp.cmpi_ne_eq v10 v1
  have h4 : Scalar.cmpi .sge v5 0#32 = BitVec.ofBool (decide (v5.toNat < 2 ^ 31)) := Idealize.ShloMosaic.WordCmp.cmpi_sge_zero v5
  unfold k0_cond2
  simp only [h1, h2, h3, h4]
  rw [show ∀ p q r s : Bool, Scalar.andi (Scalar.andi (BitVec.ofBool p) (Scalar.ori (BitVec.ofBool q) (BitVec.ofBool r))) (BitVec.ofBool s)
    = BitVec.ofBool (p && (q || r) && s) from by decide, ne_ext]
  rw [Idealize.ShloMosaic.WordCmp.ofBool_eq_one_iff]
  simp [and_assoc]

theorem cond23_iff (i : grid0.Coords) (v1 v5 v10 v13 : BitVec 32) (n : ℕ) (hv : v13.toNat = n) (hn : n ≤ 128) :
    (k0_cond2 i v1 v5 v10 v13 = 1#1 ∨ k0_cond3 i v1 v5 v10 v13 = 1#1) ↔ (i 0).val < n := by
  have h1 := slt_used (i 0).val n v13 (gi_lt i) hv hn
  have h2 := first_iff (i 0).val (gi_lt i)
  have h3 : Scalar.cmpi .ne v10 v1 = BitVec.ofBool (decide (v10 ≠ v1)) := Idealize.ShloMosaic.WordCmp.cmpi_ne_eq v10 v1
  have h4 : Scalar.cmpi .sge v5 0#32 = BitVec.ofBool (decide (v5.toNat < 2 ^ 31)) := Idealize.ShloMosaic.WordCmp.cmpi_sge_zero v5
  unfold k0_cond2 k0_cond3
  simp only [h1, h2, h3, h4]
  rw [show ∀ p q r s : Bool, Scalar.andi (Scalar.andi (BitVec.ofBool p) (Scalar.ori (BitVec.ofBool q) (BitVec.ofBool r))) (BitVec.ofBool s)
    = BitVec.ofBool (p && (q || r) && s) from by decide, ne_ext,
    show ∀ p q : Bool, Scalar.andi (BitVec.ofBool p) (Scalar.xori (BitVec.ofBool q) 1#1) = BitVec.ofBool (p && !q) from by decide, ne_ext]
  rw [Idealize.ShloMosaic.WordCmp.ofBool_eq_one_iff, Idealize.ShloMosaic.WordCmp.ofBool_eq_one_iff]
  by_cases a : (i 0).val < n <;> by_cases b : (i 0).val = 0 ∨ v10 ≠ v1 <;> by_cases c : v5.toNat < 2 ^ 31 <;> simp_all

/-- The block a point of the grid works on: its own while blocks are in use, then the last one. -/
theorem min_val (k n : ℕ) (v : BitVec 32) (hk : k < 128) (hv : v.toNat = n) (h1 : 1 ≤ n) (hn : n ≤ 128) :
    (Scalar.minsi (BitVec.ofNat 32 k) (Scalar.subi v 1#32)).toNat = min k (n - 1) := by
  have hs : (Scalar.subi v 1#32).toNat = n - 1 := by
    show (v - 1#32).toNat = _
    rw [BitVec.toNat_sub]; simp; omega
  have hb : (BitVec.ofNat 32 k).toNat = k := by rw [BitVec.toNat_ofNat]; omega
  show (if (BitVec.ofNat 32 k).slt (Scalar.subi v 1#32) then BitVec.ofNat 32 k else Scalar.subi v 1#32).toNat = _
  have e : (BitVec.ofNat 32 k).slt (Scalar.subi v 1#32) = decide (k < n - 1) := by
    rw [BitVec.slt_eq_decide, Idealize.ShloMosaic.WordCmp.toInt_eq_toNat_of_lt_half (x := BitVec.ofNat 32 k) (by omega), Idealize.ShloMosaic.WordCmp.toInt_eq_toNat_of_lt_half (x := Scalar.subi v 1#32) (by omega), hs, hb]
    simp
  rw [e]
  by_cases h : k < n - 1
  · simp only [h, decide_true, if_true]; rw [hb]; omega
  · simp only [h, decide_false]; rw [if_neg (by simp), hs]; omega

end Cert.Kernel.Hand

end
-- ==== Proof.Index.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import proofs.«01_k».proof.Proof.Step
public import proofs.«01_k».proof.Proof.Body
public import proofs.«01_k».proof.Proof.Run
public import proofs.«01_k».proof.Proof.Tab
public import Idealize.ShloMosaic.Lib.Pipeline.AliasedRuns
public import Idealize.ShloMosaic.Lib.Pipeline.TableIdle
public import Idealize.ShloMosaic.Lib.WordCmp
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

/-- The four tables a run holds, as words. -/
def tb1 (pf : pre0.Contents (Elt F)) : S128.Idx → BitVec 32 := pf 0
def tb2 (pf : pre0.Contents (Elt F)) : S128.Idx → BitVec 32 := pf 1
def tb3 (pf : pre0.Contents (Elt F)) : S128.Idx → BitVec 32 := pf 2
def tb4 (pf : pre0.Contents (Elt F)) : S1.Idx → BitVec 32 := pf 3
/-- The four tables a run holds agree with the rules the kernel relies on. -/
def Good (pf : pre0.Contents (Elt F)) (n : ℕ) : Prop := Tables (tb1 pf) (tb2 pf) (tb3 pf) (tb4 pf) n

theorem crd (t : Fin grid0.N) : (grid0.coords t 0).val = t.val := by
  have h := Pipeline.Grid.coords_val (G := grid0) t 0 (S := 1) (B := 128) (by decide) rfl
  have := t.isLt
  have hN : grid0.N = 128 := N_0
  omega

/-- The block a point of the grid works on. -/
theorem tr4 (pf : pre0.Contents (Elt F)) (n : ℕ) (h : Good pf n) (i : grid0.Coords) :
    cc0_transform_4 inb_S1_S1_0 numel1_S1 pf i = ![min (i 0).val (n - 1), 0] := by
  have e : pf.at 3 (Rect.unit (s := S1) ![0] S1.size inb_S1_S1_0) numel1_S1
      = wd1 (F := F) (tb4 pf) := by
    refine congrArg (tb4 pf) ?_
    funext a
    have ha := (((Rect.unit (s := S1) ![0] S1.size inb_S1_S1_0).emb (Shape.Idx.first (numel1_S1.symm ▸ Nat.one_pos))) a).isLt
    refine Fin.ext ?_
    have : S1.size a = 1 := by fin_cases a; rfl
    have h2 : ∀ x : Fin (S1.size a), x.val = 0 := fun x => by have := x.isLt; omega
    exact (h2 _).trans (h2 _).symm
  show ![(Scalar.minsi (BitVec.ofNat 32 (i 0).val) (Scalar.subi (pf.at 3 (Rect.unit (s := S1) ![0] S1.size inb_S1_S1_0) numel1_S1) 1#32)).toNat, (0#32 : BitVec 32).toNat] = _
  have e2 := min_val (i 0).val n (wd1 (F := F) (tb4 pf)) (gi_lt i) h.used h.pos h.le
  rw [← e] at e2
  exact congrArg (fun x : ℕ => (![x, (0#32 : BitVec 32).toNat] : Fin 2 → ℕ)) e2

theorem tr0 (pf : pre0.Contents (Elt F)) (n : ℕ) (h : Good pf n) (i : grid0.Coords) :
    cc0_transform_0 inb_S1_S1_0 numel1_S1 pf i = ![min (i 0).val (n - 1), 0] :=
  tr4 pf n h i

theorem ixv (pf : pre0.Contents (Elt F)) (n : ℕ) (h : Good pf n) (w : Fin 2) (i : grid0.Coords) :
    ∀ a : Fin (spec0 w).shape.rank, ix0 pf w i a = if a.val = 0 then min (i 0).val (n - 1) else 0 := by
  match w with
  | 0 =>
    intro a
    show cc0_transform_0 inb_S1_S1_0 numel1_S1 pf i a = _
    rw [tr0 pf n h i]
    match a with
    | ⟨0, _⟩ => rfl
    | ⟨1, _⟩ => rfl
  | 1 =>
    intro a
    show cc0_transform_4 inb_S1_S1_0 numel1_S1 pf i a = _
    rw [tr4 pf n h i]
    match a with
    | ⟨0, _⟩ => rfl
    | ⟨1, _⟩ => rfl

theorem ix_eq_iff (pf : pre0.Contents (Elt F)) (n : ℕ) (h : Good pf n) (w : Fin 2) (i i' : grid0.Coords) :
    Iff (ix0 pf w i = ix0 pf w i') (min (i 0).val (n - 1) = min (i' 0).val (n - 1)) := by
  have hr : 0 < (spec0 w).shape.rank := by
    match w with
    | 0 => exact Nat.zero_lt_two
    | 1 => exact Nat.zero_lt_two
  constructor
  · intro e
    have := congrFun e ⟨0, hr⟩
    rwa [ixv pf n h w i, ixv pf n h w i', if_pos rfl, if_pos rfl] at this
  · intro e
    funext a
    rw [ixv pf n h w i, ixv pf n h w i', e]

theorem inb4 (n k : ℕ) (h1 : 1 ≤ n) (hn : n ≤ 128) : ∀ a, ((![min k (n - 1), 0] : Fin 2 → ℕ) a + 1) * S256x2048.size a ≤ S32768x2048.size a := by
  intro a
  match a with
  | ⟨0, _⟩ =>
    show (min k (n - 1) + 1) * 256 ≤ 32768
    have : min k (n - 1) ≤ 127 := by omega
    omega
  | ⟨1, _⟩ =>
    show (0 + 1) * 2048 ≤ 2048
    omega

/-- The blocks lie in their arrays, and no block is read after it is written. -/
theorem ok_of (pf : pre0.Contents (Elt F)) (n : ℕ) (h : Good pf n) : ok0 pf := by
  refine ⟨fun i => ⟨?_, Or.inl rfl⟩, fun i => ⟨?_, Or.inl rfl⟩, ⟨rfl, rfl, rfl, ?_, ?_, ?_⟩⟩
  · rw [tr0 pf n h i]; exact inb4 n _ h.pos h.le
  · rw [tr4 pf n h i]; exact inb4 n _ h.pos h.le
  · intro a a' e
    obtain rfl : a = a' := Fin.ext e
    rfl
  · intro c a a' e
    rw [ixv pf n h 0 c, ixv pf n h 1 c, e]
  · intro u u' hu _ hf
    intro e
    rw [ix_eq_iff pf n h 1, crd, crd] at e
    have hN : grid0.N = 128 := N_0
    have := u.isLt
    unfold Pipeline.WinSpec.flushAt at hf
    simp only [Bool.and_eq_true, Bool.or_eq_true, decide_eq_true_eq] at hf
    rcases hf.2 with h1 | ⟨h1, h2⟩
    · omega
    · refine h2 ((ix_eq_iff pf n h 1 _ _).2 ?_)
      rw [crd, crd]
      show min (u'.val + 1) (n - 1) = min u'.val (n - 1)
      omega

end Cert.Kernel.Hand
-- ==== Proof.Weights.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import proofs.«01_k».proof.Proof.Step
public import proofs.«01_k».proof.Proof.Body
public import proofs.«01_k».proof.Proof.Run
public import proofs.«01_k».proof.Proof.Tab
public import Idealize.ShloMosaic.Lib.Pipeline.AliasedRuns
public import Idealize.ShloMosaic.Lib.Pipeline.TableIdle
public import Idealize.ShloMosaic.Lib.WordCmp
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

theorem other_ne (s : BitVec 32) (hs : s.toNat < 2) : s.toNat ≠ ((1#32 : BitVec 32) - s).toNat := by
  rw [BitVec.toNat_sub]
  simp
  omega

theorem wd_wt (T : S128.Idx → BitVec 32) (k k' : ℕ) (h : k < 128) (e : k = k') : wd (F := F) T k h = wt T k' := by
  subst e
  exact (dif_pos h).symm

/-- Expert `e`'s weights, each rounded. -/
def rndG (e : Fin 64) (w : S64x4096x512.Idx → F .f32) : Vec F S1x4096x512 .bf16 :=
  fun x => FloatOps.truncf .bf16 bitsLt_bf16_f32 (w (ix3 e (x 1) (x 2)))

theorem rd_putG (s : ℕ) (hs : s < 2) (e : Fin 64) (w : S64x4096x512.Idx → F .f32) (b : S2x4096x512.Idx → F .bf16) :
    rdG s hs (putG s e w b) = rndG e w := by
  funext x
  have h0 : (x (0 : Fin 3)).val < 1 := (x (0 : Fin 3)).isLt
  have e0 : s + 1 * (x (0 : Fin 3)).val = s := by omega
  refine (if_pos e0).trans (congrArg (fun z => FloatOps.truncf .bf16 bitsLt_bf16_f32 (w z)) ?_)
  funext a
  match a with
  | ⟨0, _⟩ => rfl
  | ⟨1, _⟩ => exact Fin.ext (by show 0 + 1 * (x (1 : Fin 3)).val = (x (1 : Fin 3)).val; omega)
  | ⟨2, _⟩ => exact Fin.ext (by show 0 + 1 * (x (2 : Fin 3)).val = (x (2 : Fin 3)).val; omega)

theorem rd_putG_ne (s s' : ℕ) (hs : s < 2) (hne : s ≠ s') (e : Fin 64) (w : S64x4096x512.Idx → F .f32) (b : S2x4096x512.Idx → F .bf16) :
    rdG s hs (putG s' e w b) = rdG s hs b := by
  funext x
  have h0 : (x (0 : Fin 3)).val < 1 := (x (0 : Fin 3)).isLt
  exact if_neg (fun h : s + 1 * (x (0 : Fin 3)).val = s' => hne (by omega))

/-- Set `s` of a buffer holds expert `e`'s weights, rounded. -/
def HaveG (w : S64x4096x512.Idx → F .f32) (s e : BitVec 32) (b : S2x4096x512.Idx → F .bf16) : Prop :=
  ∀ (hs : s.toNat < 2) (he : e.toNat < 64), rdG s.toNat hs b = rndG ⟨e.toNat, he⟩ w

/-- Before point `k`, the buffer holds the last point's expert, and in its other set the expert after it. -/
def InvG (T1 T2 T3 : S128.Idx → BitVec 32) (n : ℕ) (w : S64x4096x512.Idx → F .f32) (k : ℕ) (b : S2x4096x512.Idx → F .bf16) : Prop :=
  ∀ j, k = j + 1 → k ≤ n → HaveG w (wt T3 j) (wt T1 j) b ∧ ((wt T2 j).toNat < 2 ^ 31 → HaveG w (1#32 - wt T3 j) (wt T2 j) b)

theorem openG (w : S64x4096x512.Idx → F .f32) (s e e' : BitVec 32) (hs : s.toNat < 2) (he' : e'.toNat < 64)
    (b : S2x4096x512.Idx → F .bf16) (h : HaveG w s e b) :
    HaveG w s e (putG ((1#32 : BitVec 32) - s).toNat ⟨e'.toNat, he'⟩ w b) ∧ HaveG w (1#32 - s) e' (putG ((1#32 : BitVec 32) - s).toNat ⟨e'.toNat, he'⟩ w b) :=
  ⟨fun hs' he => (rd_putG_ne _ _ hs' (other_ne s hs) _ w b).trans (h hs' he), fun hs' he => rd_putG _ hs' _ w b⟩

/-- One point: what it multiplies by, and what it leaves. -/
theorem pointG (T1 T2 T3 : S128.Idx → BitVec 32) (T4 : S1.Idx → BitVec 32) (n : ℕ) (hT : Tables T1 T2 T3 T4 n) (i : grid0.Coords)
    (v1 v3 v5 v10 v13 : BitVec 32) (e1 : v1 = wt T1 (i 0).val) (e3 : v3 = wt T3 (i 0).val) (e5 : v5 = wt T2 (i 0).val)
    (e10 : v10 = wt T1 ((i 0).val - 1)) (e13 : v13.toNat = n) (hv1 : v1.toNat < 64)
    (hv5 : k0_cond2 i v1 v5 v10 v13 = 1#1 → v5.toNat < 64) (w : S64x4096x512.Idx → F .f32) (b : S2x4096x512.Idx → F .bf16)
    (hI : InvG T1 T2 T3 n w (i 0).val b) :
    ((i 0).val < n → HaveG w v3 v1 (usedG i v1 v3 hv1 w b))
      ∧ InvG T1 T2 T3 n w ((i 0).val + 1) (nextG i v1 v3 v5 v10 v13 hv5 w (usedG i v1 v3 hv1 w b)) := by
  have hc1 := cond1_iff i
  have hc2 := cond2_iff i v1 v5 v10 v13 n e13 hT.le
  have hk := gi_lt i
  have hs : v3.toNat < 2 := e3 ▸ hT.set _ hk
  by_cases hn : (i 0).val < n
  · have hU : HaveG w v3 v1 (usedG i v1 v3 hv1 w b) := by
      by_cases h0 : (i 0).val = 0
      · unfold usedG
        rw [if_pos (hc1.2 h0)]
        exact fun hs' _ => rd_putG _ hs' _ w b
      · unfold usedG
        rw [if_neg (fun h => h0 (hc1.1 h))]
        obtain ⟨j, hj⟩ : ∃ j, (i 0).val = j + 1 := ⟨(i 0).val - 1, by omega⟩
        have ⟨hA, hB⟩ := hI j hj (by omega)
        by_cases hsame : wt T1 (j + 1) = wt T1 j
        · have ⟨s1, s2⟩ := hT.same j (by omega) hsame
          rw [e3, e1, hj, hsame, s1]
          exact hA
        · have ⟨s1, s2⟩ := hT.change j (by omega) hsame
          have hlt := hT.blk (j + 1) (by omega)
          rw [e3, e1, hj, s1, ← s2]
          exact hB (by rw [s2]; omega)
    refine ⟨fun _ => hU, ?_⟩
    intro j hj hjn
    obtain rfl : (i 0).val = j := by omega
    rw [← e3, ← e1, ← e5]
    by_cases h2 : k0_cond2 i v1 v5 v10 v13 = 1#1
    · unfold nextG
      rw [dif_pos h2]
      have := openG w v3 v1 v5 hs (hv5 h2) _ hU
      exact ⟨this.1, fun _ => this.2⟩
    · have hsx : nextG i v1 v3 v5 v10 v13 hv5 w (usedG i v1 v3 hv1 w b) = usedG i v1 v3 hv1 w b := by
        unfold nextG
        rw [dif_neg h2]
      rw [hsx]
      refine ⟨hU, fun h5 => ?_⟩
      have hx : ¬ ((i 0).val = 0 ∨ v10 ≠ v1) := fun h => h2 (hc2.2 ⟨hn, h, h5⟩)
      have h0 : (i 0).val ≠ 0 := fun h => hx (Or.inl h)
      have h10 : v10 = v1 := by
        by_contra h
        exact hx (Or.inr h)
      obtain ⟨j, hj⟩ : ∃ j, (i 0).val = j + 1 := ⟨(i 0).val - 1, by omega⟩
      have ⟨hA, hB⟩ := hI j hj (by omega)
      have hsame : wt T1 (j + 1) = wt T1 j := by
        rw [e10, e1, hj] at h10
        exact h10.symm
      have ⟨s1, s2⟩ := hT.same j (by omega) hsame
      unfold usedG
      rw [if_neg (fun h => h0 (hc1.1 h)), e3, e5, hj, s1, s2]
      refine hB ?_
      rw [← s2, ← hj, ← e5]
      exact h5
  · exact ⟨fun h => absurd h hn, fun j hj hjn => absurd hjn (by omega)⟩

/-- Expert `e`'s weights, each rounded. -/
def rndD (e : Fin 64) (w : S64x512x4096.Idx → F .f32) : Vec F S1x512x4096 .bf16 :=
  fun x => FloatOps.truncf .bf16 bitsLt_bf16_f32 (w (ix3 e (x 1) (x 2)))

theorem rd_putD (s : ℕ) (hs : s < 2) (e : Fin 64) (w : S64x512x4096.Idx → F .f32) (b : S2x512x4096.Idx → F .bf16) :
    rdD s hs (putD s e w b) = rndD e w := by
  funext x
  have h0 : (x (0 : Fin 3)).val < 1 := (x (0 : Fin 3)).isLt
  have e0 : s + 1 * (x (0 : Fin 3)).val = s := by omega
  refine (if_pos e0).trans (congrArg (fun z => FloatOps.truncf .bf16 bitsLt_bf16_f32 (w z)) ?_)
  funext a
  match a with
  | ⟨0, _⟩ => rfl
  | ⟨1, _⟩ => exact Fin.ext (by show 0 + 1 * (x (1 : Fin 3)).val = (x (1 : Fin 3)).val; omega)
  | ⟨2, _⟩ => exact Fin.ext (by show 0 + 1 * (x (2 : Fin 3)).val = (x (2 : Fin 3)).val; omega)

theorem rd_putD_ne (s s' : ℕ) (hs : s < 2) (hne : s ≠ s') (e : Fin 64) (w : S64x512x4096.Idx → F .f32) (b : S2x512x4096.Idx → F .bf16) :
    rdD s hs (putD s' e w b) = rdD s hs b := by
  funext x
  have h0 : (x (0 : Fin 3)).val < 1 := (x (0 : Fin 3)).isLt
  exact if_neg (fun h : s + 1 * (x (0 : Fin 3)).val = s' => hne (by omega))

/-- Set `s` of a buffer holds expert `e`'s weights, rounded. -/
def HaveD (w : S64x512x4096.Idx → F .f32) (s e : BitVec 32) (b : S2x512x4096.Idx → F .bf16) : Prop :=
  ∀ (hs : s.toNat < 2) (he : e.toNat < 64), rdD s.toNat hs b = rndD ⟨e.toNat, he⟩ w

/-- Before point `k`, the buffer holds the last point's expert, and in its other set the expert after it. -/
def InvD (T1 T2 T3 : S128.Idx → BitVec 32) (n : ℕ) (w : S64x512x4096.Idx → F .f32) (k : ℕ) (b : S2x512x4096.Idx → F .bf16) : Prop :=
  ∀ j, k = j + 1 → k ≤ n → HaveD w (wt T3 j) (wt T1 j) b ∧ ((wt T2 j).toNat < 2 ^ 31 → HaveD w (1#32 - wt T3 j) (wt T2 j) b)

theorem openD (w : S64x512x4096.Idx → F .f32) (s e e' : BitVec 32) (hs : s.toNat < 2) (he' : e'.toNat < 64)
    (b : S2x512x4096.Idx → F .bf16) (h : HaveD w s e b) :
    HaveD w s e (putD ((1#32 : BitVec 32) - s).toNat ⟨e'.toNat, he'⟩ w b) ∧ HaveD w (1#32 - s) e' (putD ((1#32 : BitVec 32) - s).toNat ⟨e'.toNat, he'⟩ w b) :=
  ⟨fun hs' he => (rd_putD_ne _ _ hs' (other_ne s hs) _ w b).trans (h hs' he), fun hs' he => rd_putD _ hs' _ w b⟩

/-- One point: what it multiplies by, and what it leaves. -/
theorem pointD (T1 T2 T3 : S128.Idx → BitVec 32) (T4 : S1.Idx → BitVec 32) (n : ℕ) (hT : Tables T1 T2 T3 T4 n) (i : grid0.Coords)
    (v1 v3 v5 v10 v13 : BitVec 32) (e1 : v1 = wt T1 (i 0).val) (e3 : v3 = wt T3 (i 0).val) (e5 : v5 = wt T2 (i 0).val)
    (e10 : v10 = wt T1 ((i 0).val - 1)) (e13 : v13.toNat = n) (hv1 : v1.toNat < 64)
    (hv5 : k0_cond2 i v1 v5 v10 v13 = 1#1 → v5.toNat < 64) (w : S64x512x4096.Idx → F .f32) (b : S2x512x4096.Idx → F .bf16)
    (hI : InvD T1 T2 T3 n w (i 0).val b) :
    ((i 0).val < n → HaveD w v3 v1 (usedD i v1 v3 hv1 w b))
      ∧ InvD T1 T2 T3 n w ((i 0).val + 1) (nextD i v1 v3 v5 v10 v13 hv5 w (usedD i v1 v3 hv1 w b)) := by
  have hc1 := cond1_iff i
  have hc2 := cond2_iff i v1 v5 v10 v13 n e13 hT.le
  have hk := gi_lt i
  have hs : v3.toNat < 2 := e3 ▸ hT.set _ hk
  by_cases hn : (i 0).val < n
  · have hU : HaveD w v3 v1 (usedD i v1 v3 hv1 w b) := by
      by_cases h0 : (i 0).val = 0
      · unfold usedD
        rw [if_pos (hc1.2 h0)]
        exact fun hs' _ => rd_putD _ hs' _ w b
      · unfold usedD
        rw [if_neg (fun h => h0 (hc1.1 h))]
        obtain ⟨j, hj⟩ : ∃ j, (i 0).val = j + 1 := ⟨(i 0).val - 1, by omega⟩
        have ⟨hA, hB⟩ := hI j hj (by omega)
        by_cases hsame : wt T1 (j + 1) = wt T1 j
        · have ⟨s1, s2⟩ := hT.same j (by omega) hsame
          rw [e3, e1, hj, hsame, s1]
          exact hA
        · have ⟨s1, s2⟩ := hT.change j (by omega) hsame
          have hlt := hT.blk (j + 1) (by omega)
          rw [e3, e1, hj, s1, ← s2]
          exact hB (by rw [s2]; omega)
    refine ⟨fun _ => hU, ?_⟩
    intro j hj hjn
    obtain rfl : (i 0).val = j := by omega
    rw [← e3, ← e1, ← e5]
    by_cases h2 : k0_cond2 i v1 v5 v10 v13 = 1#1
    · unfold nextD
      rw [dif_pos h2]
      have := openD w v3 v1 v5 hs (hv5 h2) _ hU
      exact ⟨this.1, fun _ => this.2⟩
    · have hsx : nextD i v1 v3 v5 v10 v13 hv5 w (usedD i v1 v3 hv1 w b) = usedD i v1 v3 hv1 w b := by
        unfold nextD
        rw [dif_neg h2]
      rw [hsx]
      refine ⟨hU, fun h5 => ?_⟩
      have hx : ¬ ((i 0).val = 0 ∨ v10 ≠ v1) := fun h => h2 (hc2.2 ⟨hn, h, h5⟩)
      have h0 : (i 0).val ≠ 0 := fun h => hx (Or.inl h)
      have h10 : v10 = v1 := by
        by_contra h
        exact hx (Or.inr h)
      obtain ⟨j, hj⟩ : ∃ j, (i 0).val = j + 1 := ⟨(i 0).val - 1, by omega⟩
      have ⟨hA, hB⟩ := hI j hj (by omega)
      have hsame : wt T1 (j + 1) = wt T1 j := by
        rw [e10, e1, hj] at h10
        exact h10.symm
      have ⟨s1, s2⟩ := hT.same j (by omega) hsame
      unfold usedD
      rw [if_neg (fun h => h0 (hc1.1 h)), e3, e5, hj, s1, s2]
      refine hB ?_
      rw [← s2, ← hj, ← e5]
      exact h5
  · exact ⟨fun h => absurd h hn, fun j hj hjn => absurd hjn (by omega)⟩

end Cert.Kernel.Hand
-- ==== Proof.Host.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import proofs.«01_k».proof.Proof.Step
public import proofs.«01_k».proof.Proof.Body
public import proofs.«01_k».proof.Proof.Run
public import proofs.«01_k».proof.Proof.Tab
public import proofs.«01_k».proof.Proof.Index
public import proofs.«01_k».proof.Proof.Weights
public import Idealize.ShloMosaic.Lib.Pipeline.AliasedRuns
public import Idealize.ShloMosaic.Lib.Pipeline.TableIdle
public import Idealize.ShloMosaic.Lib.WordCmp
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]
variable (m : (ℓ : Loc nD τ sig) → Buf (Elt F) ℓ) (ρ : Dev nD → PrngReg)

/-- What the buffers hold when the kernel is called. -/
def V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- The host operations leave `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables as the kernel finds them. -/
def tbl : pre0.Contents (Elt F) := fun j => V m (0 : Dev nD) (pre0.ref j)

theorem V_pre (c : Dev nD) (j : Fin pre0.K) : V m c (pre0.ref j) = tbl m j := by
  obtain rfl : c = 0 := Subsingleton.elim _ _
  rfl

end Cert.Kernel.Hand
-- ==== Proof.Region.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import proofs.«01_k».proof.Proof.Step
public import proofs.«01_k».proof.Proof.Body
public import proofs.«01_k».proof.Proof.Run
public import proofs.«01_k».proof.Proof.Tab
public import proofs.«01_k».proof.Proof.Index
public import proofs.«01_k».proof.Proof.Weights
public import proofs.«01_k».proof.Proof.Host
public import Idealize.ShloMosaic.Lib.Pipeline.AliasedRuns
public import Idealize.ShloMosaic.Lib.Pipeline.TableIdle
public import Idealize.ShloMosaic.Lib.WordCmp
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

local notation "𝕄" => MT nD τ sig Unit (Elt F) ℕ (Pipeline.UD sig nD τ) ℕ

/-- An expert's number, of a word. -/
def eOf (v : BitVec 32) : Fin 64 := if h : v.toNat < 64 then ⟨v.toNat, h⟩ else 0

theorem rows_lt (k : ℕ) (y : S256x2048.Idx) (a : Fin 2) : (![min k 127 * 256, 0] : Fin 2 → ℕ) a + (y a).val < S32768x2048.size a := by
  match a with
  | ⟨0, _⟩ =>
    have h : (y (0 : Fin 2)).val < 256 := (y (0 : Fin 2)).isLt
    show min k 127 * 256 + (y (0 : Fin 2)).val < 32768
    omega
  | ⟨1, _⟩ =>
    have h : (y (1 : Fin 2)).val < 2048 := (y (1 : Fin 2)).isLt
    show 0 + (y (1 : Fin 2)).val < 2048
    omega

/-- Block `k` of 256 rows. -/
def rows (X : S32768x2048.Idx → BitVec 32) (k : ℕ) : S256x2048.Idx → BitVec 32 :=
  fun y => X (fun a => ⟨(![min k 127 * 256, 0] : Fin 2 → ℕ) a + (y a).val, rows_lt k y a⟩)

/-- A block of rows through an expert. -/
def blockOut (X : S32768x2048.Idx → BitVec 32) (wg wu : S64x4096x512.Idx → F .f32) (wd : S64x512x4096.Idx → F .f32) (k : ℕ) (e : Fin 64) :
    Vec F S256x2048 .i32 :=
  k0_pay4 (F := F) (rows X k) (rndG e wg) (rndG e wu) (rndD e wd)

theorem emb0 (y : S256x2048.Idx) :
    (Rect.unit (s := S256x2048) ![0, 0] S256x2048.size inb_S256x2048_S256x2048_0_0).emb y = y := by
  funext a
  refine Fin.ext ?_
  match a with
  | ⟨0, _⟩ => show 0 + 1 * (y (0 : Fin 2)).val = (y (0 : Fin 2)).val; omega
  | ⟨1, _⟩ => show 0 + 1 * (y (1 : Fin 2)).val = (y (1 : Fin 2)).val; omega

theorem load_all (v : View sig .tc .vmem S256x2048 .i32) (f : v.ty.Contents (Elt F)) :
    v.readAt (Elt F) (Rect.unit (s := S256x2048) ![0, 0] S256x2048.size inb_S256x2048_S256x2048_0_0).toLoadRect f = v.read (Elt F) f := by
  funext y
  exact congrArg (v.read (Elt F) f) (emb0 y)

theorem store_all (v : View sig .tc .vmem S256x2048 .i32) (f : v.ty.Contents (Elt F)) (x : S256x2048.Idx → Elt F .i32) :
    v.read (Elt F) (v.writes (Elt F) f [⟨Rect.unit (s := S256x2048) ![0, 0] S256x2048.size inb_S256x2048_S256x2048_0_0, x⟩]) = x := by
  funext y
  have := View.read_writes_of_unique v f (⟨Rect.unit (s := S256x2048) ![0, 0] S256x2048.size inb_S256x2048_S256x2048_0_0, x⟩ : View.Piece (Elt F) S256x2048 .i32) y _
    List.mem_cons_self (fun q hq _ => List.mem_singleton.1 hq)
  exact (congrArg _ (emb0 y).symm).trans this

theorem read_outBlock {c : Dev nD} (arg5 arg9 : Memref sig .tc .vmem S256x2048 .i32) (fx : bufOf (F := F) c arg5) (fy : bufOf (F := F) c arg9)
    (g u : Vec F S1x4096x512 .bf16) (d : Vec F S1x512x4096 .bf16) :
    arg9.view.read (Elt F) (outBlock arg5 arg9 fx fy g u d) = k0_pay4 (F := F) (arg5.view.read (Elt F) fx) g u d := by
  unfold outBlock
  rw [load_all]
  exact store_all _ _ _

variable (m : (c : Dev nD) → (b : Ref sig .tc) → Buf (Elt F) ((c : Thread nD τ).loc b)) (pf : pre0.Contents (Elt F))
variable (n : ℕ) (hG : Good pf n)

abbrev adm : (pcfg0 (F := F)).Adm := ⟨pf, ok_of _ n hG⟩

theorem idle_iff (t : Fin grid0.N) : Iff ((cfg0 (adm pf n hG)).idle 1 (grid0.coords t) = true) (n ≤ t.val) := by
  have hd : (pf.atD 3 ![0]).toNat = n := by
    unfold Pipeline.Prefetch.Contents.atD
    rw [dif_pos (by intro a; fin_cases a; exact le_refl 1)]
    refine Eq.trans ?_ hG.used
    refine congrArg (fun f => BitVec.toNat (tb4 pf f)) ?_
    funext a
    fin_cases a
    rfl
  have h := cond23_iff (grid0.coords t) (pf.atD 0 (k0_off1 (grid0.coords t))) (pf.atD 1 (k0_off1 (grid0.coords t)))
    (pf.atD 0 (k0_off2 (grid0.coords t))) (pf.atD 3 ![0]) n hd hG.le
  rw [crd] at h
  show (!(_ == 1#1) && !(_ == 1#1)) = true ↔ _
  rw [Bool.and_eq_true, Bool.not_eq_true', Bool.not_eq_true', beq_eq_false_iff_ne, beq_eq_false_iff_ne]
  constructor
  · rintro ⟨h2, h3⟩
    by_contra hlt
    rcases h.2 (by omega) with h' | h'
    · exact h2 h'
    · exact h3 h'
  · intro hle
    exact ⟨fun h' => absurd (h.1 (Or.inl h')) (by omega), fun h' => absurd (h.1 (Or.inr h')) (by omega)⟩

theorem flush_iff (t : Fin grid0.N) : Iff (((cfg0 (adm pf n hG)).win 1).flush t = true) (t.val + 1 < n ∨ t.val + 1 = 128) := by
  have hN : grid0.N = 128 := N_0
  have htl := t.isLt
  have hle := hG.le
  have hp := hG.pos
  have hN2 : (cfg0 (adm pf n hG)).grid.N = 128 := N_0
  show (true && (_ || decide (∃ h : t.val + 1 < grid0.N, ix0 pf 1 (grid0.coords ⟨t.val + 1, h⟩) ≠ ix0 pf 1 (grid0.coords t)))) = true ↔ _
  rw [Bool.true_and, Bool.or_eq_true, decide_eq_true_eq, decide_eq_true_eq]
  have key : ∀ h : t.val + 1 < grid0.N, Iff (ix0 pf 1 (grid0.coords ⟨t.val + 1, h⟩) ≠ ix0 pf 1 (grid0.coords t)) (t.val + 1 < n) := by
    intro h
    rw [Ne, ix_eq_iff pf n hG 1, crd, crd]
    show ¬ (min (t.val + 1) (n - 1) = min t.val (n - 1)) ↔ _
    omega
  constructor
  · rintro (h | ⟨h, h'⟩)
    · exact Or.inr (by omega)
    · exact Or.inl ((key h).1 h')
  · rintro (h | h)
    · exact Or.inr ⟨by omega, (key (by omega)).2 h⟩
    · exact Or.inl (by omega)

/-- The block a window shows at a point. -/
theorem blk_rows (X : S32768x2048.Idx → BitVec 32) (t : Fin grid0.N) :
    (((cfg0 (adm pf n hG)).win 0).blk t).view.read (Elt F) X = rows X (min t.val (n - 1)) := by
  have hle := hG.le
  have hp := hG.pos
  funext y
  refine congrArg X ?_
  funext a
  refine Fin.ext ?_
  have e := ixv pf n hG 0 (grid0.coords t) a
  rw [crd] at e
  match a with
  | ⟨0, _⟩ =>
    show ix0 pf 0 (grid0.coords t) (0 : Fin 2) * 256 + 1 * (y (0 : Fin 2)).val = min (min t.val (n - 1)) 127 * 256 + (y (0 : Fin 2)).val
    rw [show ix0 pf 0 (grid0.coords t) (0 : Fin 2) = min t.val (n - 1) from e]
    omega
  | ⟨1, _⟩ =>
    show ix0 pf 0 (grid0.coords t) (1 : Fin 2) * 2048 + 1 * (y (1 : Fin 2)).val = 0 + (y (1 : Fin 2)).val
    rw [show ix0 pf 0 (grid0.coords t) (1 : Fin 2) = 0 from e]
    omega

theorem left_live {cfg : Cfg sig Λ₀} {c : Dev nD} (dat : Dat τ (Elt F) Unit ℕ (Pipeline.UD sig nD τ) ℕ cfg c) (w : Fin cfg.W) (t : Fin cfg.N) (d)
    (h : cfg.idle w (cfg.grid.coords t) = false) : dat.left w t d = dat.kept w t d := by
  unfold Dat.left
  rw [h]

/-- What block `k` comes to. -/
def outAt (c : Dev nD) (k : ℕ) : Vec F S256x2048 .i32 :=
  blockOut (F := F) (m c main_arg0) (m c main_arg2) (m c main_arg3) (m c main_arg4) k (eOf (wt (tb1 pf) k))

def PhiAt (c : Dev nD) (k : ℕ) : sProp 𝕄 :=
  iprop(pt c mT1 fullShare.right (m c main_v25) ∗ pt c mT2 fullShare.right (m c main_v36) ∗ pt c mT3 fullShare.right (m c main_v46) ∗ pt c mT4 fullShare.right (m c main_v47)
    ∗ (∃ r, prngReg c r)
    ∗ (∃ b0 b1 b2, ⌜InvG (F := F) (tb1 pf) (tb2 pf) (tb3 pf) n (m c main_arg2) k b0
          ∧ InvG (F := F) (tb1 pf) (tb2 pf) (tb3 pf) n (m c main_arg3) k b1
          ∧ InvD (F := F) (tb1 pf) (tb2 pf) (tb3 pf) n (m c main_arg4) k b2⌝
        ∗ Res c (m c main_arg2) (m c main_arg3) (m c main_arg4) b0 b1 b2))

/-- The proof data of the one region. -/
def dats (_ : Fin 1) (c : Dev nD) : Dat τ (Elt F) Unit ℕ (Pipeline.UD sig nD τ) ℕ (cfg0 (adm pf n hG)) c where
  A w := m c (Pipeline.arrRef spec0 w)
  after w t := match w with
    | ⟨0, _⟩ => rows (m c main_arg0) (min t.val (n - 1))
    | ⟨1, _⟩ => outAt m pf c (min t.val (n - 1))
  Φ t := PhiAt m pf n c t.val
  q _ := fullShare
  owed _ := 0

theorem A_eq (c : Dev nD) (w : Fin 2) : (dats m pf n hG 0 c).A w = m c (Pipeline.arrRef spec0 w) := by
  dsimp only [dats]
theorem after_0 (c : Dev nD) (t : Fin grid0.N) : (dats m pf n hG 0 c).after 0 t = rows (m c main_arg0) (min t.val (n - 1)) := rfl
theorem after_1 (c : Dev nD) (t : Fin grid0.N) : (dats m pf n hG 0 c).after 1 t = outAt m pf c (min t.val (n - 1)) := rfl

theorem before_0 (c : Dev nD) (t : Fin grid0.N) (d) : (dats m pf n hG 0 c).before 0 t d = rows (m c main_arg0) (min t.val (n - 1)) :=
  ((dats m pf n hG 0 c).before_in_eq_fetched 0 rfl (fun _ => rfl) (fun _ _ _ => rfl)
    (fun t => by rw [after_0]; unfold Dat.blockOf; rw [A_eq]; exact (blk_rows pf n hG _ t).symm) t d).trans
    (by unfold Dat.fetched Dat.blockOf; rw [A_eq]; exact blk_rows pf n hG _ t)

theorem before_1 (c : Dev nD) (t : Fin grid0.N) (h : n ≤ t.val) (d) : (dats m pf n hG 0 c).before 1 t d = outAt m pf c (n - 1) := by
  have hN : grid0.N = 128 := N_0
  have hle := hG.le
  have hp := hG.pos
  have htl := t.isLt
  have nf : ∀ t : Fin grid0.N, n ≤ t.val + 1 → t.val + 1 < 128 → ((cfg0 (adm pf n hG)).win 1).flush t = false := by
    intro t h1 h2
    rw [← Bool.not_eq_true, flush_iff]
    omega
  rw [Pipeline.Dat.before_idle_run (dats m pf n hG 0 c) 1 (fun _ => rfl) d (t.val - n) t (by omega)
    (fun j h1 h2 => ⟨(idle_iff pf n hG j).2 (by omega), nf j (by omega) (by omega)⟩)]
  have hni : (cfg0 (adm pf n hG)).idle 1 (grid0.coords ⟨n - 1, by omega⟩) = false := by
    rw [← Bool.not_eq_true, idle_iff]
    show ¬ n ≤ n - 1
    omega
  suffices e : ∀ (k : ℕ) (hk : k < grid0.N), k = n → (dats m pf n hG 0 c).before 1 ⟨k, hk⟩ d = outAt m pf c (n - 1) by
    exact e _ _ (by omega)
  intro k hk ek
  clear h htl
  subst ek
  rw [Pipeline.Dat.before_of_pos (dats m pf k hG 0 c) 1 ⟨k, hk⟩ (show k ≠ 0 by omega) rfl d,
    if_neg (by rw [nf _ (show k ≤ k - 1 + 1 by omega) (show k - 1 + 1 < 128 by omega)]; exact Bool.false_ne_true),
    left_live (dats m pf k hG 0 c) 1 _ d hni]
  show (dats m pf k hG 0 c).after 1 ⟨k - 1, (show k - 1 < grid0.N by omega)⟩ = _
  rw [after_1]
  exact congrArg (outAt m pf c) (by show min (k - 1) (k - 1) = k - 1; omega)

end Cert.Kernel.Hand
-- ==== Proof.Oblig.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import proofs.«01_k».proof.Proof.Step
public import proofs.«01_k».proof.Proof.Body
public import proofs.«01_k».proof.Proof.Run
public import proofs.«01_k».proof.Proof.Tab
public import proofs.«01_k».proof.Proof.Index
public import proofs.«01_k».proof.Proof.Weights
public import proofs.«01_k».proof.Proof.Host
public import proofs.«01_k».proof.Proof.Region
public import Idealize.ShloMosaic.Lib.Pipeline.AliasedRuns
public import Idealize.ShloMosaic.Lib.Pipeline.TableIdle
public import Idealize.ShloMosaic.Lib.WordCmp
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

local notation "𝕄" => MT nD τ sig Unit (Elt F) ℕ (Pipeline.UD sig nD τ) ℕ

theorem owns_pt (c : Dev nD) {sp : Space} {S : Shape} {e : EltTy} (M : Memref sig .tc sp S e) (h : M.IsWhole) (q : PosShare TreeShare) (X : S.Idx → Elt F e) :
    (owns (c : Thread nD τ) M q X : sProp 𝕄) = iprop(∃ f, ⌜M.view.read (Elt F) f = X⌝ ∗ pt c M q f) := by
  unfold owns
  rw [h.set_eq_univ]

theorem eOf_eq (v : BitVec 32) (h : v.toNat < 64) : eOf v = ⟨v.toNat, h⟩ := dif_pos h

variable (m : (c : Dev nD) → (b : Ref sig .tc) → Buf (Elt F) ((c : Thread nD τ).loc b)) (pf : pre0.Contents (Elt F))
variable (n : ℕ) (hG : Good pf n) (hpf : ∀ (c : Dev nD) (j : Fin pre0.K), m c (pre0.ref j) = pf j)

include hG hpf in
/-- One grid point: the tables and the weight sets step on, and a block in use is the block of rows through its expert. -/
theorem step_wp (c : Dev nD) (t : Fin grid0.N) (arg5 : Memref sig .tc .vmem S256x2048 .i32) (harg5 : arg5.IsWhole) (arg9 : Memref sig .tc .vmem S256x2048 .i32) (harg9 : arg9.IsWhole)
    (fx : bufOf (F := F) c arg5) (fy : bufOf (F := F) c arg9) (W : Waits sig Unit) (K : PUnit → sProp 𝕄) :
    iprop(PhiAt m pf n c t.val ∗ pt c arg5 fullShare fx ∗ pt c arg9 fullShare fy ∗ owes (c : Thread nD τ) 0 W
      ∗ (PhiAt m pf n c (t.val + 1) ∗ pt c arg5 fullShare fx
        ∗ (∃ fy' : bufOf (F := F) c arg9, ⌜(t.val < n → arg9.view.read (Elt F) fy' = k0_pay4 (F := F) (arg5.view.read (Elt F) fx)
              (rndG (eOf (wt (tb1 pf) t.val)) (m c main_arg2)) (rndG (eOf (wt (tb1 pf) t.val)) (m c main_arg3)) (rndD (eOf (wt (tb1 pf) t.val)) (m c main_arg4)))
            ∧ (¬ t.val < n → fy' = fy)⌝ ∗ pt c arg9 fullShare fy')
        ∗ (∃ W', owes (c : Thread nD τ) 0 W') -∗ K ⟨⟩))
    ⊢ wp frame (wpE (defs₀ (F := F)) Variants.none c none) Set.univ (cc0_expert_ffn (grid0.coords t) mT1 (Memref.isWhole_whole _) mT2 (Memref.isWhole_whole _) mT3 (Memref.isWhole_whole _) mT4 (Memref.isWhole_whole _) arg5 harg5 mWg (Memref.isWhole_whole _) mWu (Memref.isWhole_whole _) mWd (Memref.isWhole_whole _) arg9 harg9 sGate (Memref.isWhole_whole _) sUp (Memref.isWhole_whole _) sDown (Memref.isWhole_whole _) stG (Memref.isWhole_whole _) stU (Memref.isWhole_whole _) stD (Memref.isWhole_whole _) cc0_scratch6) K := by
  have q1 : m c main_v25 = tb1 pf := hpf c 0
  have q2 : m c main_v36 = tb2 pf := hpf c 1
  have q3 : m c main_v46 = tb3 pf := hpf c 2
  have q4 : m c main_v47 = tb4 pf := hpf c 3
  have hk : t.val < 128 := by have := t.isLt; have hN : grid0.N = 128 := N_0; omega
  have e1 : wt (tb1 pf) t.val = wd (F := F) (tb1 pf) (k0_off1 (grid0.coords t) 0) (off1_lt _) := (wd_wt (F := F) _ _ _ _ ((off1_val _).trans (crd t))).symm
  have e3 : wt (tb3 pf) t.val = wd (F := F) (tb3 pf) (k0_off1 (grid0.coords t) 0) (off1_lt _) := (wd_wt (F := F) _ _ _ _ ((off1_val _).trans (crd t))).symm
  have e5 : wt (tb2 pf) t.val = wd (F := F) (tb2 pf) (k0_off1 (grid0.coords t) 0) (off1_lt _) := (wd_wt (F := F) _ _ _ _ ((off1_val _).trans (crd t))).symm
  have e10 : wt (tb1 pf) (t.val - 1) = wd (F := F) (tb1 pf) (k0_off2 (grid0.coords t) 0) (off2_lt _) := (wd_wt (F := F) _ _ _ _ ((off2_val _).trans (congrArg (· - 1) (crd t)))).symm
  have hT : Tables (tb1 pf) (tb2 pf) (tb3 pf) (tb4 pf) n := hG
  generalize hv1' : wt (tb1 pf) t.val = v1 at e1
  generalize hv3' : wt (tb3 pf) t.val = v3 at e3
  generalize hv5' : wt (tb2 pf) t.val = v5 at e5
  generalize hv10' : wt (tb1 pf) (t.val - 1) = v10 at e10
  obtain ⟨v13, e13⟩ : ∃ v13, v13 = wd1 (F := F) (tb4 pf) := ⟨_, rfl⟩
  have hn13 : v13.toNat = n := by rw [e13]; exact hT.used
  have hv1 : v1.toNat < 64 := hv1' ▸ hT.blk _ hk
  have hv3 : v3.toNat < 2 := hv3' ▸ hT.set _ hk
  have hc2 := cond2_iff (grid0.coords t) v1 v5 v10 v13 n hn13 hT.le
  rw [crd] at hc2
  have hv5 : k0_cond2 (grid0.coords t) v1 v5 v10 v13 = 1#1 → v5.toNat < 64 := by
    intro h
    have := hc2.1 h
    subst hv5'
    exact hT.nxt _ this.1 this.2.2
  have hc23 := cond23_iff (grid0.coords t) v1 v5 v10 v13 n hn13 hT.le
  rw [crd] at hc23
  have hcr := crd t
  unfold PhiAt
  rw [q1, q2, q3, q4]
  iintro ⟨⟨H1, H2, H3, H4, Hg, ⟨%b0, %b1, %b2, %hI, HR⟩⟩, Hx, Hy, Ho, Hk⟩
  obtain ⟨hI0, hI1, hI2⟩ := hI
  have P0 := pointG (F := F) (tb1 pf) (tb2 pf) (tb3 pf) (tb4 pf) n hT (grid0.coords t) v1 v3 v5 v10 v13 (by rw [hcr]; exact hv1'.symm) (by rw [hcr]; exact hv3'.symm)
    (by rw [hcr]; exact hv5'.symm) (by rw [hcr]; exact hv10'.symm) hn13 hv1 hv5 (m c main_arg2) b0 (by rw [hcr]; exact hI0)
  have P1 := pointG (F := F) (tb1 pf) (tb2 pf) (tb3 pf) (tb4 pf) n hT (grid0.coords t) v1 v3 v5 v10 v13 (by rw [hcr]; exact hv1'.symm) (by rw [hcr]; exact hv3'.symm)
    (by rw [hcr]; exact hv5'.symm) (by rw [hcr]; exact hv10'.symm) hn13 hv1 hv5 (m c main_arg3) b1 (by rw [hcr]; exact hI1)
  have P2 := pointD (F := F) (tb1 pf) (tb2 pf) (tb3 pf) (tb4 pf) n hT (grid0.coords t) v1 v3 v5 v10 v13 (by rw [hcr]; exact hv1'.symm) (by rw [hcr]; exact hv3'.symm)
    (by rw [hcr]; exact hv5'.symm) (by rw [hcr]; exact hv10'.symm) hn13 hv1 hv5 (m c main_arg4) b2 (by rw [hcr]; exact hI2)
  rw [hcr] at P0 P1 P2
  iapply (body_wp (F := F) c (grid0.coords t) arg5 harg5 arg9 harg9 (tb1 pf) (tb2 pf) (tb3 pf) (tb4 pf) v1 v3 v5 v10 v13 e1 e3 e5 e10 e13 hv1 hv3 hv5
    (m c main_arg2) (m c main_arg3) (m c main_arg4) b0 b1 b2 fx fy W K)
  isplitl [H1]; · iexact H1
  isplitl [H2]; · iexact H2
  isplitl [H3]; · iexact H3
  isplitl [H4]; · iexact H4
  isplitl [HR]; · iexact HR
  isplitl [Hx]; · iexact Hx
  isplitl [Hy]; · iexact Hy
  isplitl [Ho]; · iexact Ho
  iintro ⟨H1, H2, H3, H4, HR, Hx, Hy, Ho⟩
  iapply Hk
  isplitl [H1 H2 H3 H4 Hg HR]
  · isplitl [H1]; · iexact H1
    isplitl [H2]; · iexact H2
    isplitl [H3]; · iexact H3
    isplitl [H4]; · iexact H4
    isplitl [Hg]; · iexact Hg
    iexists _; iexists _; iexists _
    isplitr
    swap; · iexact HR
    ipureintro
    exact ⟨P0.2, P1.2, P2.2⟩
  isplitl [Hx]; · iexact Hx
  isplitl [Hy]
  · iexists _
    isplitr
    swap; · iexact Hy
    ipureintro
    refine ⟨fun hlt => ?_, fun hge => if_neg (fun h => hge (hc23.1 h))⟩
    rw [if_pos (hc23.2 hlt), read_outBlock, eOf_eq v1 hv1, ← P0.1 hlt hv3 hv1, ← P1.1 hlt hv3 hv1, ← P2.1 hlt hv3 hv1]
  iexact Ho

abbrev st0 (t : Fin grid0.N) : Memref sig .tc .vmem S256x2048 .i32 := spec0_0.stage ((cfg0 (adm pf n hG)).slots t 0)
abbrev st1 (t : Fin grid0.N) : Memref sig .tc .vmem S256x2048 .i32 := spec0_1.stage ((cfg0 (adm pf n hG)).slots t 1)
theorem hst0 (t : Fin grid0.N) : (st0 pf n hG t).IsWhole := hstage0_0 (((cfg0 (adm pf n hG)).slots t 0).cast nbuf0_0)
theorem hst1 (t : Fin grid0.N) : (st1 pf n hG t).IsWhole := hstage0_1 (((cfg0 (adm pf n hG)).slots t 1).cast nbuf0_1)

def bodyPre (c : Dev nD) (t : Fin grid0.N) : sProp 𝕄 :=
  iprop(PhiAt m pf n c t.val ∗ (dats m pf n hG 0 c).owesAt () t.castSucc
    ∗ (∃ d, owns (c : Thread nD τ) (st0 pf n hG t) fullShare ((dats m pf n hG 0 c).before 0 t d))
    ∗ (∃ d, owns (c : Thread nD τ) (st1 pf n hG t) fullShare ((dats m pf n hG 0 c).before 1 t d)))
def bodyPost (c : Dev nD) (t : Fin grid0.N) : sProp 𝕄 :=
  iprop(PhiAt m pf n c (t.val + 1) ∗ (dats m pf n hG 0 c).owesAt () t.succ
    ∗ owns (c : Thread nD τ) (st0 pf n hG t) fullShare ((dats m pf n hG 0 c).after 0 t)
    ∗ (match (cfg0 (adm pf n hG)).idle 1 (grid0.coords t) with
                  | true =>
                    match ((cfg0 (adm pf n hG)).win 1).flush t with
                    | false => iprop(∃ d, owns (c : Thread nD τ) (st1 pf n hG t) fullShare ((dats m pf n hG 0 c).before 1 t d))
                    | true => owns (c : Thread nD τ) (st1 pf n hG t) fullShare ((dats m pf n hG 0 c).after 1 t)
                  | false => owns (c : Thread nD τ) (st1 pf n hG t) fullShare ((dats m pf n hG 0 c).after 1 t)))

include hpf in
theorem sound_body (c : Dev nD) (t : Fin grid0.N) :
    bodyPre m pf n hG c t ⊢ wp frame (wpE (defs₀ (F := F)) Variants.none c none) Set.univ (cc0_expert_ffn (grid0.coords t) mT1 (Memref.isWhole_whole _) mT2 (Memref.isWhole_whole _) mT3 (Memref.isWhole_whole _) mT4 (Memref.isWhole_whole _) (st0 pf n hG t) (hst0 pf n hG t) mWg (Memref.isWhole_whole _) mWu (Memref.isWhole_whole _) mWd (Memref.isWhole_whole _) (st1 pf n hG t) (hst1 pf n hG t) sGate (Memref.isWhole_whole _) sUp (Memref.isWhole_whole _) sDown (Memref.isWhole_whole _) stG (Memref.isWhole_whole _) stU (Memref.isWhole_whole _) stD (Memref.isWhole_whole _) cc0_scratch6) (fun _ => bodyPost m pf n hG c t) := by
  have hle := hG.le
  have hp := hG.pos
  unfold bodyPre bodyPost Dat.owesAt Pipeline.owesWithin
  rw [show (dats m pf n hG 0 c).owed t.castSucc = 0 from rfl, show (dats m pf n hG 0 c).owed t.succ = 0 from rfl, after_0, after_1]
  by_cases hlt : t.val < n
  · have hid : (cfg0 (adm pf n hG)).idle 1 (grid0.coords t) = false := by
      rw [← Bool.not_eq_true, idle_iff]; omega
    rw [hid]
    rw [show (fun d => owns (c : Thread nD τ) (st1 pf n hG t) fullShare ((dats m pf n hG 0 c).before 1 t d) : _ → sProp 𝕄)
      = (fun d => iprop(∃ f, ⌜(st1 pf n hG t).view.read (Elt F) f = (dats m pf n hG 0 c).before 1 t d⌝ ∗ pt c (st1 pf n hG t) fullShare f)) from
      funext fun d => owns_pt c _ (hst1 pf n hG t) _ _]
    simp only [before_0, owns_pt c _ (hst0 pf n hG t), owns_pt c _ (hst1 pf n hG t)]
    iintro ⟨HP, ⟨%W, -, HW⟩, ⟨%d0, %fx, %hfx, H0⟩, ⟨%d1, %fy, %hfy, H1⟩⟩
    iapply (step_wp m pf n hG hpf c t (st0 pf n hG t) (hst0 pf n hG t) (st1 pf n hG t) (hst1 pf n hG t) fx fy W _)
    isplitl [HP]; · iexact HP
    isplitl [H0]; · iexact H0
    isplitl [H1]; · iexact H1
    isplitl [HW]; · iexact HW
    iintro ⟨HP, H0, ⟨%fy', %hy, H1⟩, ⟨%W', HW⟩⟩
    isplitl [HP]; · iexact HP
    isplitl [HW]
    · iexists W'; isplitr; · ipureintro; exact fun _ _ => Or.inl trivial
      iexact HW
    isplitl [H0]
    · iexists fx; isplitr; · ipureintro; exact hfx
      iexact H0
    iexists fy'; isplitr
    · ipureintro
      rw [hy.1 hlt, hfx, show min t.val (n - 1) = t.val by omega]
      rfl
    iexact H1
  · have hid : (cfg0 (adm pf n hG)).idle 1 (grid0.coords t) = true := by
      rw [idle_iff]; omega
    have hge : n ≤ t.val := by omega
    rw [hid, show min t.val (n - 1) = n - 1 by omega]
    simp only [before_0, before_1 m pf n hG c t hge, owns_pt c _ (hst0 pf n hG t), owns_pt c _ (hst1 pf n hG t)]
    cases ((cfg0 (adm pf n hG)).win 1).flush t
    · simp only
      iintro ⟨HP, ⟨%W, -, HW⟩, ⟨%d0, %fx, %hfx, H0⟩, ⟨%d1, %fy, %hfy, H1⟩⟩
      iapply (step_wp m pf n hG hpf c t (st0 pf n hG t) (hst0 pf n hG t) (st1 pf n hG t) (hst1 pf n hG t) fx fy W _)
      isplitl [HP]; · iexact HP
      isplitl [H0]; · iexact H0
      isplitl [H1]; · iexact H1
      isplitl [HW]; · iexact HW
      iintro ⟨HP, H0, ⟨%fy', %hy, H1⟩, ⟨%W', HW⟩⟩
      isplitl [HP]; · iexact HP
      isplitl [HW]
      · iexists W'; isplitr; · ipureintro; exact fun _ _ => Or.inl trivial
        iexact HW
      isplitl [H0]
      · iexists fx; isplitr; · ipureintro; exact hfx.trans (congrArg (rows _) (by omega))
        iexact H0
      iexists d1
      iexists fy'; isplitr
      · ipureintro
        rw [hy.2 hlt, hfy]
      iexact H1
    · simp only
      iintro ⟨HP, ⟨%W, -, HW⟩, ⟨%d0, %fx, %hfx, H0⟩, ⟨%d1, %fy, %hfy, H1⟩⟩
      iapply (step_wp m pf n hG hpf c t (st0 pf n hG t) (hst0 pf n hG t) (st1 pf n hG t) (hst1 pf n hG t) fx fy W _)
      isplitl [HP]; · iexact HP
      isplitl [H0]; · iexact H0
      isplitl [H1]; · iexact H1
      isplitl [HW]; · iexact HW
      iintro ⟨HP, H0, ⟨%fy', %hy, H1⟩, ⟨%W', HW⟩⟩
      isplitl [HP]; · iexact HP
      isplitl [HW]
      · iexists W'; isplitr; · ipureintro; exact fun _ _ => Or.inl trivial
        iexact HW
      isplitl [H0]
      · iexists fx; isplitr; · ipureintro; exact hfx.trans (congrArg (rows _) (by omega))
        iexact H0
      iexists fy'; isplitr
      · ipureintro
        rw [hy.2 hlt, hfy]
      iexact H1

theorem defs₀_row (t : Fin grid0.N) :
    defs₀ (F := F) .tc (cfg0 (adm pf n hG)).body ((cfg0 (adm pf n hG)).bodyArgs t ((cfg0 (adm pf n hG)).slots t)) = (cc0_expert_ffn (grid0.coords t) mT1 (Memref.isWhole_whole _) mT2 (Memref.isWhole_whole _) mT3 (Memref.isWhole_whole _) mT4 (Memref.isWhole_whole _) (st0 pf n hG t) (hst0 pf n hG t) mWg (Memref.isWhole_whole _) mWu (Memref.isWhole_whole _) mWd (Memref.isWhole_whole _) (st1 pf n hG t) (hst1 pf n hG t) sGate (Memref.isWhole_whole _) sUp (Memref.isWhole_whole _) sDown (Memref.isWhole_whole _) stG (Memref.isWhole_whole _) stU (Memref.isWhole_whole _) stD (Memref.isWhole_whole _) cc0_scratch6) := by
  unfold defs₀; rw [Defs.onTc_tc]

include hpf in
theorem body_obligation (c : Dev nD) : BodyObligation (dats m pf n hG 0 c) (defs₀ (F := F)) Variants.none () Set.univ := fun t => by
  rw [bigSep_W0, bigSep_W0, defs₀_row]
  exact triple_restated (sound_body m pf n hG hpf c t) rfl .rfl fun _ => .rfl

end Cert.Kernel.Hand
-- ==== Proof.Whole.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import proofs.«01_k».proof.Proof.Step
public import proofs.«01_k».proof.Proof.Body
public import proofs.«01_k».proof.Proof.Run
public import proofs.«01_k».proof.Proof.Tab
public import proofs.«01_k».proof.Proof.Index
public import proofs.«01_k».proof.Proof.Weights
public import proofs.«01_k».proof.Proof.Host
public import proofs.«01_k».proof.Proof.Region
public import proofs.«01_k».proof.Proof.Oblig
public import Idealize.ShloMosaic.Lib.Pipeline.AliasedRuns
public import Idealize.ShloMosaic.Lib.Pipeline.TableIdle
public import Idealize.ShloMosaic.Lib.WordCmp
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

local notation "𝕄" => MT nD τ sig Unit (Elt F) ℕ (Pipeline.UD sig nD τ) ℕ

abbrev osem0 : Fin 18 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 18 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5, 6, 7, 8, 9, 10, 11, 12, 13, 14, 15, 16, 17] (by decide) (by decide)]; rfl

/-- The weights the body's own transfers read. -/
def H0 : Finset (Ref sig .tc) := {main_arg2, main_arg3, main_arg4}
theorem H0_sub : H0 ⊆ Pipeline.restRefsP sig pre0 spec0 := by decide

variable (v : (c : Dev nD) → (b : Ref sig .tc) → Buf (Elt F) ((c : Thread nD τ).loc b)) (pf : pre0.Contents (Elt F))
variable (n : ℕ) (hG : Good pf n) (hpf : ∀ (c : Dev nD) (j : Fin pre0.K), v c (pre0.ref j) = pf j)

theorem hbmPts0_eq (c : Dev nD) :
    (bigSep H0 (fun b => ((c : Thread nD τ).loc b) ↦{fullShare} v c b) : sProp 𝕄)
      = iprop(pt c mWg fullShare (v c main_arg2) ∗ pt c mWu fullShare (v c main_arg3) ∗ pt c mWd fullShare (v c main_arg4)) := by
  rw [BI.bigSep_eq_bigSepL_of_eq [main_arg2, main_arg3, main_arg4] (by decide) (by decide)]; rfl

theorem tables_eq (c : Dev nD) :
    (Pipeline.ΦT pre0 pf c : sProp 𝕄)
      = iprop(pt c mT1 fullShare.right (pf 0) ∗ pt c mT2 fullShare.right (pf 1) ∗ pt c mT3 fullShare.right (pf 2) ∗ pt c mT4 fullShare.right (pf 3)) := by
  unfold Pipeline.ΦT Pipeline.prefHeld
  rw [show (Finset.univ : Finset (Fin 4)) = insert 0 (insert 1 (insert 2 {3})) from by decide, bigSep_insert (by decide), bigSep_insert (by decide), bigSep_insert (by decide), bigSep_singleton]
  rfl

theorem inv0_G (T1 T2 T3 : S128.Idx → BitVec 32) (w : S64x4096x512.Idx → F .f32) (b : S2x4096x512.Idx → F .bf16) : InvG T1 T2 T3 n w 0 b :=
  fun j h => absurd h (by omega)
theorem inv0_D (T1 T2 T3 : S128.Idx → BitVec 32) (w : S64x512x4096.Idx → F .f32) (b : S2x512x4096.Idx → F .bf16) : InvD T1 T2 T3 n w 0 b :=
  fun j h => absurd h (by omega)

include hpf in
theorem phi_in (c : Dev nD) : iprop(Pipeline.ΦD osem0 spec0 H0 v c ∗ Pipeline.ΦT pre0 pf c) ⊢ PhiAt v pf n c 0 := by
  rw [Pipeline.ΦD_eq, scopedRest0_eq, ownSems00_eq, hbmPts0_eq, tables_eq, ← hpf c 0, ← hpf c 1, ← hpf c 2, ← hpf c 3]
  unfold PhiAt Res
  iintro ⟨⟨⟨⟨%b0, S0⟩, ⟨%b1, S1⟩, ⟨%b2, S2⟩, S3, S4, S5⟩, Hg, ⟨Q4, Q5, Q6, Q7, Q8, Q9, Q10, Q11, Q12, Q13, Q14, Q15, Q16, Q17, Q18, Q19, Q20, Q21⟩, ⟨A2, A3, A4⟩⟩, ⟨T1, T2, T3, T4⟩⟩
  isplitl [T1]; · iexact T1
  isplitl [T2]; · iexact T2
  isplitl [T3]; · iexact T3
  isplitl [T4]; · iexact T4
  isplitl [Hg]; · iexact Hg
  iexists b0; iexists b1; iexists b2
  isplitr
  · ipureintro; exact ⟨inv0_G n _ _ _ _ _, inv0_G n _ _ _ _ _, inv0_D n _ _ _ _ _⟩
  isplitl [S3]; · iexact S3
  isplitl [S4]; · iexact S4
  isplitl [S5]; · iexact S5
  isplitl [A2]; · iexact A2
  isplitl [A3]; · iexact A3
  isplitl [A4]; · iexact A4
  isplitl [S0]; · iexact S0
  isplitl [S1]; · iexact S1
  isplitl [S2]; · iexact S2
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  iexact Q21

theorem phi_out (c : Dev nD) (k : ℕ) : PhiAt v pf n c k ⊢ Pipeline.ΦD osem0 spec0 H0 v c := by
  rw [Pipeline.ΦD_eq, scopedRest0_eq, ownSems00_eq, hbmPts0_eq]
  unfold PhiAt Res
  iintro ⟨T1, T2, T3, T4, Hg, ⟨%b0, %b1, %b2, -, S3, S4, S5, A2, A3, A4, S0, S1, S2, Q4, Q5, Q6, Q7, Q8, Q9, Q10, Q11, Q12, Q13, Q14, Q15, Q16, Q17, Q18, Q19, Q20, Q21⟩⟩
  isplitl [S0 S1 S2 S3 S4 S5]
  · isplitl [S0]; · iexists b0; iexact S0
    isplitl [S1]; · iexists b1; iexact S1
    isplitl [S2]; · iexists b2; iexact S2
    isplitl [S3]; · iexact S3
    isplitl [S4]; · iexact S4
    iexact S5
  isplitl [Hg]; · iexact Hg
  isplitl [Q4 Q5 Q6 Q7 Q8 Q9 Q10 Q11 Q12 Q13 Q14 Q15 Q16 Q17 Q18 Q19 Q20 Q21]
  · isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    iexact Q21
  isplitl [A2]; · iexact A2
  isplitl [A3]; · iexact A3
  iexact A4

variable (m : (ℓ : Loc nD τ sig) → Buf (Elt F) ℓ) (ρ : Dev nD → PrngReg)

set_option backward.isDefEq.respectTransparency.types false in
include hpf in
theorem run_of (hm : Pipeline.HMainP (Ix := Unit) (Name := ℕ) (U := Pipeline.UD sig nD τ) (Lvl := ℕ) pcfgs 0 defs₀ Variants.none m (main (F := F)) v) :
    θ_run defs (onTc (τ := τ) (main (F := F))) (s₀ m ρ)
      (fun r => Pipeline.FramePost (Pipeline.pin pcfgs (fun _ => adm pf n hG)) (dats v pf n hG) 0 v r ∧ r.2.sem = fun _ => 0) :=
  Pipeline.θ_run_frameP_dma (Q' := _) pcfgs (fun _ => adm pf n hG) (dats v pf n hG) (0 : Fin 1) launch0 osem0 defs₀ Variants.none ownSemFacts0 H0 H0_sub m ρ main
    (hbody := fun c => (body_obligation v pf n hG hpf c).loose) (hshare := fun c => (dats v pf n hG 0 c).share_full fun _ => rfl)
    (howed := fun _ _ => rfl) (V := v) (hmain := hm) (hA := A_eq v pf n hG) (hpf := hpf)
    (hin := phi_in v pf n hpf) (hout := fun c => phi_out v pf n c _)

theorem run_main (hG : Good (tbl m) n) :
    θ_run defs (onTc (τ := τ) (main (F := F))) (s₀ m ρ)
      (fun r => Pipeline.FramePost (Pipeline.pin pcfgs (fun _ => adm (tbl m) n hG)) (dats (V m) (tbl m) n hG) 0 (V m) r ∧ r.2.sem = fun _ => 0) :=
  run_of (V m) (tbl m) n hG (V_pre m) m ρ (hmain m Variants.none)

end Cert.Kernel.Hand
-- ==== Proof.Good.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import proofs.«01_k».proof.Proof.Step
public import proofs.«01_k».proof.Proof.Body
public import proofs.«01_k».proof.Proof.Run
public import proofs.«01_k».proof.Proof.Tab
public import proofs.«01_k».proof.Proof.Index
public import proofs.«01_k».proof.Proof.Weights
public import proofs.«01_k».proof.Proof.Host
public import proofs.«01_k».proof.Proof.Plan
public import Idealize.ShloMosaic.Lib.StableHlo.ReadAt
public import Idealize.ShloMosaic.Lib.Pipeline.AliasedRuns
public import Idealize.ShloMosaic.Lib.Pipeline.TableIdle
public import Idealize.ShloMosaic.Lib.WordCmp
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]
variable (m : (ℓ : Loc nD τ sig) → Buf (Elt F) ℓ)

variable (f : Valuation τ sig (Elt F))

/-- The host's operations in three stretches. -/
def stretch1 : List (HloOp τ sig (Elt F)) := List.flatten [hostOps0, hostOps0_1, hostOps0_2, hostOps0_3]
def stretch2 : List (HloOp τ sig (Elt F)) := List.flatten [hostOps0_4, hostOps0_5, hostOps0_6]
def stretch3 : List (HloOp τ sig (Elt F)) := List.flatten [hostOps0_7, hostOps0_8, hostOps0_9, hostOps0_10, hostOps0_11, hostOps0_12, hostOps0_13, hostOps0_14]

theorem V_split (c : Dev nD) (b : Ref sig .tc) :
    V m c b = StableHlo.after stretch3 (StableHlo.after stretch2 (StableHlo.after stretch1 (fun b => m (c, b)))) b := by
  rw [← StableHlo.after_append, ← StableHlo.after_append]
  rfl

theorem s1_v7 : StableHlo.after stretch1 f main_v7 = Plan.ends bcast_S_S64 bcast_S_S_ reduceWindows_S64_S64_w64s1p63_0 h_S_ (f main_arg1) := by
  unfold stretch1
  after_reads_simp
  simp -implicitDefEqProofs only [StableHlo.TRef.toBuf, StableHlo.TRef.ofBuf, cast_cast, cast_eq, id]
  rfl

theorem s2_v7 : StableHlo.after stretch2 f main_v7 = f main_v7 := by
  unfold stretch2
  after_reads_simp

theorem s3_v7 : StableHlo.after stretch3 f main_v7 = f main_v7 := by
  unfold stretch3
  after_reads_simp

theorem s2_v10 : StableHlo.after stretch2 f main_v10 = Plan.used slices_S64_S1_63 shapeCasts_S1_S_ (f main_v7) := by
  unfold stretch2
  after_reads_simp
  simp -implicitDefEqProofs only [StableHlo.TRef.toBuf, StableHlo.TRef.ofBuf, cast_cast, cast_eq, id]
  rfl

theorem s3_v10 : StableHlo.after stretch3 f main_v10 = f main_v10 := by
  unfold stretch3
  after_reads_simp

theorem s3_v47 : StableHlo.after stretch3 f main_v47 = shapeCast S1 (f main_v10) shapeCasts_S_S1 := by
  unfold stretch3
  after_reads_simp
  rfl

theorem s2_v25 : StableHlo.after stretch2 f main_v25 = Plan.experts bcast_S_S128 h_S_ bcast_S64_S1x64_1 bcast_S1x64_S128x64_0_1 bcast_S128_S128x1_0 bcast_S128x1_S128x64_0_1 reducesTo_S128x64_S128_d1 natLt_1_32
      (f main_v7) (Plan.base bcast_S_S128 (Plan.used slices_S64_S1_63 shapeCasts_S1_S_ (f main_v7))) := by
  unfold stretch2
  after_reads_simp
  simp -implicitDefEqProofs only [StableHlo.TRef.toBuf, StableHlo.TRef.ofBuf, cast_cast, cast_eq, id]
  rfl

theorem s3_v25 : StableHlo.after stretch3 f main_v25 = f main_v25 := by
  unfold stretch3
  after_reads_simp

theorem s2_v30 : StableHlo.after stretch2 f main_v30 = cmpi .sgt (broadcastInDim S128x128 ![0, 1] bcast_S1x128_S128x128_0_1 (broadcastInDim S1x128 ![1] bcast_S128_S1x128_1 (StableHlo.after stretch2 f main_v25)))
    (broadcastInDim S128x128 ![0, 1] bcast_S128x1_S128x128_0_1 (broadcastInDim S128x1 ![0] bcast_S128_S128x1_0 (StableHlo.after stretch2 f main_v25))) := by
  unfold stretch2
  after_reads_simp

theorem s2_v31 : StableHlo.after stretch2 f main_v31 = broadcastInDim S1x128 ![1] bcast_S128_S1x128_1 (StableHlo.after stretch2 f main_v25) := by
  unfold stretch2
  after_reads_simp

theorem s2_c8 : StableHlo.after stretch2 f main_c_8 = constantI S_ 32 64#32 := by
  unfold stretch2
  after_reads_simp

theorem s3_v36 (h30 : f main_v30 = cmpi .sgt (broadcastInDim S128x128 ![0, 1] bcast_S1x128_S128x128_0_1 (broadcastInDim S1x128 ![1] bcast_S128_S1x128_1 (f main_v25)))
    (broadcastInDim S128x128 ![0, 1] bcast_S128x1_S128x128_0_1 (broadcastInDim S128x1 ![0] bcast_S128_S128x1_0 (f main_v25))))
    (h31 : f main_v31 = broadcastInDim S1x128 ![1] bcast_S128_S1x128_1 (f main_v25)) (h8 : f main_c_8 = constantI S_ 32 64#32) :
    StableHlo.after stretch3 f main_v36 = Plan.nexts bcast_S_S128 h_S_ bcast_S128_S128x1_0 bcast_S128_S1x128_1 bcast_S1x128_S128x128_0_1 bcast_S128x1_S128x128_0_1 bcast_S_S128x128 reducesTo_S128x128_S128_d1 (f main_v25) := by
  unfold stretch3
  after_reads_simp
  simp -implicitDefEqProofs only [StableHlo.TRef.toBuf, StableHlo.TRef.ofBuf, cast_cast, cast_eq, id]
  rw [h30, h31, h8]
  rfl

theorem s3_v46 : StableHlo.after stretch3 f main_v46 = Plan.sets bcast_S_S128 bcast_S_S_ reduceWindows_S128_S128_w128s1p127_0 h_S_ natLt_1_32 bcast_S_S1 slices_S128_S127_1 slices_S128_S127_0 concatenates_S1_S127_S128_d0 (f main_v25) := by
  unfold stretch3
  after_reads_simp
  simp -implicitDefEqProofs only [StableHlo.TRef.toBuf, StableHlo.TRef.ofBuf, cast_cast, cast_eq, id]
  rfl

theorem V_v48 (c : Dev nD) : V m c main_v48 = m ((c : Thread nD τ).loc main_arg0) := by
  unfold V
  after_reads_simp
  rfl

/-- Where each expert's slots end. -/
def ends (c : Dev nD) : S64.Idx → BitVec 32 := Plan.ends bcast_S_S64 bcast_S_S_ reduceWindows_S64_S64_w64s1p63_0 h_S_ (m ((c : Thread nD τ).loc main_arg1))

theorem V_v10 (c : Dev nD) : V m c main_v10 = Plan.used slices_S64_S1_63 shapeCasts_S1_S_ (ends m c) := by
  rw [V_split, s3_v10, s2_v10, s1_v7]
  rfl

theorem V_v47 (c : Dev nD) : V m c main_v47 = shapeCast S1 (Plan.used slices_S64_S1_63 shapeCasts_S1_S_ (ends m c)) shapeCasts_S_S1 := by
  rw [V_split, s3_v47, s2_v10, s1_v7]
  rfl

theorem V_v25 (c : Dev nD) : V m c main_v25 = Plan.experts bcast_S_S128 h_S_ bcast_S64_S1x64_1 bcast_S1x64_S128x64_0_1 bcast_S128_S128x1_0 bcast_S128x1_S128x64_0_1 reducesTo_S128x64_S128_d1 natLt_1_32
      (ends m c) (Plan.base bcast_S_S128 (Plan.used slices_S64_S1_63 shapeCasts_S1_S_ (ends m c))) := by
  rw [V_split, s3_v25, s2_v25, s1_v7]
  rfl

theorem V_v36 (c : Dev nD) : V m c main_v36 = Plan.nexts bcast_S_S128 h_S_ bcast_S128_S128x1_0 bcast_S128_S1x128_1 bcast_S1x128_S128x128_0_1 bcast_S128x1_S128x128_0_1 bcast_S_S128x128 reducesTo_S128x128_S128_d1 (V m c main_v25) := by
  rw [V_split m c main_v25, V_split, s3_v25, s3_v36 _ (s2_v30 _) (s2_v31 _) (s2_c8 _)]

theorem V_v46 (c : Dev nD) : V m c main_v46 = Plan.sets bcast_S_S128 bcast_S_S_ reduceWindows_S128_S128_w128s1p127_0 h_S_ natLt_1_32 bcast_S_S1 slices_S128_S127_1 slices_S128_S127_0 concatenates_S1_S127_S128_d0 (V m c main_v25) := by
  rw [V_split m c main_v25, V_split, s3_v25, s3_v46]

theorem cast_one (u : S_.Idx → BitVec 32) (i : S1.Idx) : shapeCast S1 u shapeCasts_S_S1 i = u ValueIdx.ix0 :=
  congrArg u (funext fun a => a.elim0)

theorem ix1_eq (k : ℕ) (h : k < 128) : ix1 k h = ValueIdx.ix1 (⟨k, h⟩ : Fin 128) := by
  funext a
  match a with
  | ⟨0, _⟩ => rfl

theorem wt_eq (T : S128.Idx → BitVec 32) (k : ℕ) (h : k < 128) : wt T k = T (ValueIdx.ix1 (⟨k, h⟩ : Fin 128)) := by
  unfold wt
  rw [dif_pos h, ix1_eq]

open Routing in
/-- Tables over words of a rising sequence of experts. -/
theorem tables_of (T1 T2 T3 : S128.Idx → BitVec 32) (T4 : S1.Idx → BitVec 32) (n : ℕ) (h1 : 1 ≤ n) (hn : n ≤ 127) (e : ℕ → ℕ) (he : ∀ i, e i ≤ 63)
    (hm : ∀ i j, i ≤ j → j < 128 → e i ≤ e j)
    (t1 : ∀ k : Fin 128, T1 (ValueIdx.ix1 k) = BitVec.ofNat 32 (e k.val))
    (t2 : ∀ k : Fin 128, ∃ μ, T2 (ValueIdx.ix1 k) = (if μ = 64 then 4294967295#32 else BitVec.ofNat 32 μ) ∧ μ ≤ 64
      ∧ (∀ l, l < 128 → μ ≤ Plan.offer e k.val l) ∧ ∃ l, l < 128 ∧ μ = Plan.offer e k.val l)
    (t3 : ∀ k : Fin 128, T3 (ValueIdx.ix1 k) = BitVec.ofNat 32 ((Plan.run e k.val - 1) % 2))
    (t4 : T4 (fun a => ⟨0, by fin_cases a; exact Nat.one_pos⟩) = BitVec.ofNat 32 n) : Tables T1 T2 T3 T4 n := by
  have ne : ∀ k, k + 1 < 128 → (wt T1 (k + 1) = wt T1 k ↔ e (k + 1) = e k) := by
    intro k hk
    rw [wt_eq _ _ hk, wt_eq _ k (by omega), t1, t1]
    have a := he k
    have b := he (k + 1)
    constructor
    · intro h
      have := congrArg BitVec.toNat h
      rw [BitVec.toNat_ofNat, BitVec.toNat_ofNat] at this
      show e (k + 1) = e k
      dsimp only at this
      omega
    · intro h
      dsimp only
      rw [h]
  refine ⟨?_, h1, by omega, ?_, ?_, ?_, ?_, ?_⟩
  · rw [t4, BitVec.toNat_ofNat]; omega
  · intro k hk
    rw [wt_eq _ _ hk, t1, BitVec.toNat_ofNat]
    have := he k
    dsimp only
    omega
  · intro k hk
    rw [wt_eq _ _ hk, t3, BitVec.toNat_ofNat]
    omega
  · intro k hk h
    have hk' : k < 128 := by omega
    obtain ⟨μ, h2, h3, -, -⟩ := t2 ⟨k, hk'⟩
    rw [wt_eq _ _ hk', h2] at h ⊢
    split
    · rename_i h4
      rw [if_pos h4] at h
      exact absurd h (by decide)
    · rw [BitVec.toNat_ofNat]
      omega
  · intro k hk h
    have hk' : k + 1 < 128 := by omega
    have e1 := (ne k hk').1 h
    obtain ⟨μ, h2, -, h3, h4⟩ := t2 ⟨k, by omega⟩
    obtain ⟨ν, h5, -, h6, h7⟩ := t2 ⟨k + 1, hk'⟩
    refine ⟨?_, ?_⟩
    · rw [wt_eq _ _ hk', wt_eq _ k (by omega), t3, t3]
      dsimp only
      rw [Plan.run_succ, show Plan.nw e (k + 1) = 0 from by unfold Plan.nw; rw [if_neg (by omega), if_pos (by rw [Nat.add_sub_cancel]; exact e1)]]
      rfl
    · rw [wt_eq _ _ hk', wt_eq _ k (by omega), h2, h5, Plan.next_same e k e1 h3 h4 h6 h7]
  · intro k hk h
    have hk' : k + 1 < 128 := by omega
    have e1 : e (k + 1) ≠ e k := fun h' => h ((ne k hk').2 h')
    obtain ⟨μ, h2, -, h3, h4⟩ := t2 ⟨k, by omega⟩
    have hμ := Plan.next_change e hm he k hk' e1 h3 h4
    have hr := Plan.run_bounds e k
    refine ⟨?_, ?_⟩
    · rw [wt_eq _ _ hk', wt_eq _ k (by omega), t3, t3]
      dsimp only
      rw [Plan.run_succ, show Plan.nw e (k + 1) = 1 from by unfold Plan.nw; rw [if_neg (by omega), if_neg (by rw [Nat.add_sub_cancel]; exact e1)]]
      rw [show (1#32 : BitVec 32) = BitVec.ofNat 32 1 from rfl, Routing.ofNat32_sub (by omega)]
      exact congrArg (BitVec.ofNat 32) (by omega)
    · have := he (k + 1)
      rw [wt_eq _ _ hk', wt_eq _ k (by omega), h2, t1, hμ, if_neg (by omega)]

/-- The tables the host writes are good. -/
theorem good (cN : ℕ → ℕ) (hc : ∀ i : Fin 64, m ((0 : Dev nD), Proc.devRef .tc main_arg1) (ValueIdx.ix1 i) = BitVec.ofNat 32 (cN i.val))
    (hle : ∀ i, i < 64 → cN i ≤ 16384) (hs : ((List.range 64).map cN).sum = 16384) : Good (tbl m) (Plan.total cN) := by
  obtain ⟨h64, h127⟩ := Plan.total_bounds cN hs
  have hp := Plan.ends_last bcast_S_S64 bcast_S_S_ reduceWindows_S64_S64_w64s1p63_0 h_S_ _ cN hc hle
  have hu := Plan.used_ap slices_S64_S1_63 shapeCasts_S1_S_ _ _ h127 hp
  have t1 : ∀ k : Fin 128, V m (0 : Dev nD) main_v25 (ValueIdx.ix1 k) = BitVec.ofNat 32 (Plan.num (ends m 0) (min k.val (Plan.total cN - 1))) := by
    intro k
    rw [V_v25]
    exact Plan.experts_ap bcast_S_S128 h_S_ bcast_S64_S1x64_1 bcast_S1x64_S128x64_0_1 bcast_S128_S128x1_0 bcast_S128x1_S128x64_0_1 reducesTo_S128x64_S128_d1 natLt_1_32
      (ends m 0) _ (fun k => min k (Plan.total cN - 1)) k (Plan.base_ap bcast_S_S128 _ _ (by omega) h127 hu k)
  have he : ∀ i, (fun k => Plan.num (ends m 0) (min k (Plan.total cN - 1))) i ≤ 63 := fun i => Plan.num_le _ _
  refine tables_of _ _ _ _ _ (by omega) h127 (fun k => Plan.num (ends m 0) (min k (Plan.total cN - 1))) he
    (fun i j hij hj => Plan.num_mono _ (by omega) (by omega)) t1 (fun k => ?_) (fun k => ?_) ?_
  · show ∃ μ, V m (0 : Dev nD) main_v36 (ValueIdx.ix1 k) = _ ∧ _
    rw [V_v36]
    exact Plan.nexts_ap bcast_S_S128 h_S_ bcast_S128_S128x1_0 bcast_S128_S1x128_1 bcast_S1x128_S128x128_0_1 bcast_S128x1_S128x128_0_1 bcast_S_S128x128 reducesTo_S128x128_S128_d1 _ _ he t1 k
  · show V m (0 : Dev nD) main_v46 (ValueIdx.ix1 k) = _
    rw [V_v46]
    exact Plan.sets_ap bcast_S_S128 bcast_S_S_ reduceWindows_S128_S128_w128s1p127_0 h_S_ natLt_1_32 bcast_S_S1 slices_S128_S127_1 slices_S128_S127_0 concatenates_S1_S127_S128_d0 _ _ he t1 k
  · show V m (0 : Dev nD) main_v47 _ = _
    rw [V_v47]
    exact Eq.trans (cast_one _ _) hu

end Cert.Kernel.Hand
-- ==== Proof.Final.lean ====
module

public import proofs.«01_k».proof.Proof.Gen.Kernel.Launch
public import proofs.«01_k».proof.Proof.Gen.Kernel.Skeleton
public import Idealize.ShloMosaic.Lib.Pipeline.FrameBody
public import proofs.«01_k».proof.Proof.Vals
public import proofs.«01_k».proof.Proof.Load
public import proofs.«01_k».proof.Proof.Next
public import proofs.«01_k».proof.Proof.Comp
public import proofs.«01_k».proof.Proof.Step
public import proofs.«01_k».proof.Proof.Body
public import proofs.«01_k».proof.Proof.Run
public import proofs.«01_k».proof.Proof.Tab
public import proofs.«01_k».proof.Proof.Index
public import proofs.«01_k».proof.Proof.Weights
public import proofs.«01_k».proof.Proof.Host
public import proofs.«01_k».proof.Proof.Region
public import proofs.«01_k».proof.Proof.Oblig
public import proofs.«01_k».proof.Proof.Whole
public import proofs.«01_k».proof.Proof.Good
public import Idealize.ShloMosaic.Lib.Pipeline.Value
public import Idealize.ShloMosaic.Lib.Pipeline.AliasedRuns
public import Idealize.ShloMosaic.Lib.Pipeline.TableIdle
public import Idealize.ShloMosaic.Lib.WordCmp
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts] {F : FTy → Type} [BitOps F]

section
variable (v : (c : Dev nD) → (b : Ref sig .tc) → Buf (Elt F) ((c : Thread nD τ).loc b)) (pf : pre0.Contents (Elt F))
variable (n : ℕ) (hG : Good pf n)

/-- The result array: the used blocks through their experts, the others as the array was. -/
def blocksOut (c : Dev nD) : S32768x2048.Idx → BitVec 32 := fun i =>
  if (i (0 : Fin 2)).val / 256 < n then outAt v pf c ((i (0 : Fin 2)).val / 256) (ValueIdx.ix2 ⟨(i (0 : Fin 2)).val % 256, Nat.mod_lt _ (by decide)⟩ (i (1 : Fin 2))) else v c main_v48 i

theorem emb_row (t : Fin grid0.N) (y : S256x2048.Idx) :
    ((((cfg0 (adm pf n hG)).win 1).blk t).view.emb y (0 : Fin 2)).val = min t.val (n - 1) * 256 + (y (0 : Fin 2)).val := by
  have e := ixv pf n hG 1 (grid0.coords t) (0 : Fin 2)
  rw [crd] at e
  show ix0 pf 1 (grid0.coords t) (0 : Fin 2) * 256 + 1 * (y (0 : Fin 2)).val = _
  rw [show ix0 pf 1 (grid0.coords t) (0 : Fin 2) = min t.val (n - 1) from e]
  omega

theorem emb_col (t : Fin grid0.N) (y : S256x2048.Idx) :
    ((((cfg0 (adm pf n hG)).win 1).blk t).view.emb y (1 : Fin 2)).val = (y (1 : Fin 2)).val := by
  have e := ixv pf n hG 1 (grid0.coords t) (1 : Fin 2)
  rw [crd] at e
  show ix0 pf 1 (grid0.coords t) (1 : Fin 2) * 2048 + 1 * (y (1 : Fin 2)).val = _
  rw [show ix0 pf 1 (grid0.coords t) (1 : Fin 2) = 0 from e]
  omega

theorem blocksOut_emb (c : Dev nD) (i : S32768x2048.Idx) (k : ℕ) (hk : k < n) (y : S256x2048.Idx) (h0 : (i (0 : Fin 2)).val = k * 256 + (y (0 : Fin 2)).val)
    (h1 : (i (1 : Fin 2)).val = (y (1 : Fin 2)).val) : blocksOut v pf n c i = outAt v pf c k y := by
  have y0 : (y (0 : Fin 2)).val < 256 := (y (0 : Fin 2)).isLt
  have q : (i (0 : Fin 2)).val / 256 = k := by omega
  unfold blocksOut
  rw [if_pos (by omega), q]
  refine congrArg (outAt v pf c k) ?_
  funext a
  match a with
  | ⟨0, _⟩ => exact Fin.ext (by show (i (0 : Fin 2)).val % 256 = (y (0 : Fin 2)).val; omega)
  | ⟨1, _⟩ => exact Fin.ext h1

theorem flushed_at (c : Dev nD) (t : Fin grid0.N) :
    (dats v pf n hG 0 c).flushed 1 t = (((cfg0 (adm pf n hG)).win 1).blk t).view.read (Elt F) (blocksOut v pf n c) := by
  have hp := hG.pos
  funext y
  refine Eq.trans (?_ : _ = outAt v pf c (min t.val (n - 1)) y) (blocksOut_emb v pf n c _ (min t.val (n - 1)) (by omega) y (emb_row pf n hG t y) (emb_col pf n hG t y)).symm
  rfl

theorem final_of (c : Dev nD) : (dats v pf n hG 0 c).arrAt 1 grid0.N = blocksOut v pf n c := by
  have hN : grid0.N = 128 := N_0
  have hp := hG.pos
  have hle := hG.le
  funext i
  by_cases h : (i (0 : Fin 2)).val / 256 < n
  · have ht : ∃ t : Fin grid0.N, (t.val + 1 < n ∨ t.val + 1 = 128) ∧ min t.val (n - 1) = (i (0 : Fin 2)).val / 256 := by
      by_cases h1 : (i (0 : Fin 2)).val / 256 + 1 < n
      · exact ⟨⟨(i (0 : Fin 2)).val / 256, by omega⟩, Or.inl h1, by dsimp only; omega⟩
      · exact ⟨⟨127, by omega⟩, Or.inr rfl, by dsimp only; omega⟩
    obtain ⟨t, hf, hm⟩ := ht
    refine Dat.arrAt_apply_of_mem (dats v pf n hG 0 c) 1 (blocksOut v pf n c) (fun t _ => flushed_at v pf n hG c t) grid0.N t i t.isLt ((flush_iff pf n hG t).2 hf) ?_
    have e : (((cfg0 (adm pf n hG)).win 1).blk t).view.emb (ValueIdx.ix2 ⟨(i (0 : Fin 2)).val % 256, Nat.mod_lt _ (by decide)⟩ (i (1 : Fin 2)) : S256x2048.Idx) = i := by
      funext a
      match a with
      | ⟨0, _⟩ =>
        refine Fin.ext ((emb_row pf n hG t _).trans ?_)
        rw [hm]
        show (i (0 : Fin 2)).val / 256 * 256 + (i (0 : Fin 2)).val % 256 = (i (0 : Fin 2)).val
        omega
      | ⟨1, _⟩ => exact Fin.ext (emb_col pf n hG t _)
    have q := View.emb_mem_set (((cfg0 (adm pf n hG)).win 1).blk t).view (ValueIdx.ix2 ⟨(i (0 : Fin 2)).val % 256, Nat.mod_lt _ (by decide)⟩ (i (1 : Fin 2)) : S256x2048.Idx)
    exact e ▸ q
  · rw [Dat.arrAt_apply_of_forall_not_mem (dats v pf n hG 0 c) 1 grid0.N i ?_, A_eq]
    · unfold blocksOut
      rw [if_neg h]
      rfl
    · intro t _ _ hi
      obtain ⟨y, -, rfl⟩ := Finset.mem_map.1 hi
      apply h
      have e := emb_row pf n hG t y
      have y0 : (y (0 : Fin 2)).val < 256 := (y (0 : Fin 2)).isLt
      show ((((cfg0 (adm pf n hG)).win 1).blk t).view.emb y (0 : Fin 2)).val / 256 < n
      omega

/-- What the run leaves of the arrays. -/
theorem kept_of (r : PUnit × MemSt nD τ sig (Elt F)) (h : Pipeline.FramePost (Pipeline.pin pcfgs (fun _ => adm pf n hG)) (dats v pf n hG) 0 v r) (c : Dev nD) :
    (r.2.mem ((c.tc : Thread nD τ).loc main_v48) = blocksOut v pf n c)
      ∧ r.2.mem ((c.tc : Thread nD τ).loc main_arg0) = v c main_arg0
      ∧ r.2.mem ((c.tc : Thread nD τ).loc main_arg1) = v c main_arg1
      ∧ r.2.mem ((c.tc : Thread nD τ).loc main_arg2) = v c main_arg2
      ∧ r.2.mem ((c.tc : Thread nD τ).loc main_arg3) = v c main_arg3
      ∧ r.2.mem ((c.tc : Thread nD τ).loc main_arg4) = v c main_arg4 := by
  refine ⟨?_, ?_, ?_, ?_, ?_, ?_⟩
  · exact ((h c).1 1).trans (final_of v pf n hG c)
  · exact ((h c).1 0).trans (((dats v pf n hG 0 c).arrAt_in 0 rfl _).trans (A_eq v pf n hG c 0))
  · exact (h c).2 main_arg1 (Pipeline.mem_restRefs_of main_arg1 (by decide) (show ∀ w : Fin 2, (spec0 w).arr.view.ref ≠ main_arg1 by decide))
  · exact (h c).2 main_arg2 (Pipeline.mem_restRefs_of main_arg2 (by decide) (show ∀ w : Fin 2, (spec0 w).arr.view.ref ≠ main_arg2 by decide))
  · exact (h c).2 main_arg3 (Pipeline.mem_restRefs_of main_arg3 (by decide) (show ∀ w : Fin 2, (spec0 w).arr.view.ref ≠ main_arg3 by decide))
  · exact (h c).2 main_arg4 (Pipeline.mem_restRefs_of main_arg4 (by decide) (show ∀ w : Fin 2, (spec0 w).arr.view.ref ≠ main_arg4 by decide))
end

variable (m : (ℓ : Loc nD τ sig) → Buf (Elt F) ℓ) (n : ℕ) (ρ : Dev nD → PrngReg)

/-- The run with the arguments kept, the semaphores at rest and the result array named. -/
theorem run_kept (hG : Good (tbl m) n) :
    θ_run defs (onTc (τ := τ) (main (F := F))) ⟨m, fun _ => 0, ρ⟩ (fun r => (∀ c : Dev nD,
      (r.2.mem ((c.tc : Thread nD τ).loc main_v48) = blocksOut (V m) (tbl m) n c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run defs _ _).mono (fun r h => ⟨fun c => ?_, h.2⟩) (run_main (m := m) (n := n) (ρ := ρ) hG)
  obtain ⟨h0, h1, h2, h3, h4, h5⟩ := kept_of (V m) (tbl m) n hG r h.1 c
  exact ⟨h0, h1.trans (V_main_arg0 m c), h2.trans (V_main_arg1 m c), h3.trans (V_main_arg2 m c), h4.trans (V_main_arg3 m c), h5.trans (V_main_arg4 m c)⟩

end Cert.Kernel.Hand
-- ==== Proof.RefHost.lean ====
module

public import proofs.«01_k».proof.Proof.Gen.Reference.Value
public import proofs.«01_k».proof.Proof.Plan
public import Idealize.ShloMosaic.Lib.StableHlo.ReadAt

@[expose] public section

set_option maxRecDepth 16384

noncomputable section

namespace Cert.Reference.Hand

open Cert.Reference Cert.Reference.Gen
open Idealize.ShloMosaic Idealize.ShloMosaic.TcCoe

variable {F : FTy → Type} [BitOps F]
variable (m : (ℓ : Loc nD τ sig) → Buf (Elt F) ℓ)
variable (f : Valuation τ sig (Elt F))

/-- The host's operations in two stretches. -/
def stretch1 : List (HloOp τ sig (Elt F)) := List.flatten [hostOps0, hostOps0_1, hostOps0_2, hostOps0_3]
def stretch2 : List (HloOp τ sig (Elt F)) := List.flatten [hostOps0_4, hostOps0_5]

theorem V_split (c : Dev nD) (b : Ref sig .tc) :
    V m c b = StableHlo.after stretch2 (StableHlo.after stretch1 (fun b => m (c, b))) b := by
  rw [← StableHlo.after_append]
  rfl

theorem s1_v7 : StableHlo.after stretch1 f main_v7 = Plan.ends Facts₀.bcast_S_S64 Facts₀.bcast_S_S_ Facts₀.reduceWindows_S64_S64_w64s1p63_0 Facts₀.h_S_ (f main_arg1) := by
  unfold stretch1
  after_reads_simp
  simp -implicitDefEqProofs only [StableHlo.TRef.toBuf, StableHlo.TRef.ofBuf, cast_cast, cast_eq, id]
  rfl

theorem s2_v21 : StableHlo.after stretch2 f main_v21 = Plan.used1 Facts₀.bcast_S_S1 Facts₀.slices_S64_S1_63 (f main_v7) := by
  unfold stretch2
  after_reads_simp
  simp -implicitDefEqProofs only [StableHlo.TRef.toBuf, StableHlo.TRef.ofBuf, cast_cast, cast_eq, id]
  rfl

theorem s2_v19 : StableHlo.after stretch2 f main_v19 = Plan.experts Facts₀.bcast_S_S128 Facts₀.h_S_ Facts₀.bcast_S64_S1x64_1 Facts₀.bcast_S1x64_S128x64_0_1 Facts₀.bcast_S128_S128x1_0 Facts₀.bcast_S128x1_S128x64_0_1 Facts₀.reducesTo_S128x64_S128_d1 Facts₀.natLt_1_32 (f main_v7) (iotaInDim S128 32 0) := by
  unfold stretch2
  after_reads_simp
  rfl

end Cert.Reference.Hand

end
-- ==== Proof.RefTrip.lean ====
module

public import proofs.«01_k».proof.Proof.RefHost
public import proofs.«01_k».proof.Proof.Region
public import Idealize.ShloMosaic.Lib.WholeRead

@[expose] public section

set_option maxRecDepth 16384

noncomputable section

namespace Cert.Reference.Hand

open Cert.Reference Cert.Reference.Gen
open Idealize.ShloMosaic Idealize.ShloMosaic.TcCoe
open Cert.Kernel.Hand (rows rndG rndD eOf blockOut wt)

variable [Cert.Kernel.Facts] {F : FTy → Type} [BitOps F]

theorem trips_lt (k : Fin k0_t1_loop.trips) : k.val < 128 := Nat.lt_of_lt_of_le k.isLt k0_t1_abs.2.1

/-- Where a trip's rows and its word begin. -/
theorem offs : ∀ k : Fin k0_t1_loop.trips, (k0_off1 k) 0 = k.val ∧ (k0_off2 k) 0 = 256 * k.val ∧ (k0_off2 k) 1 = 0 ∧ (k0_off5 k) 0 = 256 * k.val ∧ (k0_off5 k) 1 = 0 := by
  decide +kernel

theorem offs3 (v : BitVec 32) : (k0_off3 v) 0 = v.toNat ∧ (k0_off3 v) 1 = 0 ∧ (k0_off3 v) 2 = 0 := ⟨rfl, rfl, rfl⟩
theorem offs4 (v : BitVec 32) : (k0_off4 v) 0 = v.toNat ∧ (k0_off4 v) 1 = 0 ∧ (k0_off4 v) 2 = 0 := ⟨rfl, rfl, rfl⟩

theorem chk_of_lt (v : BitVec 32) (h : v.toNat < 64) : k0_chk1 v := by
  refine ⟨fun a => ?_, fun a => ?_⟩
  · match a with
    | ⟨0, _⟩ => show v.toNat + 1 ≤ 64; omega
    | ⟨1, _⟩ => exact Nat.le_refl 4096
    | ⟨2, _⟩ => exact Nat.le_refl 512
  · match a with
    | ⟨0, _⟩ => show v.toNat + 1 ≤ 64; omega
    | ⟨1, _⟩ => exact Nat.le_refl 512
    | ⟨2, _⟩ => exact Nat.le_refl 4096

theorem lt_of_chk (v : BitVec 32) (h : k0_chk1 v) : v.toNat < 64 := by
  have : v.toNat + 1 ≤ 64 := h.1 0
  omega

/-- One trip's rows, of what it reads: the kernel's step where the block is used, the rows themselves where not. -/
theorem pay_eq (k : Fin k0_t1_loop.trips) (v5 : Vec F S256x2048 .i32) (v11 v16 : Vec F S1x4096x512 .f32) (v31 : Vec F S1x512x4096 .f32) (v38 : BitVec 32) :
    k0_pay1 (F := F) 0#32 1#32 k v5 v11 v16 v31 v38 = Scalar.select (Scalar.cmpi .slt (Scf.iv 0#32 1#32 k) v38)
      (Cert.Kernel.Gen.k0_pay4 (F := F) v5 (truncf .bf16 v11 Facts₀.bitsLt_bf16_f32) (truncf .bf16 v16 Facts₀.bitsLt_bf16_f32) (truncf .bf16 v31 Facts₀.bitsLt_bf16_f32)) v5 := by
  unfold k0_pay1 Cert.Kernel.Gen.k0_pay4
  rfl

variable (x0 : Vec F S128 .i32) (x1 : Vec F S1 .i32) (x2 : Vec F S32768x2048 .i32) (x3 : Vec F S64x4096x512 .f32) (x4 : Vec F S64x4096x512 .f32) (x5 : Vec F S64x512x4096 .f32)

/-- Block `k` of the result. -/
def seg (k : ℕ) : Vec F S256x2048 .i32 :=
  Scalar.select (Scalar.cmpi .slt (BitVec.ofNat 32 k) (x1 (ValueIdx.ix1 (0 : Fin 1)))) (blockOut (F := F) x2 x3 x4 x5 k (eOf (wt x0 k))) (rows x2 k)

/-- The result, block by block. -/
def segs : Vec F S32768x2048 .i32 := fun i => seg x0 x1 x2 x3 x4 x5 ((i 0).val / 256) (ValueIdx.ix2 ⟨(i 0).val % 256, Nat.mod_lt _ (by decide)⟩ (i 1))

variable (𝒱 : Variants) (c : Dev nD) (bd : Option 𝒱.V) (arg0 : Memref sig .tc .smem S128 .i32) (harg0 : arg0.IsWhole) (arg1 : Memref sig .tc .smem S1 .i32) (harg1 : arg1.IsWhole) (arg2 : Memref sig .tc .vmem S32768x2048 .i32) (harg2 : arg2.IsWhole) (arg3 : Memref sig .tc .vmem S64x4096x512 .f32) (harg3 : arg3.IsWhole) (arg4 : Memref sig .tc .vmem S64x4096x512 .f32) (harg4 : arg4.IsWhole) (arg5 : Memref sig .tc .vmem S64x512x4096 .f32) (harg5 : arg5.IsWhole) (arg6 : Memref sig .tc .vmem S32768x2048 .i32) (harg6 : arg6.IsWhole)

theorem rd0 (k : Fin k0_t1_loop.trips) : trip_k0_t1.sl.r (F := F) arg0 (harg0.unread x0) k = wt x0 k.val := by
  unfold trip_k0_t1.sl.r
  have hk := trips_lt k
  refine Eq.trans ?_ (show wt x0 k.val = _ from dif_pos hk).symm
  refine (harg0.readAt_unread x0 _ _).trans (congrArg x0 ?_)
  funext a
  match a with
  | ⟨0, _⟩ =>
    refine Fin.ext ?_
    show (k0_off1 k) 0 + 1 * 0 = k.val
    rw [(offs k).1]
    omega

theorem rd1 : trip_k0_t1.sl.r_1 (F := F) arg1 (harg1.unread x1) = x1 (ValueIdx.ix1 (0 : Fin 1)) := by
  unfold trip_k0_t1.sl.r_1
  refine (harg1.readAt_unread x1 _ _).trans (congrArg x1 ?_)
  funext a
  match a with
  | ⟨0, _⟩ => rfl

theorem rd2 (k : Fin k0_t1_loop.trips) (h : ∀ a, (k0_off2 k) a + S256x2048.size a ≤ S32768x2048.size a) :
    View.readAt (Elt F) arg2.view (Rect.unit (s := S32768x2048) (k0_off2 k) S256x2048.size h).toLoadRect (harg2.unread x2) = rows x2 k.val := by
  have hk := trips_lt k
  funext y
  refine (harg2.readAt_unread x2 _ _).trans (congrArg x2 ?_)
  funext a
  refine Fin.ext ?_
  match a with
  | ⟨0, _⟩ =>
    show (k0_off2 k) 0 + 1 * (y (0 : Fin 2)).val = min k.val 127 * 256 + (y (0 : Fin 2)).val
    rw [(offs k).2.1]
    omega
  | ⟨1, _⟩ =>
    show (k0_off2 k) 1 + 1 * (y (1 : Fin 2)).val = 0 + (y (1 : Fin 2)).val
    rw [(offs k).2.2.1]
    omega

theorem eOf_val (v : BitVec 32) (h : v.toNat < 64) : (eOf v).val = v.toNat := by
  unfold Cert.Kernel.Hand.eOf
  rw [dif_pos h]

theorem rd3 (M : Memref sig .tc .vmem S64x4096x512 .f32) (hM : M.IsWhole) (X : Vec F S64x4096x512 .f32) (v : BitVec 32) (hv : v.toNat < 64)
    (h : ∀ a, (k0_off3 v) a + S1x4096x512.size a ≤ S64x4096x512.size a) :
    truncf .bf16 (View.readAt (Elt F) M.view (Rect.unit (s := S64x4096x512) (k0_off3 v) S1x4096x512.size h).toLoadRect (hM.unread X)) Facts₀.bitsLt_bf16_f32 = rndG (F := F) (eOf v) X := by
  funext y
  refine congrArg (fun z => FloatOps.truncf .bf16 Facts₀.bitsLt_bf16_f32 z) ((hM.readAt_unread X _ _).trans (congrArg X ?_))
  have h0 : (y (0 : Fin 3)).val < 1 := (y (0 : Fin 3)).isLt
  funext a
  refine Fin.ext ?_
  match a with
  | ⟨0, _⟩ =>
    show v.toNat + 1 * (y (0 : Fin 3)).val = (eOf v).val
    rw [eOf_val v hv]
    omega
  | ⟨1, _⟩ =>
    show 0 + 1 * (y (1 : Fin 3)).val = (y (1 : Fin 3)).val
    omega
  | ⟨2, _⟩ =>
    show 0 + 1 * (y (2 : Fin 3)).val = (y (2 : Fin 3)).val
    omega

theorem rd5 (M : Memref sig .tc .vmem S64x512x4096 .f32) (hM : M.IsWhole) (X : Vec F S64x512x4096 .f32) (v : BitVec 32) (hv : v.toNat < 64)
    (h : ∀ a, (k0_off4 v) a + S1x512x4096.size a ≤ S64x512x4096.size a) :
    truncf .bf16 (View.readAt (Elt F) M.view (Rect.unit (s := S64x512x4096) (k0_off4 v) S1x512x4096.size h).toLoadRect (hM.unread X)) Facts₀.bitsLt_bf16_f32 = rndD (F := F) (eOf v) X := by
  funext y
  refine congrArg (fun z => FloatOps.truncf .bf16 Facts₀.bitsLt_bf16_f32 z) ((hM.readAt_unread X _ _).trans (congrArg X ?_))
  have h0 : (y (0 : Fin 3)).val < 1 := (y (0 : Fin 3)).isLt
  funext a
  refine Fin.ext ?_
  match a with
  | ⟨0, _⟩ =>
    show v.toNat + 1 * (y (0 : Fin 3)).val = (eOf v).val
    rw [eOf_val v hv]
    omega
  | ⟨1, _⟩ =>
    show 0 + 1 * (y (1 : Fin 3)).val = (y (1 : Fin 3)).val
    omega
  | ⟨2, _⟩ =>
    show 0 + 1 * (y (2 : Fin 3)).val = (y (2 : Fin 3)).val
    omega

theorem iv_eq (k : ℕ) (h : k < 128) : Scf.iv 0#32 1#32 k = BitVec.ofNat 32 k := by
  unfold Scf.iv
  simp

theorem trip_pieces (k : Fin k0_t1_loop.trips) (hw : k0_chk1 (arg0.view.readAt (Elt F) (Rect.unit (s := S128) (k0_off1 k) S1.size (k0_off1_inb k)).toLoadRect (harg0.unread x0) (Shape.Idx.first (numel1_S1.symm ▸ Nat.one_pos)))) :
    ∀ p ∈ tripL_k0_t1 (F := F) 𝒱 c bd arg0 harg0 arg1 harg1 arg2 harg2 arg3 harg3 arg4 harg4 arg5 harg5 arg6 harg6
      (harg0.unread x0) (harg1.unread x1) (harg2.unread x2) (harg3.unread x3) (harg4.unread x4) (harg5.unread x5) k hw,
      ∀ y : p.1.shape.Idx, p.2 y = segs x0 x1 x2 x3 x4 x5 (p.1.emb y) := by
  have hk := trips_lt k
  have hr := rd0 (F := F) x0 arg0 harg0 k
  have hv : (wt x0 k.val).toNat < 64 := by
    rw [← hr]
    exact lt_of_chk _ hw
  unfold tripL_k0_t1 trip_k0_t1
  dsimp only
  unfold trip_k0_t1.sl.r_2
  intro p hp
  obtain rfl := List.mem_singleton.1 hp
  intro y
  dsimp only
  rw [pay_eq, rd3 (hv := by rw [hr]; exact hv), rd3 (hv := by rw [hr]; exact hv), rd5 (hv := by rw [hr]; exact hv), rd2, hr, rd1, iv_eq _ hk]
  have y0 : (y (0 : Fin 2)).val < 256 := (y (0 : Fin 2)).isLt
  have e0 : ((Rect.unit (s := S32768x2048) (k0_off5 k) S256x2048.size (k0_off5_inb k)).emb y (0 : Fin 2)).val = 256 * k.val + (y (0 : Fin 2)).val := by
    show (k0_off5 k) 0 + 1 * (y (0 : Fin 2)).val = _
    rw [(offs k).2.2.2.1]
    omega
  have e1 : ((Rect.unit (s := S32768x2048) (k0_off5 k) S256x2048.size (k0_off5_inb k)).emb y (1 : Fin 2)).val = (y (1 : Fin 2)).val := by
    show (k0_off5 k) 1 + 1 * (y (1 : Fin 2)).val = _
    rw [(offs k).2.2.2.2]
    omega
  show seg x0 x1 x2 x3 x4 x5 k.val y = _
  have q : ((Rect.unit (s := S32768x2048) (k0_off5 k) S256x2048.size (k0_off5_inb k)).emb y (0 : Fin 2)).val / 256 = k.val := by omega
  have q2 : ((Rect.unit (s := S32768x2048) (k0_off5 k) S256x2048.size (k0_off5_inb k)).emb y (0 : Fin 2)).val % 256 = (y (0 : Fin 2)).val := by omega
  refine Eq.trans ?_ (congrArg (fun z => seg x0 x1 x2 x3 x4 x5 z _) q.symm)
  refine congrArg (seg x0 x1 x2 x3 x4 x5 k.val) ?_
  funext a
  refine Fin.ext ?_
  match a with
  | ⟨0, _⟩ => exact q2.symm
  | ⟨1, _⟩ => exact e1.symm

/-- Every piece of the loop's run is the result's there. -/
theorem pieces (hw : ∀ (kq : ℕ) (hkq : kq < k0_t1_loop.trips), k0_chk1 (arg0.view.readAt (Elt F) (Rect.unit (s := S128) (k0_off1 ⟨kq, hkq⟩) S1.size (k0_off1_inb ⟨kq, hkq⟩)).toLoadRect (harg0.unread x0) (Shape.Idx.first (numel1_S1.symm ▸ Nat.one_pos))))
    (k : ℕ) (hk : k ≤ k0_t1_loop.trips) :
    ∀ p ∈ pb_k0_t1 (F := F) 𝒱 c bd arg0 harg0 arg1 harg1 arg2 harg2 arg3 harg3 arg4 harg4 arg5 harg5 arg6 harg6
      (harg0.unread x0) (harg1.unread x1) (harg2.unread x2) (harg3.unread x3) (harg4.unread x4) (harg5.unread x5) hw k,
      ∀ y : p.1.shape.Idx, p.2 y = segs x0 x1 x2 x3 x4 x5 (p.1.emb y) := by
  induction k with
  | zero =>
    intro p hp
    exact absurd hp List.not_mem_nil
  | succ k ih =>
    intro p hp
    rw [pb_k0_t1_succ (F := F) 𝒱 c bd arg0 harg0 arg1 harg1 arg2 harg2 arg3 harg3 arg4 harg4 arg5 harg5 arg6 harg6 _ _ _ _ _ _ hw ⟨k, hk⟩] at hp
    rcases List.mem_append.1 hp with hp | hp
    · exact trip_pieces x0 x1 x2 x3 x4 x5 𝒱 c bd arg0 harg0 arg1 harg1 arg2 harg2 arg3 harg3 arg4 harg4 arg5 harg5 arg6 harg6 ⟨k, hk⟩ (hw k hk) p hp
    · exact ih (Nat.le_of_succ_le hk) p hp

/-- What the run leaves, block by block. -/
theorem out_eq (hw : ∀ (kq : ℕ) (hkq : kq < k0_t1_loop.trips), k0_chk1 (arg0.view.readAt (Elt F) (Rect.unit (s := S128) (k0_off1 ⟨kq, hkq⟩) S1.size (k0_off1_inb ⟨kq, hkq⟩)).toLoadRect (harg0.unread x0) (Shape.Idx.first (numel1_S1.symm ▸ Nat.one_pos)))) :
    out0_A_6 (F := F) c arg0 harg0 arg1 harg1 arg2 harg2 arg3 harg3 arg4 harg4 arg5 harg5 arg6 harg6 x0 x1 x2 x3 x4 x5 hw = segs x0 x1 x2 x3 x4 x5 := by
  funext y
  unfold out0_A_6
  refine View.read_writes_apply_of_pieces _ _ (segs x0 x1 x2 x3 x4 x5) _ ?_ y (cover0_A_6 c arg0 harg0 arg1 harg1 arg2 harg2 arg3 harg3 arg4 harg4 arg5 harg5 arg6 harg6 x0 x1 x2 x3 x4 x5 hw y)
  have e : (kernelRun0_A (F := F) c arg0 harg0 arg1 harg1 arg2 harg2 arg3 harg3 arg4 harg4 arg5 harg5 arg6 harg6 x0 x1 x2 x3 x4 x5 hw).1
      = pb_k0_t1 (F := F) Variants.none c none arg0 harg0 arg1 harg1 arg2 harg2 arg3 harg3 arg4 harg4 arg5 harg5 arg6 harg6
      (harg0.unread x0) (harg1.unread x1) (harg2.unread x2) (harg3.unread x3) (harg4.unread x4) (harg5.unread x5) hw k0_t1_loop.trips := by
    unfold kernelRun0_A
    rfl
  rw [e]
  exact pieces x0 x1 x2 x3 x4 x5 Variants.none c none arg0 harg0 arg1 harg1 arg2 harg2 arg3 harg3 arg4 harg4 arg5 harg5 arg6 harg6 hw _ (Nat.le_refl _)

end Cert.Reference.Hand

end
-- ==== Proof.RefRun.lean ====
module

public import proofs.«01_k».proof.Proof.RefTrip

@[expose] public section

set_option maxRecDepth 16384

noncomputable section

namespace Cert.Reference.Hand

open Cert.Reference Cert.Reference.Gen
open Idealize.ShloMosaic Idealize.ShloMosaic.TcCoe Idealize.SL.Sem
open Idealize.ShloMosaic.Pipeline (Dat Cfg Window)
open Cert.Kernel.Hand (rows rndG rndD eOf blockOut wt)

variable [Cert.Kernel.Facts] {F : FTy → Type} [BitOps F]

theorem whole0 (t : Fin cfg0.N) (X : Vec F S128 .i32) : ((cfg0.win 0).blk t).view.read (Elt F) X = X := by
  funext y
  refine congrArg X (funext fun a => Fin.ext ?_)
  match a with
  | ⟨0, _⟩ =>
    show 0 * 128 + 1 * (y (0 : Fin 1)).val = (y (0 : Fin 1)).val
    omega

theorem whole1 (t : Fin cfg0.N) (X : Vec F S1 .i32) : ((cfg0.win 1).blk t).view.read (Elt F) X = X := by
  funext y
  refine congrArg X (funext fun a => Fin.ext ?_)
  match a with
  | ⟨0, _⟩ =>
    show 0 * 1 + 1 * (y (0 : Fin 1)).val = (y (0 : Fin 1)).val
    omega

theorem whole2 (t : Fin cfg0.N) (X : Vec F S32768x2048 .i32) : ((cfg0.win 2).blk t).view.read (Elt F) X = X := by
  funext y
  refine congrArg X (funext fun a => Fin.ext ?_)
  match a with
  | ⟨0, _⟩ =>
    show 0 * 32768 + 1 * (y (0 : Fin 2)).val = (y (0 : Fin 2)).val
    omega
  | ⟨1, _⟩ =>
    show 0 * 2048 + 1 * (y (1 : Fin 2)).val = (y (1 : Fin 2)).val
    omega

theorem whole3 (t : Fin cfg0.N) (X : Vec F S64x4096x512 .f32) : ((cfg0.win 3).blk t).view.read (Elt F) X = X := by
  funext y
  refine congrArg X (funext fun a => Fin.ext ?_)
  match a with
  | ⟨0, _⟩ =>
    show 0 * 64 + 1 * (y (0 : Fin 3)).val = (y (0 : Fin 3)).val
    omega
  | ⟨1, _⟩ =>
    show 0 * 4096 + 1 * (y (1 : Fin 3)).val = (y (1 : Fin 3)).val
    omega
  | ⟨2, _⟩ =>
    show 0 * 512 + 1 * (y (2 : Fin 3)).val = (y (2 : Fin 3)).val
    omega

theorem whole4 (t : Fin cfg0.N) (X : Vec F S64x4096x512 .f32) : ((cfg0.win 4).blk t).view.read (Elt F) X = X := by
  funext y
  refine congrArg X (funext fun a => Fin.ext ?_)
  match a with
  | ⟨0, _⟩ =>
    show 0 * 64 + 1 * (y (0 : Fin 3)).val = (y (0 : Fin 3)).val
    omega
  | ⟨1, _⟩ =>
    show 0 * 4096 + 1 * (y (1 : Fin 3)).val = (y (1 : Fin 3)).val
    omega
  | ⟨2, _⟩ =>
    show 0 * 512 + 1 * (y (2 : Fin 3)).val = (y (2 : Fin 3)).val
    omega

theorem whole5 (t : Fin cfg0.N) (X : Vec F S64x512x4096 .f32) : ((cfg0.win 5).blk t).view.read (Elt F) X = X := by
  funext y
  refine congrArg X (funext fun a => Fin.ext ?_)
  match a with
  | ⟨0, _⟩ =>
    show 0 * 64 + 1 * (y (0 : Fin 3)).val = (y (0 : Fin 3)).val
    omega
  | ⟨1, _⟩ =>
    show 0 * 512 + 1 * (y (1 : Fin 3)).val = (y (1 : Fin 3)).val
    omega
  | ⟨2, _⟩ =>
    show 0 * 4096 + 1 * (y (2 : Fin 3)).val = (y (2 : Fin 3)).val
    omega

theorem whole6 (t : Fin cfg0.N) (X : Vec F S32768x2048 .i32) : ((cfg0.win 6).blk t).view.read (Elt F) X = X := by
  funext y
  refine congrArg X (funext fun a => Fin.ext ?_)
  match a with
  | ⟨0, _⟩ =>
    show 0 * 32768 + 1 * (y (0 : Fin 2)).val = (y (0 : Fin 2)).val
    omega
  | ⟨1, _⟩ =>
    show 0 * 2048 + 1 * (y (1 : Fin 2)).val = (y (1 : Fin 2)).val
    omega

theorem flushed_eq (t : Fin cfg0.N) (X : Vec F S32768x2048 .i32) : (cfg0.win 6).cut (grid0.coords t) X = X := rfl

variable (m : (ℓ : Loc nD τ sig) → Buf (Elt F) ℓ) (ρ : Dev nD → PrngReg)

/-- Where each expert's slots end. -/
def ends (c : Dev nD) : S64.Idx → BitVec 32 := Plan.ends Facts₀.bcast_S_S64 Facts₀.bcast_S_S_ Facts₀.reduceWindows_S64_S64_w64s1p63_0 Facts₀.h_S_ (m ((c : Thread nD τ).loc main_arg1))

theorem V_v21 (c : Dev nD) : V m c main_v21 = Plan.used1 Facts₀.bcast_S_S1 Facts₀.slices_S64_S1_63 (ends m c) := by
  rw [V_split, s2_v21, s1_v7]
  rfl

theorem V_v19 (c : Dev nD) : V m c main_v19 = Plan.experts Facts₀.bcast_S_S128 Facts₀.h_S_ Facts₀.bcast_S64_S1x64_1 Facts₀.bcast_S1x64_S128x64_0_1 Facts₀.bcast_S128_S128x1_0 Facts₀.bcast_S128x1_S128x64_0_1 Facts₀.reducesTo_S128x64_S128_d1 Facts₀.natLt_1_32 (ends m c) (iotaInDim S128 32 0) := by
  rw [V_split, s2_v19, s1_v7]
  rfl

/-- The expert of a block. -/
theorem v19_ap (c : Dev nD) (k : Fin 128) : V m c main_v19 (ValueIdx.ix1 k) = BitVec.ofNat 32 (Plan.num (ends m c) k.val) := by
  rw [V_v19]
  exact Plan.experts_ap Facts₀.bcast_S_S128 Facts₀.h_S_ Facts₀.bcast_S64_S1x64_1 Facts₀.bcast_S1x64_S128x64_0_1 Facts₀.bcast_S128_S128x1_0 Facts₀.bcast_S128x1_S128x64_0_1 Facts₀.reducesTo_S128x64_S128_d1 Facts₀.natLt_1_32
    (ends m c) _ (fun k => k) k rfl

theorem wt_ap (T : S128.Idx → BitVec 32) (k : ℕ) (h : k < 128) : wt T k = T (ValueIdx.ix1 (⟨k, h⟩ : Fin 128)) := by
  unfold Cert.Kernel.Hand.wt
  rw [dif_pos h]
  refine congrArg T (funext fun a => ?_)
  match a with
  | ⟨0, _⟩ => rfl

/-- Each block's expert is one of the 64. -/
theorem hyps : Hyps m := Hyps.of (fun c t kq hkq => by
  refine chk_of_lt _ ?_
  have hk := trips_lt ⟨kq, hkq⟩
  have e := rd0 (F := F) (iblk m c 0 t) (ms0_0 t) (hs0_0 t) ⟨kq, hkq⟩
  unfold trip_k0_t1.sl.r at e
  rw [e, wt_ap _ _ hk, show iblk m c 0 t = V m c main_v19 from whole0 t _, v19_ap, BitVec.toNat_ofNat]
  have := Plan.num_le (ends m c) kq
  dsimp only
  omega)

/-- The result array after the run. -/
theorem final (c : Dev nD) : (dats m (hyps m) 0 c).arrAt 6 cfg0.N
    = segs (F := F) (V m c main_v19) (V m c main_v21) (m ((c : Thread nD τ).loc main_arg0)) (m ((c : Thread nD τ).loc main_arg2)) (m ((c : Thread nD τ).loc main_arg3)) (m ((c : Thread nD τ).loc main_arg4)) := by
  have t : Fin cfg0.N := ⟨0, by decide⟩
  have b := Value.blocks6 m (hyps m) c t (flush0_6 t)
  rw [whole6] at b
  rw [b, Value.flushed6_A, flushed_eq, out_eq]
  have e0 : iblk m c 0 t = V m c main_v19 := whole0 t _
  have e1 : iblk m c 1 t = V m c main_v21 := whole1 t _
  have e2 : iblk m c 2 t = V m c main_arg0 := whole2 t _
  have e3 : iblk m c 3 t = V m c main_arg2 := whole3 t _
  have e4 : iblk m c 4 t = V m c main_arg3 := whole4 t _
  have e5 : iblk m c 5 t = V m c main_arg4 := whole5 t _
  rw [e0, e1, e2, e3, e4, e5, V_main_arg0, V_main_arg2, V_main_arg3, V_main_arg4]

end Cert.Reference.Hand

end
-- ==== Proof.Meet.lean ====
module

public import proofs.«01_k».proof.Proof.Final
public import proofs.«01_k».proof.Proof.RefRun

@[expose] public section

set_option maxRecDepth 16384

noncomputable section

namespace Cert.Meet

open Idealize.ShloMosaic Idealize.ShloMosaic.TcCoe
open Cert.Kernel (S128 S1 S32768x2048 S64x4096x512 S64x512x4096 S256x2048)
open Cert.Kernel.Hand (rows eOf blockOut wt)

variable [Cert.Kernel.Facts] {F : FTy → Type} [BitOps F]

theorem row_split (X : S32768x2048.Idx → BitVec 32) (i : S32768x2048.Idx) :
    rows X ((i (0 : Fin 2)).val / 256) (ValueIdx.ix2 ⟨(i (0 : Fin 2)).val % 256, Nat.mod_lt _ (by decide)⟩ (i (1 : Fin 2))) = X i := by
  have h : (i (0 : Fin 2)).val < 32768 := (i (0 : Fin 2)).isLt
  unfold Cert.Kernel.Hand.rows
  refine congrArg X (funext fun a => Fin.ext ?_)
  match a with
  | ⟨0, _⟩ =>
    show min ((i (0 : Fin 2)).val / 256) 127 * 256 + (i (0 : Fin 2)).val % 256 = (i (0 : Fin 2)).val
    omega
  | ⟨1, _⟩ =>
    show 0 + (i (1 : Fin 2)).val = (i (1 : Fin 2)).val
    omega

/-- The two sides' blocks are the same: the used ones through one expert, the others untouched. -/
theorem blocks_eq (T S : S128.Idx → BitVec 32) (N : S1.Idx → BitVec 32) (n : ℕ) (hn : n ≤ 127) (hN : N (ValueIdx.ix1 (0 : Fin 1)) = BitVec.ofNat 32 n)
    (hT : ∀ k, k < n → wt T k = wt S k) (X Y : S32768x2048.Idx → BitVec 32) (hY : Y = X) (wg wu : S64x4096x512.Idx → F .f32) (wd : S64x512x4096.Idx → F .f32) (i : S32768x2048.Idx) :
    (if (i (0 : Fin 2)).val / 256 < n then blockOut (F := F) X wg wu wd ((i (0 : Fin 2)).val / 256) (eOf (wt T ((i (0 : Fin 2)).val / 256)))
        (ValueIdx.ix2 ⟨(i (0 : Fin 2)).val % 256, Nat.mod_lt _ (by decide)⟩ (i (1 : Fin 2))) else Y i)
      = Cert.Reference.Hand.segs (F := F) S N X wg wu wd i := by
  have h : (i (0 : Fin 2)).val < 32768 := (i (0 : Fin 2)).isLt
  unfold Cert.Reference.Hand.segs Cert.Reference.Hand.seg
  rw [hN]
  have hc : Scalar.cmpi .slt (BitVec.ofNat 32 ((i (0 : Fin 2)).val / 256)) (BitVec.ofNat 32 n) = BitVec.ofBool (decide ((i (0 : Fin 2)).val / 256 < n)) :=
    WordCmp.cmpi_slt_ofNat (w := 32) (by omega) (by omega)
  rw [hc]
  unfold Scalar.select
  by_cases hk : (i (0 : Fin 2)).val / 256 < n
  · rw [if_pos hk, if_pos (by rw [decide_eq_true hk]; rfl), hT _ hk]
  · rw [if_neg hk, if_neg (by rw [decide_eq_false hk]; decide), hY]
    exact (row_split X i).symm

variable (m : (ℓ : Loc Cert.Kernel.nD Cert.Kernel.τ Cert.Kernel.sig) → Buf (Elt F) ℓ)
  (m' : (ℓ : Loc Cert.Reference.nD Cert.Reference.τ Cert.Reference.sig) → Buf (Elt F) ℓ)

open Cert.Kernel.Hand in
/-- The result arrays are equal. -/
theorem result_eq (cN : ℕ → ℕ) (hc : ∀ i : Fin 64, m ((0 : Dev Cert.Kernel.nD), Proc.devRef .tc Cert.Kernel.main_arg1) (ValueIdx.ix1 i) = BitVec.ofNat 32 (cN i.val))
    (hle : ∀ i, i < 64 → cN i ≤ 16384) (hs : ((List.range 64).map cN).sum = 16384) (c : Dev Cert.Kernel.nD)
    (h0 : m' ((c.tc : Thread Cert.Reference.nD Cert.Reference.τ).loc Cert.Reference.main_arg0) = m ((c.tc : Thread Cert.Kernel.nD Cert.Kernel.τ).loc Cert.Kernel.main_arg0))
    (h1 : m' ((c.tc : Thread Cert.Reference.nD Cert.Reference.τ).loc Cert.Reference.main_arg1) = m ((c.tc : Thread Cert.Kernel.nD Cert.Kernel.τ).loc Cert.Kernel.main_arg1))
    (h2 : m' ((c.tc : Thread Cert.Reference.nD Cert.Reference.τ).loc Cert.Reference.main_arg2) = m ((c.tc : Thread Cert.Kernel.nD Cert.Kernel.τ).loc Cert.Kernel.main_arg2))
    (h3 : m' ((c.tc : Thread Cert.Reference.nD Cert.Reference.τ).loc Cert.Reference.main_arg3) = m ((c.tc : Thread Cert.Kernel.nD Cert.Kernel.τ).loc Cert.Kernel.main_arg3))
    (h4 : m' ((c.tc : Thread Cert.Reference.nD Cert.Reference.τ).loc Cert.Reference.main_arg4) = m ((c.tc : Thread Cert.Kernel.nD Cert.Kernel.τ).loc Cert.Kernel.main_arg4)) :
    (Cert.Reference.Gen.dats m' (Cert.Reference.Hand.hyps m') 0 c).arrAt 6 Cert.Reference.cfg0.N
      = blocksOut (V m) (tbl m) (Plan.total cN) c := by
  obtain ⟨h64, h127⟩ := Plan.total_bounds cN hs
  have hz : c = 0 := Subsingleton.elim _ _
  subst hz
  have hend : Cert.Reference.Hand.ends m' 0 = Cert.Kernel.Hand.ends m 0 := by
    unfold Cert.Reference.Hand.ends Cert.Kernel.Hand.ends
    exact congrArg _ h1
  have hp := Plan.ends_last Cert.Kernel.Facts₀.bcast_S_S64 Cert.Kernel.Facts₀.bcast_S_S_ Cert.Kernel.Facts₀.reduceWindows_S64_S64_w64s1p63_0 Cert.Kernel.Facts₀.h_S_ _ cN hc hle
  rw [Cert.Reference.Hand.final, h0, h2, h3, h4]
  funext i
  refine Eq.trans (blocks_eq (F := F) (tb1 (tbl m)) _ _ (Plan.total cN) h127 ?_ ?_ _ _ (V_v48 m 0) _ _ _ i).symm ?_
  · rw [Cert.Reference.Hand.V_v21, hend]
    exact Plan.used1_ap _ _ _ _ h127 hp
  · intro k hk
    have hk' : k < 128 := by omega
    have hu := Plan.used_ap Cert.Kernel.Facts₀.slices_S64_S1_63 Cert.Kernel.Facts₀.shapeCasts_S1_S_ _ _ h127 hp
    rw [Cert.Reference.Hand.wt_ap (Cert.Reference.Gen.V m' 0 Cert.Reference.main_v19) k hk', Cert.Reference.Hand.v19_ap, Cert.Reference.Hand.wt_ap _ k hk', hend]
    show V m (0 : Dev Cert.Kernel.nD) Cert.Kernel.main_v25 (ValueIdx.ix1 _) = _
    rw [V_v25]
    refine (Plan.experts_ap _ _ _ _ _ _ _ _ (Cert.Kernel.Hand.ends m 0) _ (fun k => min k (Plan.total cN - 1)) ⟨k, hk'⟩ (Plan.base_ap _ _ _ (by omega) h127 hu ⟨k, hk'⟩)).trans ?_
    dsimp only
    rw [show min k (Plan.total cN - 1) = k from by omega]
  · unfold blocksOut outAt
    rw [V_main_arg0, V_main_arg2, V_main_arg3, V_main_arg4]

end Cert.Meet

end
-- ==== Proof.MemQ.lean ====
module

public import proofs.«01_k».proof.Proof.Gen.Kernel2Ideal.Value
public import proofs.«01_k».proof.Proof.Gen.Reference2Ideal.Run
public import Idealize.ShloMosaic.Lib.MatmulPlain
public import Idealize.ShloMosaic.Lib.StackMember
public import Idealize.ShloMosaic.Lib.ValueIdx

@[expose] public section

noncomputable section

namespace Cert.Kernel2Ideal.Hand

open Cert.Kernel2Ideal Cert.Kernel2Ideal.Gen
open Idealize.ShloMosaic Idealize.ShloMosaic.TcCoe Idealize.SL.Sem
open Idealize.ShloMosaic.ValueIdx (ix2 ix3)
open Facts₀

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S1024x4096 .bf16) (h2 : a2.IsWhole) (a3 : Memref sig .tc .vmem S1x4096x512 .f32) (h3 : a3.IsWhole)
  (a4 : Memref sig .tc .vmem S1024x512 .bf16) (h4 : a4.IsWhole) (a5 : Memref sig .tc .vmem S4096x512 .bf16) (h5 : a5.IsWhole)
  (x : Vec F S1024x4096 .bf16) (w : Vec F S1x4096x512 .f32) (s : Vec F S4096x512 .bf16)

/-- A first row block: the weights are rounded into the scratch and the product uses them. -/
theorem out_A (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S1024x512) hz2]
  rw [View.readCov_unit_zero (S := S4096x512) _ hz2]
  simp only [View.readAt_eq_ld, h2.read_unread, h3.read_unread, View.ld_unit_zero (S := S1024x4096) hz2, View.ld_unit_zero (S := S1x4096x512) hz3]

theorem scr_A (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S4096x512) hz2]
  simp only [View.readAt_eq_ld, h3.read_unread, View.ld_unit_zero (S := S1x4096x512) hz3]

/-- A later row block uses the scratch as it stands. -/
theorem out_B (hc : ¬cond0_0 i) : out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero (S := S1024x512) hz2]
  simp only [View.readAt_eq_ld, h2.read_unread, h5.read_unread, View.ld_unit_zero (S := S1024x4096) hz2, View.ld_unit_zero (S := S4096x512) hz2]

variable (m : (ℓ : Loc nD τ sig) → Buf (Elt F) ℓ)

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val / 8 :=
  (by decide +kernel : ∀ t : Fin grid0.N, _)
theorem idx2 : ∀ t : Fin cfg0.N, win0_2.index t (0 : Fin 2) = t.val % 8 ∧ win0_2.index t (1 : Fin 2) = t.val / 8 :=
  (by decide +kernel : ∀ t : Fin grid0.N, _)

theorem lt64 (t : Fin cfg0.N) : t.val < 64 := lt_of_lt_of_eq t.isLt (show cfg0.N = 64 from N_0)

/-- A point's block of rows. -/
theorem rows_ap (t : Fin cfg0.N) (r : Fin 1024) (k : Fin 4096) :
    iblk m c 0 t (ix2 r k) = V m c main_v0 (ix2 (⟨t.val % 8 * 1024 + r.val, by have := r.isLt; omega⟩ : Fin 8192) k) := by
  obtain ⟨e0, e1⟩ := idx0 t
  refine congrArg (V m c main_v0) (funext fun a => Fin.ext ?_)
  match a with
  | ⟨0, _⟩ =>
    show win0_0.index t (0 : Fin 2) * 1024 + 1 * r.val = t.val % 8 * 1024 + r.val
    omega
  | ⟨1, _⟩ =>
    show win0_0.index t (1 : Fin 2) * 4096 + 1 * k.val = k.val
    omega

/-- A point's block of weights. -/
theorem wts_ap (t : Fin cfg0.N) (k : Fin 4096) (b : Fin 512) :
    iblk m c 1 t (ix3 (0 : Fin 1) k b) = V m c main_arg1 (ix3 (0 : Fin 1) k (⟨t.val / 8 * 512 + b.val, by have := b.isLt; have := lt64 t; omega⟩ : Fin 4096)) := by
  obtain ⟨e0, e1, e2⟩ := idx1 t
  refine congrArg (V m c main_arg1) (funext fun a => Fin.ext ?_)
  match a with
  | ⟨0, _⟩ =>
    show win0_1.index t (0 : Fin 3) * 1 + 1 * 0 = 0
    omega
  | ⟨1, _⟩ =>
    show win0_1.index t (1 : Fin 3) * 4096 + 1 * k.val = k.val
    omega
  | ⟨2, _⟩ =>
    show win0_1.index t (2 : Fin 3) * 512 + 1 * b.val = t.val / 8 * 512 + b.val
    omega

/-- Row blocks of one column block share the weights. -/
theorem wts_same (t u : Fin cfg0.N) (h : t.val / 8 = u.val / 8) : iblk m c 1 t = iblk m c 1 u := by
  obtain ⟨e0, e1, e2⟩ := idx1 t
  obtain ⟨f0, f1, f2⟩ := idx1 u
  funext y
  refine congrArg (V m c main_arg1) (funext fun a => Fin.ext ?_)
  match a with
  | ⟨0, _⟩ =>
    show win0_1.index t (0 : Fin 3) * 1 + 1 * (y (0 : Fin 3)).val = win0_1.index u (0 : Fin 3) * 1 + 1 * (y (0 : Fin 3)).val
    omega
  | ⟨1, _⟩ =>
    show win0_1.index t (1 : Fin 3) * 4096 + 1 * (y (1 : Fin 3)).val = win0_1.index u (1 : Fin 3) * 4096 + 1 * (y (1 : Fin 3)).val
    omega
  | ⟨2, _⟩ =>
    show win0_1.index t (2 : Fin 3) * 512 + 1 * (y (2 : Fin 3)).val = win0_1.index u (2 : Fin 3) * 512 + 1 * (y (2 : Fin 3)).val
    omega

/-- The scratch after a point of a first row block. -/
theorem scr_first (t : Fin cfg0.N) (h0 : t.val % 8 = 0) : (outsAt0 m c t.val t.isLt).2 = k0_pay1 (iblk m c 1 t) := by
  rw [outsAt0_A m c t h0]
  dsimp only
  exact scr_A c (grid0.coords t) (ms0_0 t) (hs0_0 t) (ms0_1 t) (hs0_1 t) (ms0_2 t) (hs0_2 t) scM0_0 (Memref.isWhole_whole _) (iblk m c 0 t) (iblk m c 1 t) ((hcond0_0 t).mpr h0)

theorem scr_later (t : Fin cfg0.N) (h0 : ¬t.val % 8 = 0) : (outsAt0 m c t.val t.isLt).2 = (outsAt0 m c (t.val - 1) (Nat.lt_of_le_of_lt (Nat.sub_le _ _) t.isLt)).2 := by
  rw [outsAt0_B m c t h0]
  dsimp only
  unfold sout0_B_0
  with_reducible rfl

/-- The scratch after a point: this column block's weights, rounded. -/
theorem scr_eq : ∀ (n : ℕ) (hn : n < cfg0.N), (outsAt0 m c n hn).2 = k0_pay1 (iblk m c 1 ⟨n, hn⟩) := by
  intro n
  induction n with
  | zero => intro hn; exact scr_first c m ⟨0, hn⟩ (Nat.zero_mod _)
  | succ n ih =>
    intro hn
    by_cases h0 : (n + 1) % 8 = 0
    · exact scr_first c m ⟨n + 1, hn⟩ h0
    · refine (scr_later c m ⟨n + 1, hn⟩ h0).trans ((ih (Nat.lt_of_succ_lt hn)).trans (congrArg (k0_pay1 (F := F)) (wts_same c m _ _ ?_)))
      show n / 8 = (n + 1) / 8
      omega

/-- What a point leaves. -/
theorem out_eq (t : Fin cfg0.N) : (outsAt0 m c t.val t.isLt).1 = k0_pay2 (iblk m c 0 t) (k0_pay1 (iblk m c 1 t)) := by
  by_cases h0 : t.val % 8 = 0
  · rw [outsAt0_A m c t h0]
    dsimp only
    exact out_A c (grid0.coords t) (ms0_0 t) (hs0_0 t) (ms0_1 t) (hs0_1 t) (ms0_2 t) (hs0_2 t) scM0_0 (Memref.isWhole_whole _) (iblk m c 0 t) (iblk m c 1 t) ((hcond0_0 t).mpr h0)
  · rw [outsAt0_B m c t h0]
    dsimp only
    rw [scr_eq c m (t.val - 1)]
    refine (out_B c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h))).trans ?_
    refine congrArg (fun w => k0_pay2 (F := F) (iblk m c 0 t) (k0_pay1 w)) (wts_same c m _ _ ?_)
    show (t.val - 1) / 8 = t.val / 8
    omega

end

/-- One entry of the product block. -/
theorem pay_ap (x : Vec Ideal S1024x4096 .bf16) (w : Vec Ideal S1x4096x512 .f32) (r : Fin 1024) (b : Fin 512) :
    k0_pay2 (F := Ideal) x (k0_pay1 w) (ix2 r b) = (∑ k : Fin 4096, x (ix2 r k) * w (ix3 (0 : Fin 1) k b)) * Ideal.ofBits .f32 0x3D000000#32 := by
  unfold k0_pay2 k0_pay1
  dsimp only
  rw [ValueIdx.truncf_apply, ValueIdx.mulf_apply]
  simp only [shapeCast_self]
  refine congrArg₂ (· * ·) ?_ rfl
  refine (Ideal.matmul_plain_apply (M := 1024) (K := 4096) (N := 512) none _ _ _ r b).trans ?_
  rw [show (constant S1024x512 .f32 0x00000000#32 : FVec Ideal S1024x512 .f32) (ix2 r b) = 0 from Ideal.ofBits_zero_f32, zero_add]
  refine Finset.sum_congr rfl fun k _ => congrArg (x (ix2 r k) * ·) ?_
  rw [ValueIdx.truncf_apply]
  refine (shapeCast_dropUnit_apply (n := 2) ![4096, 512] w _ (ix2 k b)).trans (congrArg w (funext fun a => Fin.ext ?_))
  match a with
  | ⟨0, _⟩ => rfl
  | ⟨1, _⟩ => rfl
  | ⟨2, _⟩ => rfl

/-- The reference's result. -/
def G (X : FVec Ideal S8192x4096 .f32) (W : FVec Ideal S1x4096x4096 .f32) : FVec Ideal S8192x4096 .bf16 :=
  truncf .bf16 (mulf (F := Ideal) (Host.dotGeneral Cert.Reference2Ideal.dot_S8192x4096_S4096x4096_S8192x4096_1_0_0_1_n_n none X (shapeCast _ W Cert.Reference2Ideal.Facts₀.shapeCasts_S1x4096x4096_S4096x4096)) (broadcastInDim Cert.Reference2Ideal.S8192x4096 ![] Cert.Reference2Ideal.Facts₀.bcast_S_S8192x4096 (constant Cert.Reference2Ideal.S_ .f32 0x3D000000#32))) Cert.Reference2Ideal.Facts₀.bitsLt_bf16_f32

theorem G_ap (X : FVec Ideal S8192x4096 .f32) (W : FVec Ideal S1x4096x4096 .f32) (r : Fin 8192) (b : Fin 4096) :
    G X W (ix2 r b) = (∑ k : Fin 4096, X (ix2 r k) * W (ix3 (0 : Fin 1) k b)) * Ideal.ofBits .f32 0x3D000000#32 := by
  unfold G
  rw [ValueIdx.truncf_apply, ValueIdx.mulf_apply]
  refine congrArg₂ (· * ·) ?_ rfl
  refine (StackMember.dotGeneral_plain_apply (m := 8192) (k := 4096) (n := 4096) none X _ r b).trans ?_
  refine Finset.sum_congr rfl fun k _ => congrArg (X (ix2 r k) * ·) ?_
  refine (shapeCast_dropUnit_apply (n := 2) ![4096, 4096] W _ (ix2 k b)).trans (congrArg W (funext fun a => Fin.ext ?_))
  match a with
  | ⟨0, _⟩ => rfl
  | ⟨1, _⟩ => rfl
  | ⟨2, _⟩ => rfl

variable (c : Dev nD) (m : (ℓ : Loc nD τ sig) → Buf (Elt Ideal) ℓ)

/-- The host's cast of the rows. -/
theorem V_v0 (i : S8192x4096.Idx) : V m c main_v0 i = m ((c : Thread nD τ).loc main_arg0) i := by
  have e : V m c main_v0 = (truncf (F := Ideal) (s := S8192x4096) (φ := .f32) .bf16 (m ((c : Thread nD τ).loc main_arg0)) Facts₀.bitsLt_bf16_f32 : FVec Ideal S8192x4096 .bf16) := by
    unfold V hostOps0
    after_results
  rw [e]
  rfl

theorem flushed_G (t : Fin cfg0.N) : (dats m 0 c).flushed 2 t
    = ((cfg0.win 2).blk t).view.read (Elt Ideal) (G (m ((c : Thread nD τ).loc main_arg0)) (m ((c : Thread nD τ).loc main_arg1))) := by
  rw [Value.flushed2, out_eq c m t]
  funext y
  obtain ⟨e0, e1⟩ := idx2 t
  have hy0 : (y (0 : Fin 2)).val < 1024 := (y (0 : Fin 2)).isLt
  have hy1 : (y (1 : Fin 2)).val < 512 := (y (1 : Fin 2)).isLt
  have hl := lt64 t
  have eL : (cfg0.win 2).cut (grid0.coords t) (k0_pay2 (F := Ideal) (iblk m c 0 t) (k0_pay1 (iblk m c 1 t))) y
      = k0_pay2 (F := Ideal) (iblk m c 0 t) (k0_pay1 (iblk m c 1 t)) (ix2 (⟨(y (0 : Fin 2)).val, hy0⟩ : Fin 1024) (⟨(y (1 : Fin 2)).val, hy1⟩ : Fin 512)) :=
    congrArg (k0_pay2 (F := Ideal) (iblk m c 0 t) (k0_pay1 (iblk m c 1 t))) (funext fun a => Fin.ext (match a with | ⟨0, _⟩ => rfl | ⟨1, _⟩ => rfl))
  have eR : ∀ Z : Vec Ideal S8192x4096 .bf16, ((cfg0.win 2).blk t).view.read (Elt Ideal) Z y
      = Z (ix2 (⟨t.val % 8 * 1024 + (y (0 : Fin 2)).val, by omega⟩ : Fin 8192) (⟨t.val / 8 * 512 + (y (1 : Fin 2)).val, by omega⟩ : Fin 4096)) := fun Z =>
    congrArg Z (funext fun a => Fin.ext (match a with
      | ⟨0, _⟩ => (show win0_2.index t (0 : Fin 2) * 1024 + 1 * (y (0 : Fin 2)).val = t.val % 8 * 1024 + (y (0 : Fin 2)).val by omega)
      | ⟨1, _⟩ => (show win0_2.index t (1 : Fin 2) * 512 + 1 * (y (1 : Fin 2)).val = t.val / 8 * 512 + (y (1 : Fin 2)).val by omega)))
  rw [eL, eR, pay_ap, G_ap]
  refine congrArg (· * _) (Finset.sum_congr rfl fun k _ => ?_)
  rw [rows_ap, wts_ap, V_v0, V_main_arg1]

/-- The result array. -/
theorem final_G : (dats m 0 c).arrAt 2 cfg0.N = G (m ((c : Thread nD τ).loc main_arg0)) (m ((c : Thread nD τ).loc main_arg1)) :=
  (dats m 0 c).arrAt_eq_of_cover 2 _ (fun t _ => flushed_G c m t) (fun i => (Value.covered_iff2 i).2 (by
    have h0 : (i (0 : Fin 2)).val < 8192 := (i (0 : Fin 2)).isLt; have h1 : (i (1 : Fin 2)).val < 4096 := (i (1 : Fin 2)).isLt; omega))

end Cert.Kernel2Ideal.Hand

end
-- ==== Proof.MemO.lean ====
module

public import proofs.«01_k».proof.Proof.Gen.Kernel3Ideal.Value
public import proofs.«01_k».proof.Proof.Gen.Reference3Ideal.Run
public import Idealize.ShloMosaic.Lib.MatmulPlain
public import Idealize.ShloMosaic.Lib.StackMember
public import Idealize.ShloMosaic.Lib.ValueIdx

@[expose] public section

noncomputable section

namespace Cert.Kernel3Ideal.Hand

open Cert.Kernel3Ideal Cert.Kernel3Ideal.Gen
open Idealize.ShloMosaic Idealize.ShloMosaic.TcCoe Idealize.SL.Sem
open Idealize.ShloMosaic.ValueIdx (ix2 ix3)
open Facts₀

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S1024x4096 .bf16) (h2 : a2.IsWhole) (a3 : Memref sig .tc .vmem S1x4096x512 .f32) (h3 : a3.IsWhole)
  (a4 : Memref sig .tc .vmem S1024x512 .f32) (h4 : a4.IsWhole) (a5 : Memref sig .tc .vmem S1024x512 .f32) (h5 : a5.IsWhole) (a6 : Memref sig .tc .vmem S4096x512 .bf16) (h6 : a6.IsWhole)
  (x : Vec F S1024x4096 .bf16) (w : Vec F S1x4096x512 .f32) (q : Vec F S1024x512 .f32) (s : Vec F S4096x512 .bf16)

/-- A first row block: the weights are rounded into the scratch and the product uses them. -/
theorem out_A (hc : cond0_0 i) : out0_A_3 c i a2 h2 a3 h3 a4 h4 a5 h5 a6 h6 hc x w q = k0_pay2 x (k0_pay1 w) q := by
  unfold out0_A_3
  rw [View.read_writes_eq_canon _ _ _ (cover0_A_3 c i a2 h2 a3 h3 a4 h4 a5 h5 a6 h6 hc x w q)]
  unfold kernelRun0_A
  dsimp only
  sl_unfold_words
  rw [View.canon_unit_zero (S := S1024x512) hz2]
  rw [View.readCov_unit_zero (S := S4096x512) _ hz2]
  simp only [View.readAt_eq_ld, h2.read_unread, h3.read_unread, h4.read_unread, View.ld_unit_zero (S := S1024x4096) hz2, View.ld_unit_zero (S := S1024x512) hz2, View.ld_unit_zero (S := S1x4096x512) hz3]

theorem scr_A (hc : cond0_0 i) : sout0_A_0 c i a2 h2 a3 h3 a4 h4 a5 h5 a6 h6 hc x w q = k0_pay1 w := by
  unfold sout0_A_0
  rw [View.read_writes_eq_canon _ _ _ (scover0_A_0 c i a2 h2 a3 h3 a4 h4 a5 h5 a6 h6 hc x w q)]
  unfold kernelRun0_A
  dsimp only
  sl_unfold_words
  rw [View.canon_unit_zero (S := S4096x512) hz2]
  simp only [View.readAt_eq_ld, h3.read_unread, View.ld_unit_zero (S := S1x4096x512) hz3]

/-- A later row block uses the scratch as it stands. -/
theorem out_B (hc : ¬cond0_0 i) : out0_B_3 c i a2 h2 a3 h3 a4 h4 a5 h5 a6 h6 hc x w q s = k0_pay2 x s q := by
  unfold out0_B_3
  rw [View.read_writes_eq_canon _ _ _ (cover0_B_3 c i a2 h2 a3 h3 a4 h4 a5 h5 a6 h6 hc x w q s)]
  unfold kernelRun0_B
  dsimp only
  sl_unfold_words
  rw [View.canon_unit_zero (S := S1024x512) hz2]
  simp only [View.readAt_eq_ld, h2.read_unread, h4.read_unread, h6.read_unread, View.ld_unit_zero (S := S1024x4096) hz2, View.ld_unit_zero (S := S1024x512) hz2, View.ld_unit_zero (S := S4096x512) hz2]

variable (m : (ℓ : Loc nD τ sig) → Buf (Elt F) ℓ)

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val / 8 :=
  (by decide +kernel : ∀ t : Fin grid0.N, _)
theorem idx3 : ∀ t : Fin cfg0.N, win0_3.index t (0 : Fin 2) = t.val % 8 ∧ win0_3.index t (1 : Fin 2) = t.val / 8 :=
  (by decide +kernel : ∀ t : Fin grid0.N, _)

theorem idx2 : ∀ t : Fin cfg0.N, win0_2.index t (0 : Fin 2) = t.val % 8 ∧ win0_2.index t (1 : Fin 2) = t.val / 8 :=
  (by decide +kernel : ∀ t : Fin grid0.N, _)

theorem lt64 (t : Fin cfg0.N) : t.val < 64 := lt_of_lt_of_eq t.isLt (show cfg0.N = 64 from N_0)

/-- A point's block of rows. -/
theorem rows_ap (t : Fin cfg0.N) (r : Fin 1024) (k : Fin 4096) :
    iblk m c 0 t (ix2 r k) = V m c main_arg0 (ix2 (⟨t.val % 8 * 1024 + r.val, by have := r.isLt; omega⟩ : Fin 8192) k) := by
  obtain ⟨e0, e1⟩ := idx0 t
  refine congrArg (V m c main_arg0) (funext fun a => Fin.ext ?_)
  match a with
  | ⟨0, _⟩ =>
    show win0_0.index t (0 : Fin 2) * 1024 + 1 * r.val = t.val % 8 * 1024 + r.val
    omega
  | ⟨1, _⟩ =>
    show win0_0.index t (1 : Fin 2) * 4096 + 1 * k.val = k.val
    omega

/-- A point's block of weights. -/
theorem wts_ap (t : Fin cfg0.N) (k : Fin 4096) (b : Fin 512) :
    iblk m c 1 t (ix3 (0 : Fin 1) k b) = V m c main_arg2 (ix3 (0 : Fin 1) k (⟨t.val / 8 * 512 + b.val, by have := b.isLt; have := lt64 t; omega⟩ : Fin 4096)) := by
  obtain ⟨e0, e1, e2⟩ := idx1 t
  refine congrArg (V m c main_arg2) (funext fun a => Fin.ext ?_)
  match a with
  | ⟨0, _⟩ =>
    show win0_1.index t (0 : Fin 3) * 1 + 1 * 0 = 0
    omega
  | ⟨1, _⟩ =>
    show win0_1.index t (1 : Fin 3) * 4096 + 1 * k.val = k.val
    omega
  | ⟨2, _⟩ =>
    show win0_1.index t (2 : Fin 3) * 512 + 1 * b.val = t.val / 8 * 512 + b.val
    omega

/-- A point's block of the residual. -/
theorem res_ap (t : Fin cfg0.N) (r : Fin 1024) (b : Fin 512) :
    iblk m c 2 t (ix2 r b) = V m c main_arg1 (ix2 (⟨t.val % 8 * 1024 + r.val, by have := r.isLt; omega⟩ : Fin 8192) (⟨t.val / 8 * 512 + b.val, by have := b.isLt; have := lt64 t; omega⟩ : Fin 4096)) := by
  obtain ⟨e0, e1⟩ := idx2 t
  refine congrArg (V m c main_arg1) (funext fun a => Fin.ext ?_)
  match a with
  | ⟨0, _⟩ =>
    show win0_2.index t (0 : Fin 2) * 1024 + 1 * r.val = t.val % 8 * 1024 + r.val
    omega
  | ⟨1, _⟩ =>
    show win0_2.index t (1 : Fin 2) * 512 + 1 * b.val = t.val / 8 * 512 + b.val
    omega

/-- Row blocks of one column block share the weights. -/
theorem wts_same (t u : Fin cfg0.N) (h : t.val / 8 = u.val / 8) : iblk m c 1 t = iblk m c 1 u := by
  obtain ⟨e0, e1, e2⟩ := idx1 t
  obtain ⟨f0, f1, f2⟩ := idx1 u
  funext y
  refine congrArg (V m c main_arg2) (funext fun a => Fin.ext ?_)
  match a with
  | ⟨0, _⟩ =>
    show win0_1.index t (0 : Fin 3) * 1 + 1 * (y (0 : Fin 3)).val = win0_1.index u (0 : Fin 3) * 1 + 1 * (y (0 : Fin 3)).val
    omega
  | ⟨1, _⟩ =>
    show win0_1.index t (1 : Fin 3) * 4096 + 1 * (y (1 : Fin 3)).val = win0_1.index u (1 : Fin 3) * 4096 + 1 * (y (1 : Fin 3)).val
    omega
  | ⟨2, _⟩ =>
    show win0_1.index t (2 : Fin 3) * 512 + 1 * (y (2 : Fin 3)).val = win0_1.index u (2 : Fin 3) * 512 + 1 * (y (2 : Fin 3)).val
    omega

/-- The scratch after a point of a first row block. -/
theorem scr_first (t : Fin cfg0.N) (h0 : t.val % 8 = 0) : (outsAt0 m c t.val t.isLt).2 = k0_pay1 (iblk m c 1 t) := by
  rw [outsAt0_A m c t h0]
  dsimp only
  exact scr_A c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0)

theorem scr_later (t : Fin cfg0.N) (h0 : ¬t.val % 8 = 0) : (outsAt0 m c t.val t.isLt).2 = (outsAt0 m c (t.val - 1) (Nat.lt_of_le_of_lt (Nat.sub_le _ _) t.isLt)).2 := by
  rw [outsAt0_B m c t h0]
  dsimp only
  unfold sout0_B_0
  with_reducible rfl

/-- The scratch after a point: this column block's weights, rounded. -/
theorem scr_eq : ∀ (n : ℕ) (hn : n < cfg0.N), (outsAt0 m c n hn).2 = k0_pay1 (iblk m c 1 ⟨n, hn⟩) := by
  intro n
  induction n with
  | zero => intro hn; exact scr_first c m ⟨0, hn⟩ (Nat.zero_mod _)
  | succ n ih =>
    intro hn
    by_cases h0 : (n + 1) % 8 = 0
    · exact scr_first c m ⟨n + 1, hn⟩ h0
    · refine (scr_later c m ⟨n + 1, hn⟩ h0).trans ((ih (Nat.lt_of_succ_lt hn)).trans (congrArg (k0_pay1 (F := F)) (wts_same c m _ _ ?_)))
      show n / 8 = (n + 1) / 8
      omega

/-- What a point leaves. -/
theorem out_eq (t : Fin cfg0.N) : (outsAt0 m c t.val t.isLt).1 = k0_pay2 (iblk m c 0 t) (k0_pay1 (iblk m c 1 t)) (iblk m c 2 t) := by
  by_cases h0 : t.val % 8 = 0
  · rw [outsAt0_A m c t h0]
    dsimp only
    exact out_A c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0)
  · rw [outsAt0_B m c t h0]
    dsimp only
    rw [scr_eq c m (t.val - 1)]
    refine (out_B c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) _ (fun h => h0 ((hcond0_0 t).mp h))).trans ?_
    refine congrArg (fun w => k0_pay2 (F := F) (iblk m c 0 t) (k0_pay1 w) (iblk m c 2 t)) (wts_same c m _ _ ?_)
    show (t.val - 1) / 8 = t.val / 8
    omega

end

/-- One entry of the product block. -/
theorem pay_ap (x : Vec Ideal S1024x4096 .bf16) (w : Vec Ideal S1x4096x512 .f32) (q : Vec Ideal S1024x512 .f32) (r : Fin 1024) (b : Fin 512) :
    k0_pay2 (F := Ideal) x (k0_pay1 w) q (ix2 r b) = (∑ k : Fin 4096, x (ix2 r k) * w (ix3 (0 : Fin 1) k b)) + Ideal.ofBits .f32 0x3F9837F0#32 * q (ix2 r b) := by
  unfold k0_pay2 k0_pay1
  dsimp only
  rw [ValueIdx.addf_apply, ValueIdx.mulf_apply]
  simp only [shapeCast_self]
  refine congrArg₂ (· + ·) ?_ rfl
  refine (Ideal.matmul_plain_apply (M := 1024) (K := 4096) (N := 512) none _ _ _ r b).trans ?_
  rw [show (constant S1024x512 .f32 0x00000000#32 : FVec Ideal S1024x512 .f32) (ix2 r b) = 0 from Ideal.ofBits_zero_f32, zero_add]
  refine Finset.sum_congr rfl fun k _ => congrArg (x (ix2 r k) * ·) ?_
  rw [ValueIdx.truncf_apply]
  refine (shapeCast_dropUnit_apply (n := 2) ![4096, 512] w _ (ix2 k b)).trans (congrArg w (funext fun a => Fin.ext ?_))
  match a with
  | ⟨0, _⟩ => rfl
  | ⟨1, _⟩ => rfl
  | ⟨2, _⟩ => rfl

/-- The reference's result. -/
def G (O : FVec Ideal S8192x4096 .bf16) (X : FVec Ideal S8192x4096 .f32) (W : FVec Ideal S1x4096x4096 .f32) : FVec Ideal S8192x4096 .f32 :=
  addf (F := Ideal) (mulf (broadcastInDim Cert.Reference3Ideal.S8192x4096 ![] Cert.Reference3Ideal.Facts₀.bcast_S_S8192x4096 (constant Cert.Reference3Ideal.S_ .f32 0x3F9837F0#32)) X) (Host.dotGeneral Cert.Reference3Ideal.dot_S8192x4096_S4096x4096_S8192x4096_1_0_0_1_n_n none (extf .f32 O Cert.Reference3Ideal.Facts₀.bitsLt_bf16_f32) (shapeCast _ W Cert.Reference3Ideal.Facts₀.shapeCasts_S1x4096x4096_S4096x4096))

theorem G_ap (O : FVec Ideal S8192x4096 .bf16) (X : FVec Ideal S8192x4096 .f32) (W : FVec Ideal S1x4096x4096 .f32) (r : Fin 8192) (b : Fin 4096) :
    G O X W (ix2 r b) = (∑ k : Fin 4096, O (ix2 r k) * W (ix3 (0 : Fin 1) k b)) + Ideal.ofBits .f32 0x3F9837F0#32 * X (ix2 r b) := by
  unfold G
  rw [ValueIdx.addf_apply, ValueIdx.mulf_apply]
  refine (add_comm _ _).trans (congrArg₂ (· + ·) ?_ rfl)
  refine (StackMember.dotGeneral_plain_apply (m := 8192) (k := 4096) (n := 4096) none _ _ r b).trans ?_
  refine Finset.sum_congr rfl fun k _ => congrArg (O (ix2 r k) * ·) ?_
  refine (shapeCast_dropUnit_apply (n := 2) ![4096, 4096] W _ (ix2 k b)).trans (congrArg W (funext fun a => Fin.ext ?_))
  match a with
  | ⟨0, _⟩ => rfl
  | ⟨1, _⟩ => rfl
  | ⟨2, _⟩ => rfl

variable (c : Dev nD) (m : (ℓ : Loc nD τ sig) → Buf (Elt Ideal) ℓ)

theorem flushed_G (t : Fin cfg0.N) : (dats m 0 c).flushed 3 t
    = ((cfg0.win 3).blk t).view.read (Elt Ideal) (G (m ((c : Thread nD τ).loc main_arg0)) (m ((c : Thread nD τ).loc main_arg1)) (m ((c : Thread nD τ).loc main_arg2))) := by
  rw [Value.flushed3, out_eq c m t]
  funext y
  obtain ⟨e0, e1⟩ := idx3 t
  have hy0 : (y (0 : Fin 2)).val < 1024 := (y (0 : Fin 2)).isLt
  have hy1 : (y (1 : Fin 2)).val < 512 := (y (1 : Fin 2)).isLt
  have hl := lt64 t
  have eL : (cfg0.win 3).cut (grid0.coords t) (k0_pay2 (F := Ideal) (iblk m c 0 t) (k0_pay1 (iblk m c 1 t)) (iblk m c 2 t)) y
      = k0_pay2 (F := Ideal) (iblk m c 0 t) (k0_pay1 (iblk m c 1 t)) (iblk m c 2 t) (ix2 (⟨(y (0 : Fin 2)).val, hy0⟩ : Fin 1024) (⟨(y (1 : Fin 2)).val, hy1⟩ : Fin 512)) :=
    congrArg (k0_pay2 (F := Ideal) (iblk m c 0 t) (k0_pay1 (iblk m c 1 t)) (iblk m c 2 t)) (funext fun a => Fin.ext (match a with | ⟨0, _⟩ => rfl | ⟨1, _⟩ => rfl))
  have eR : ∀ Z : Vec Ideal S8192x4096 .f32, ((cfg0.win 3).blk t).view.read (Elt Ideal) Z y
      = Z (ix2 (⟨t.val % 8 * 1024 + (y (0 : Fin 2)).val, by omega⟩ : Fin 8192) (⟨t.val / 8 * 512 + (y (1 : Fin 2)).val, by omega⟩ : Fin 4096)) := fun Z =>
    congrArg Z (funext fun a => Fin.ext (match a with
      | ⟨0, _⟩ => (show win0_3.index t (0 : Fin 2) * 1024 + 1 * (y (0 : Fin 2)).val = t.val % 8 * 1024 + (y (0 : Fin 2)).val by omega)
      | ⟨1, _⟩ => (show win0_3.index t (1 : Fin 2) * 512 + 1 * (y (1 : Fin 2)).val = t.val / 8 * 512 + (y (1 : Fin 2)).val by omega)))
  rw [eL, eR, pay_ap, G_ap]
  rw [res_ap, V_main_arg1]
  refine congrArg (· + _) (Finset.sum_congr rfl fun k _ => ?_)
  rw [rows_ap, wts_ap, V_main_arg0, V_main_arg2]

/-- The result array. -/
theorem final_G : (dats m 0 c).arrAt 3 cfg0.N = G (m ((c : Thread nD τ).loc main_arg0)) (m ((c : Thread nD τ).loc main_arg1)) (m ((c : Thread nD τ).loc main_arg2)) :=
  (dats m 0 c).arrAt_eq_of_cover 3 _ (fun t _ => flushed_G c m t) (fun i => (Value.covered_iff3 i).2 (by
    have h0 : (i (0 : Fin 2)).val < 8192 := (i (0 : Fin 2)).isLt; have h1 : (i (1 : Fin 2)).val < 4096 := (i (1 : Fin 2)).isLt; omega))

end Cert.Kernel3Ideal.Hand

end
-- ==== Proof.OutProj.lean ====
module

public import proofs.«01_k».proof.Proof.Gen.Kernel4Ideal.Value
public import proofs.«01_k».proof.Proof.Gen.Reference4Ideal.Run
public import Idealize.ShloMosaic.Lib.MatmulPlain
public import Idealize.ShloMosaic.Lib.StackMember
public import Idealize.ShloMosaic.Lib.ValueIdx

@[expose] public section

noncomputable section

namespace Cert.Kernel4Ideal.Hand

open Cert.Kernel4Ideal Cert.Kernel4Ideal.Gen
open Idealize.ShloMosaic Idealize.ShloMosaic.TcCoe Idealize.SL.Sem
open Idealize.ShloMosaic.ValueIdx (ix2 ix3)
open Facts₀

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S1024x2048 .bf16) (h2 : a2.IsWhole) (a3 : Memref sig .tc .vmem S1024x2048 .bf16) (h3 : a3.IsWhole)
  (a4 : Memref sig .tc .vmem S1x2048x512 .f32) (h4 : a4.IsWhole) (a5 : Memref sig .tc .vmem S1x2048x512 .f32) (h5 : a5.IsWhole)
  (a6 : Memref sig .tc .vmem S1024x512 .f32) (h6 : a6.IsWhole) (a7 : Memref sig .tc .vmem S1024x512 .f32) (h7 : a7.IsWhole)
  (a8 : Memref sig .tc .vmem S2048x512 .bf16) (h8 : a8.IsWhole) (a9 : Memref sig .tc .vmem S2048x512 .bf16) (h9 : a9.IsWhole)
  (x x' : Vec F S1024x2048 .bf16) (w w' : Vec F S1x2048x512 .f32) (q : Vec F S1024x512 .f32) (s s' : Vec F S2048x512 .bf16)

/-- A first row block: both halves of the weights are rounded into the scratches and the products use them. -/
theorem out_A (hc : cond0_0 i) : out0_A_5 c i a2 h2 a3 h3 a4 h4 a5 h5 a6 h6 a7 h7 a8 h8 a9 h9 hc x x' w w' q = k0_pay3 x (k0_pay1 w) x' (k0_pay2 w') q := by
  unfold out0_A_5
  rw [View.read_writes_eq_canon _ _ _ (cover0_A_5 c i a2 h2 a3 h3 a4 h4 a5 h5 a6 h6 a7 h7 a8 h8 a9 h9 hc x x' w w' q)]
  unfold kernelRun0_A
  dsimp only
  sl_unfold_words
  rw [View.canon_unit_zero (S := S1024x512) hz2]
  simp only [View.readCov_unit_zero (S := S2048x512) _ hz2]
  simp only [View.readAt_eq_ld, h2.read_unread, h3.read_unread, h4.read_unread, h5.read_unread, h6.read_unread, View.ld_unit_zero (S := S1024x2048) hz2, View.ld_unit_zero (S := S1024x512) hz2, View.ld_unit_zero (S := S1x2048x512) hz3, View.ld_unit_zero (S := S2048x512) hz2]

theorem scr_A (hc : cond0_0 i) : sout0_A_0 c i a2 h2 a3 h3 a4 h4 a5 h5 a6 h6 a7 h7 a8 h8 a9 h9 hc x x' w w' q = k0_pay1 w := by
  unfold sout0_A_0
  rw [View.read_writes_eq_canon _ _ _ (scover0_A_0 c i a2 h2 a3 h3 a4 h4 a5 h5 a6 h6 a7 h7 a8 h8 a9 h9 hc x x' w w' q)]
  unfold kernelRun0_A
  dsimp only
  sl_unfold_words
  rw [View.canon_unit_zero (S := S2048x512) hz2]
  simp only [View.readAt_eq_ld, h2.read_unread, h3.read_unread, h4.read_unread, h5.read_unread, h6.read_unread, View.ld_unit_zero (S := S1024x2048) hz2, View.ld_unit_zero (S := S1024x512) hz2, View.ld_unit_zero (S := S1x2048x512) hz3, View.ld_unit_zero (S := S2048x512) hz2]

theorem scr_A' (hc : cond0_0 i) : sout0_A_1 c i a2 h2 a3 h3 a4 h4 a5 h5 a6 h6 a7 h7 a8 h8 a9 h9 hc x x' w w' q = k0_pay2 w' := by
  unfold sout0_A_1
  rw [View.read_writes_eq_canon _ _ _ (scover0_A_1 c i a2 h2 a3 h3 a4 h4 a5 h5 a6 h6 a7 h7 a8 h8 a9 h9 hc x x' w w' q)]
  unfold kernelRun0_A
  dsimp only
  sl_unfold_words
  rw [View.canon_unit_zero (S := S2048x512) hz2]
  simp only [View.readAt_eq_ld, h2.read_unread, h3.read_unread, h4.read_unread, h5.read_unread, h6.read_unread, View.ld_unit_zero (S := S1024x2048) hz2, View.ld_unit_zero (S := S1024x512) hz2, View.ld_unit_zero (S := S1x2048x512) hz3, View.ld_unit_zero (S := S2048x512) hz2]

/-- A later row block uses the scratches as they stand. -/
theorem out_B (hc : ¬cond0_0 i) : out0_B_5 c i a2 h2 a3 h3 a4 h4 a5 h5 a6 h6 a7 h7 a8 h8 a9 h9 hc x x' w w' q s s' = k0_pay3 x s x' s' q := by
  unfold out0_B_5
  rw [View.read_writes_eq_canon _ _ _ (cover0_B_5 c i a2 h2 a3 h3 a4 h4 a5 h5 a6 h6 a7 h7 a8 h8 a9 h9 hc x x' w w' q s s')]
  unfold kernelRun0_B
  dsimp only
  sl_unfold_words
  rw [View.canon_unit_zero (S := S1024x512) hz2]
  simp only [View.readAt_eq_ld, h2.read_unread, h3.read_unread, h4.read_unread, h5.read_unread, h6.read_unread, h8.read_unread, h9.read_unread, View.ld_unit_zero (S := S1024x2048) hz2, View.ld_unit_zero (S := S1024x512) hz2, View.ld_unit_zero (S := S1x2048x512) hz3, View.ld_unit_zero (S := S2048x512) hz2]

variable (m : (ℓ : Loc nD τ sig) → Buf (Elt F) ℓ)

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 2) = t.val % 8 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = t.val / 8 :=
  (by decide +kernel : ∀ t : Fin grid0.N, _)
theorem idx3 : ∀ t : Fin cfg0.N, win0_3.index t (0 : Fin 3) = 0 ∧ win0_3.index t (1 : Fin 3) = 1 ∧ win0_3.index t (2 : Fin 3) = t.val / 8 :=
  (by decide +kernel : ∀ t : Fin grid0.N, _)
theorem idx4 : ∀ t : Fin cfg0.N, win0_4.index t (0 : Fin 2) = t.val % 8 ∧ win0_4.index t (1 : Fin 2) = t.val / 8 :=
  (by decide +kernel : ∀ t : Fin grid0.N, _)
theorem idx5 : ∀ t : Fin cfg0.N, win0_5.index t (0 : Fin 2) = t.val % 8 ∧ win0_5.index t (1 : Fin 2) = t.val / 8 :=
  (by decide +kernel : ∀ t : Fin grid0.N, _)

theorem lt64 (t : Fin cfg0.N) : t.val < 64 := lt_of_lt_of_eq t.isLt (show cfg0.N = 64 from N_0)

/-- A point's block of rows of the first factor. -/
theorem rows_ap (t : Fin cfg0.N) (r : Fin 1024) (k : Fin 2048) :
    iblk m c 0 t (ix2 r k) = V m c main_arg0 (ix2 (⟨t.val % 8 * 1024 + r.val, by have := r.isLt; omega⟩ : Fin 8192) k) := by
  obtain ⟨e0, e1⟩ := idx0 t
  refine congrArg (V m c main_arg0) (funext fun a => Fin.ext ?_)
  match a with
  | ⟨0, _⟩ =>
    show win0_0.index t (0 : Fin 2) * 1024 + 1 * r.val = t.val % 8 * 1024 + r.val
    omega
  | ⟨1, _⟩ =>
    show win0_0.index t (1 : Fin 2) * 2048 + 1 * k.val = k.val
    omega

/-- A point's block of rows of the second factor. -/
theorem rows_ap' (t : Fin cfg0.N) (r : Fin 1024) (k : Fin 2048) :
    iblk m c 1 t (ix2 r k) = V m c main_arg1 (ix2 (⟨t.val % 8 * 1024 + r.val, by have := r.isLt; omega⟩ : Fin 8192) k) := by
  obtain ⟨e0, e1⟩ := idx1 t
  refine congrArg (V m c main_arg1) (funext fun a => Fin.ext ?_)
  match a with
  | ⟨0, _⟩ =>
    show win0_1.index t (0 : Fin 2) * 1024 + 1 * r.val = t.val % 8 * 1024 + r.val
    omega
  | ⟨1, _⟩ =>
    show win0_1.index t (1 : Fin 2) * 2048 + 1 * k.val = k.val
    omega

/-- A point's block of the upper half of the weights. -/
theorem wts_ap (t : Fin cfg0.N) (k : Fin 2048) (b : Fin 512) :
    iblk m c 2 t (ix3 (0 : Fin 1) k b) = V m c main_arg3 (ix3 (0 : Fin 1) (⟨k.val, by have := k.isLt; omega⟩ : Fin 4096) (⟨t.val / 8 * 512 + b.val, by have := b.isLt; have := lt64 t; omega⟩ : Fin 4096)) := by
  obtain ⟨e0, e1, e2⟩ := idx2 t
  refine congrArg (V m c main_arg3) (funext fun a => Fin.ext ?_)
  match a with
  | ⟨0, _⟩ =>
    show win0_2.index t (0 : Fin 3) * 1 + 1 * 0 = 0
    omega
  | ⟨1, _⟩ =>
    show win0_2.index t (1 : Fin 3) * 2048 + 1 * k.val = k.val
    omega
  | ⟨2, _⟩ =>
    show win0_2.index t (2 : Fin 3) * 512 + 1 * b.val = t.val / 8 * 512 + b.val
    omega

/-- Row blocks of one column block share it. -/
theorem wts_same (t u : Fin cfg0.N) (h : t.val / 8 = u.val / 8) : iblk m c 2 t = iblk m c 2 u := by
  obtain ⟨e0, e1, e2⟩ := idx2 t
  obtain ⟨f0, f1, f2⟩ := idx2 u
  funext y
  refine congrArg (V m c main_arg3) (funext fun a => Fin.ext ?_)
  match a with
  | ⟨0, _⟩ =>
    show win0_2.index t (0 : Fin 3) * 1 + 1 * (y (0 : Fin 3)).val = win0_2.index u (0 : Fin 3) * 1 + 1 * (y (0 : Fin 3)).val
    omega
  | ⟨1, _⟩ =>
    show win0_2.index t (1 : Fin 3) * 2048 + 1 * (y (1 : Fin 3)).val = win0_2.index u (1 : Fin 3) * 2048 + 1 * (y (1 : Fin 3)).val
    omega
  | ⟨2, _⟩ =>
    show win0_2.index t (2 : Fin 3) * 512 + 1 * (y (2 : Fin 3)).val = win0_2.index u (2 : Fin 3) * 512 + 1 * (y (2 : Fin 3)).val
    omega

/-- A point's block of the lower half of the weights. -/
theorem wts_ap' (t : Fin cfg0.N) (k : Fin 2048) (b : Fin 512) :
    iblk m c 3 t (ix3 (0 : Fin 1) k b) = V m c main_arg3 (ix3 (0 : Fin 1) (⟨2048 + k.val, by have := k.isLt; omega⟩ : Fin 4096) (⟨t.val / 8 * 512 + b.val, by have := b.isLt; have := lt64 t; omega⟩ : Fin 4096)) := by
  obtain ⟨e0, e1, e2⟩ := idx3 t
  refine congrArg (V m c main_arg3) (funext fun a => Fin.ext ?_)
  match a with
  | ⟨0, _⟩ =>
    show win0_3.index t (0 : Fin 3) * 1 + 1 * 0 = 0
    omega
  | ⟨1, _⟩ =>
    show win0_3.index t (1 : Fin 3) * 2048 + 1 * k.val = 2048 + k.val
    omega
  | ⟨2, _⟩ =>
    show win0_3.index t (2 : Fin 3) * 512 + 1 * b.val = t.val / 8 * 512 + b.val
    omega

/-- Row blocks of one column block share it. -/
theorem wts_same' (t u : Fin cfg0.N) (h : t.val / 8 = u.val / 8) : iblk m c 3 t = iblk m c 3 u := by
  obtain ⟨e0, e1, e2⟩ := idx3 t
  obtain ⟨f0, f1, f2⟩ := idx3 u
  funext y
  refine congrArg (V m c main_arg3) (funext fun a => Fin.ext ?_)
  match a with
  | ⟨0, _⟩ =>
    show win0_3.index t (0 : Fin 3) * 1 + 1 * (y (0 : Fin 3)).val = win0_3.index u (0 : Fin 3) * 1 + 1 * (y (0 : Fin 3)).val
    omega
  | ⟨1, _⟩ =>
    show win0_3.index t (1 : Fin 3) * 2048 + 1 * (y (1 : Fin 3)).val = win0_3.index u (1 : Fin 3) * 2048 + 1 * (y (1 : Fin 3)).val
    omega
  | ⟨2, _⟩ =>
    show win0_3.index t (2 : Fin 3) * 512 + 1 * (y (2 : Fin 3)).val = win0_3.index u (2 : Fin 3) * 512 + 1 * (y (2 : Fin 3)).val
    omega

/-- A point's block of the residual. -/
theorem res_ap (t : Fin cfg0.N) (r : Fin 1024) (b : Fin 512) :
    iblk m c 4 t (ix2 r b) = V m c main_arg2 (ix2 (⟨t.val % 8 * 1024 + r.val, by have := r.isLt; omega⟩ : Fin 8192) (⟨t.val / 8 * 512 + b.val, by have := b.isLt; have := lt64 t; omega⟩ : Fin 4096)) := by
  obtain ⟨e0, e1⟩ := idx4 t
  refine congrArg (V m c main_arg2) (funext fun a => Fin.ext ?_)
  match a with
  | ⟨0, _⟩ =>
    show win0_4.index t (0 : Fin 2) * 1024 + 1 * r.val = t.val % 8 * 1024 + r.val
    omega
  | ⟨1, _⟩ =>
    show win0_4.index t (1 : Fin 2) * 512 + 1 * b.val = t.val / 8 * 512 + b.val
    omega

/-- Scratch 0 after a point of a first row block. -/
theorem scr_first (t : Fin cfg0.N) (h0 : t.val % 8 = 0) : (outsAt0 m c t.val t.isLt).2.1 = k0_pay1 (iblk m c 2 t) := by
  rw [outsAt0_A m c t h0]
  dsimp only
  exact scr_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0)

theorem scr_later (t : Fin cfg0.N) (h0 : ¬t.val % 8 = 0) : (outsAt0 m c t.val t.isLt).2.1 = (outsAt0 m c (t.val - 1) (Nat.lt_of_le_of_lt (Nat.sub_le _ _) t.isLt)).2.1 := by
  rw [outsAt0_B m c t h0]
  dsimp only
  unfold sout0_B_0
  with_reducible rfl

/-- Scratch 0 after a point: this column block's weights, rounded. -/
theorem scr_eq : ∀ (n : ℕ) (hn : n < cfg0.N), (outsAt0 m c n hn).2.1 = k0_pay1 (iblk m c 2 ⟨n, hn⟩) := by
  intro n
  induction n with
  | zero => intro hn; exact scr_first c m ⟨0, hn⟩ (Nat.zero_mod _)
  | succ n ih =>
    intro hn
    by_cases h0 : (n + 1) % 8 = 0
    · exact scr_first c m ⟨n + 1, hn⟩ h0
    · refine (scr_later c m ⟨n + 1, hn⟩ h0).trans ((ih (Nat.lt_of_succ_lt hn)).trans (congrArg (k0_pay1 (F := F)) (wts_same c m _ _ ?_)))
      show n / 8 = (n + 1) / 8
      omega

/-- Scratch 1 after a point of a first row block. -/
theorem scr_first' (t : Fin cfg0.N) (h0 : t.val % 8 = 0) : (outsAt0 m c t.val t.isLt).2.2 = k0_pay2 (iblk m c 3 t) := by
  rw [outsAt0_A m c t h0]
  dsimp only
  exact scr_A' c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0)

theorem scr_later' (t : Fin cfg0.N) (h0 : ¬t.val % 8 = 0) : (outsAt0 m c t.val t.isLt).2.2 = (outsAt0 m c (t.val - 1) (Nat.lt_of_le_of_lt (Nat.sub_le _ _) t.isLt)).2.2 := by
  rw [outsAt0_B m c t h0]
  dsimp only
  unfold sout0_B_1
  with_reducible rfl

/-- Scratch 1 after a point: this column block's weights, rounded. -/
theorem scr_eq' : ∀ (n : ℕ) (hn : n < cfg0.N), (outsAt0 m c n hn).2.2 = k0_pay2 (iblk m c 3 ⟨n, hn⟩) := by
  intro n
  induction n with
  | zero => intro hn; exact scr_first' c m ⟨0, hn⟩ (Nat.zero_mod _)
  | succ n ih =>
    intro hn
    by_cases h0 : (n + 1) % 8 = 0
    · exact scr_first' c m ⟨n + 1, hn⟩ h0
    · refine (scr_later' c m ⟨n + 1, hn⟩ h0).trans ((ih (Nat.lt_of_succ_lt hn)).trans (congrArg (k0_pay2 (F := F)) (wts_same' c m _ _ ?_)))
      show n / 8 = (n + 1) / 8
      omega

/-- What a point leaves. -/
theorem out_eq (t : Fin cfg0.N) : (outsAt0 m c t.val t.isLt).1 = k0_pay3 (iblk m c 0 t) (k0_pay1 (iblk m c 2 t)) (iblk m c 1 t) (k0_pay2 (iblk m c 3 t)) (iblk m c 4 t) := by
  by_cases h0 : t.val % 8 = 0
  · rw [outsAt0_A m c t h0]
    dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0)
  · have hl : (t.val - 1) / 8 = t.val / 8 := by omega
    rw [outsAt0_B m c t h0]
    dsimp only
    rw [scr_eq c m (t.val - 1), scr_eq' c m (t.val - 1)]
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) _ _ (fun h => h0 ((hcond0_0 t).mp h))).trans ?_
    exact congrArg₂ (fun w w' => k0_pay3 (F := F) (iblk m c 0 t) (k0_pay1 w) (iblk m c 1 t) (k0_pay2 w') (iblk m c 4 t)) (wts_same c m _ _ hl) (wts_same' c m _ _ hl)

end

/-- One of the two products at an entry. -/
theorem prod_ap (x : FVec Ideal S1024x2048 .bf16) (w : FVec Ideal S1x2048x512 .f32) (r : Fin 1024) (b : Fin 512) :
    matmul (F := Ideal) dot_S1024x2048_S2048x512_S1024x512_1_0_0_1_n_n none x (truncf (F := Ideal) .bf16 (shapeCast S2048x512 w Facts₀.shapeCasts_S1x2048x512_S2048x512) Facts₀.bitsLt_bf16_f32) (constant S1024x512 .f32 0x00000000#32) (ix2 r b)
      = ∑ k : Fin 2048, x (ix2 r k) * w (ix3 (0 : Fin 1) k b) := by
  refine (Ideal.matmul_plain_apply (M := 1024) (K := 2048) (N := 512) none _ _ _ r b).trans ?_
  rw [show (constant S1024x512 .f32 0x00000000#32 : FVec Ideal S1024x512 .f32) (ix2 r b) = 0 from Ideal.ofBits_zero_f32, zero_add]
  refine Finset.sum_congr rfl fun k _ => congrArg (x (ix2 r k) * ·) ?_
  rw [ValueIdx.truncf_apply]
  refine (shapeCast_dropUnit_apply (n := 2) ![2048, 512] w _ (ix2 k b)).trans (congrArg w (funext fun a => Fin.ext ?_))
  match a with
  | ⟨0, _⟩ => rfl
  | ⟨1, _⟩ => rfl
  | ⟨2, _⟩ => rfl

/-- One entry of the block. -/
theorem pay_ap (x x' : FVec Ideal S1024x2048 .bf16) (w w' : FVec Ideal S1x2048x512 .f32) (q : FVec Ideal S1024x512 .f32) (r : Fin 1024) (b : Fin 512) :
    k0_pay3 (F := Ideal) x (k0_pay1 (F := Ideal) w) x' (k0_pay2 (F := Ideal) w') q (ix2 r b)
      = ((∑ k : Fin 2048, x (ix2 r k) * w (ix3 (0 : Fin 1) k b)) + ∑ k : Fin 2048, x' (ix2 r k) * w' (ix3 (0 : Fin 1) k b)) + Ideal.ofBits .f32 0x3F9837F0#32 * q (ix2 r b) := by
  unfold k0_pay3 k0_pay1 k0_pay2
  dsimp only
  rw [ValueIdx.addf_apply, ValueIdx.mulf_apply, ValueIdx.addf_apply]
  simp only [shapeCast_self]
  exact congrArg₂ (· + ·) (congrArg₂ (· + ·) (prod_ap x w r b) (prod_ap x' w' r b)) rfl

/-- The reference's joined rows. -/
def J (P A : FVec Ideal S8192x2048 .bf16) : FVec Ideal S8192x4096 .f32 :=
  concatenate Cert.Reference4Ideal.S8192x4096 1 [⟨Cert.Reference4Ideal.S8192x2048, extf .f32 P Cert.Reference4Ideal.Facts₀.bitsLt_bf16_f32⟩, ⟨Cert.Reference4Ideal.S8192x2048, extf .f32 A Cert.Reference4Ideal.Facts₀.bitsLt_bf16_f32⟩] Cert.Reference4Ideal.Facts₀.concatenates_S8192x2048_S8192x2048_S8192x4096_d1

theorem J_left (P A : FVec Ideal S8192x2048 .bf16) (r : Fin 8192) (k : Fin 2048) :
    J P A (ix2 r (⟨k.val, by have := k.isLt; omega⟩ : Fin 4096)) = P (ix2 r k) := by
  unfold J
  refine (concatenate_pair_apply_left (s₁ := S8192x2048) (s₂ := S8192x2048) 1 _ _ _ (ix2 r (⟨k.val, by have := k.isLt; omega⟩ : Fin 4096)) rfl (ix2 r k) (fun b => ?_)).trans rfl
  match b with
  | ⟨0, _⟩ => rfl
  | ⟨1, _⟩ => rfl

theorem J_right (P A : FVec Ideal S8192x2048 .bf16) (r : Fin 8192) (k : Fin 2048) :
    J P A (ix2 r (⟨2048 + k.val, by have := k.isLt; omega⟩ : Fin 4096)) = A (ix2 r k) := by
  unfold J
  refine (concatenate_pair_apply_right (s₁ := S8192x2048) (s₂ := S8192x2048) 1 _ _ _ (ix2 r (⟨2048 + k.val, by have := k.isLt; omega⟩ : Fin 4096)) rfl rfl (ix2 r k) (fun b hb => ?_) (Nat.add_comm k.val 2048)).trans rfl
  match b with
  | ⟨0, _⟩ => rfl
  | ⟨1, _⟩ => exact absurd rfl hb

/-- A sum over the joined columns, by halves. -/
theorem sum_halves (f : Fin 4096 → Ideal .f32) :
    ∑ k : Fin 4096, f k = (∑ k : Fin 2048, f ⟨k.val, by have := k.isLt; omega⟩) + ∑ k : Fin 2048, f ⟨2048 + k.val, by have := k.isLt; omega⟩ :=
  Fin.sum_univ_add (a := 2048) (b := 2048) f

/-- The reference's result. -/
def G (P A : FVec Ideal S8192x2048 .bf16) (X : FVec Ideal S8192x4096 .f32) (W : FVec Ideal S1x4096x4096 .f32) : FVec Ideal S8192x4096 .f32 :=
  addf (F := Ideal) (mulf (broadcastInDim Cert.Reference4Ideal.S8192x4096 ![] Cert.Reference4Ideal.Facts₀.bcast_S_S8192x4096 (constant Cert.Reference4Ideal.S_ .f32 0x3F9837F0#32)) X) (Host.dotGeneral Cert.Reference4Ideal.dot_S8192x4096_S4096x4096_S8192x4096_1_0_0_1_n_n none (J P A) (shapeCast _ W Cert.Reference4Ideal.Facts₀.shapeCasts_S1x4096x4096_S4096x4096))

theorem G_ap (P A : FVec Ideal S8192x2048 .bf16) (X : FVec Ideal S8192x4096 .f32) (W : FVec Ideal S1x4096x4096 .f32) (r : Fin 8192) (b : Fin 4096) :
    G P A X W (ix2 r b) = ((∑ k : Fin 2048, P (ix2 r k) * W (ix3 (0 : Fin 1) (⟨k.val, by have := k.isLt; omega⟩ : Fin 4096) b)) + ∑ k : Fin 2048, A (ix2 r k) * W (ix3 (0 : Fin 1) (⟨2048 + k.val, by have := k.isLt; omega⟩ : Fin 4096) b)) + Ideal.ofBits .f32 0x3F9837F0#32 * X (ix2 r b) := by
  unfold G
  rw [ValueIdx.addf_apply, ValueIdx.mulf_apply]
  refine (add_comm _ _).trans (congrArg₂ (· + ·) ?_ rfl)
  have hd : Host.dotGeneral Cert.Reference4Ideal.dot_S8192x4096_S4096x4096_S8192x4096_1_0_0_1_n_n none (J P A) (shapeCast _ W Cert.Reference4Ideal.Facts₀.shapeCasts_S1x4096x4096_S4096x4096) (ix2 r b)
      = ∑ k : Fin 4096, J P A (ix2 r k) * W (ix3 (0 : Fin 1) k b) := by
    refine (StackMember.dotGeneral_plain_apply (m := 8192) (k := 4096) (n := 4096) none _ _ r b).trans ?_
    refine Finset.sum_congr rfl fun k _ => congrArg (J P A (ix2 r k) * ·) ?_
    refine (shapeCast_dropUnit_apply (n := 2) ![4096, 4096] W _ (ix2 k b)).trans (congrArg W (funext fun a => Fin.ext ?_))
    match a with
    | ⟨0, _⟩ => rfl
    | ⟨1, _⟩ => rfl
    | ⟨2, _⟩ => rfl
  refine hd.trans ((sum_halves _).trans ?_)
  simp only [J_left, J_right]

variable (c : Dev nD) (m : (ℓ : Loc nD τ sig) → Buf (Elt Ideal) ℓ)

theorem flushed_G (t : Fin cfg0.N) : (dats m 0 c).flushed 5 t
    = ((cfg0.win 5).blk t).view.read (Elt Ideal) (G (m ((c : Thread nD τ).loc main_arg0)) (m ((c : Thread nD τ).loc main_arg1)) (m ((c : Thread nD τ).loc main_arg2)) (m ((c : Thread nD τ).loc main_arg3))) := by
  rw [Value.flushed5, out_eq c m t]
  funext y
  obtain ⟨e0, e1⟩ := idx5 t
  have hy0 : (y (0 : Fin 2)).val < 1024 := (y (0 : Fin 2)).isLt
  have hy1 : (y (1 : Fin 2)).val < 512 := (y (1 : Fin 2)).isLt
  have hl := lt64 t
  have eL : (cfg0.win 5).cut (grid0.coords t) (k0_pay3 (F := Ideal) (iblk m c 0 t) (k0_pay1 (iblk m c 2 t)) (iblk m c 1 t) (k0_pay2 (iblk m c 3 t)) (iblk m c 4 t)) y
      = k0_pay3 (F := Ideal) (iblk m c 0 t) (k0_pay1 (iblk m c 2 t)) (iblk m c 1 t) (k0_pay2 (iblk m c 3 t)) (iblk m c 4 t) (ix2 (⟨(y (0 : Fin 2)).val, hy0⟩ : Fin 1024) (⟨(y (1 : Fin 2)).val, hy1⟩ : Fin 512)) :=
    congrArg (k0_pay3 (F := Ideal) (iblk m c 0 t) (k0_pay1 (iblk m c 2 t)) (iblk m c 1 t) (k0_pay2 (iblk m c 3 t)) (iblk m c 4 t)) (funext fun a => Fin.ext (match a with | ⟨0, _⟩ => rfl | ⟨1, _⟩ => rfl))
  have eR : ∀ Z : Vec Ideal S8192x4096 .f32, ((cfg0.win 5).blk t).view.read (Elt Ideal) Z y
      = Z (ix2 (⟨t.val % 8 * 1024 + (y (0 : Fin 2)).val, by omega⟩ : Fin 8192) (⟨t.val / 8 * 512 + (y (1 : Fin 2)).val, by omega⟩ : Fin 4096)) := fun Z =>
    congrArg Z (funext fun a => Fin.ext (match a with
      | ⟨0, _⟩ => (show win0_5.index t (0 : Fin 2) * 1024 + 1 * (y (0 : Fin 2)).val = t.val % 8 * 1024 + (y (0 : Fin 2)).val by omega)
      | ⟨1, _⟩ => (show win0_5.index t (1 : Fin 2) * 512 + 1 * (y (1 : Fin 2)).val = t.val / 8 * 512 + (y (1 : Fin 2)).val by omega)))
  rw [eL, eR, pay_ap, G_ap]
  rw [res_ap, V_main_arg2]
  refine congrArg (· + _) (congrArg₂ (· + ·) (Finset.sum_congr rfl fun k _ => ?_) (Finset.sum_congr rfl fun k _ => ?_))
  · rw [rows_ap, wts_ap, V_main_arg0, V_main_arg3]
  · rw [rows_ap', wts_ap', V_main_arg1, V_main_arg3]

/-- The result array. -/
theorem final_G : (dats m 0 c).arrAt 5 cfg0.N = G (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed_G c m t) (fun i => (Value.covered_iff5 i).2 (by
    have h0 : (i (0 : Fin 2)).val < 8192 := (i (0 : Fin 2)).isLt; have h1 : (i (1 : Fin 2)).val < 4096 := (i (1 : Fin 2)).isLt; omega))

end Cert.Kernel4Ideal.Hand

end
-- ==== Proof.lean ====
/- The claim: from memories that agree on the arguments and hold counts a router can produce, the expert step and
   the reference both run, keep their arguments, leave every semaphore at zero, and end with the same words in
   their result arrays. The parts are under Proof/: what one row block through one expert is (Weights, Region), the
   kernel's run with its prefetched tables (Whole, Final), the tables from the counts (Plan, Counts, Good), the
   reference's loop over the blocks (RefTrip, RefRun) and that the two results are one array (Meet).
   Then three projections, each against its reference over the extended reals: the memory attention's query
   projection (MemQ), its output projection with the residual (MemO), and the mixers' output projection with the
   residual, whose product the kernel takes in two halves (OutProj). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.Pre_routed
public import proofs.«01_k».proof.Proof.Gen.Reference.Frame
public import proofs.«01_k».proof.Proof.Gen.Reference.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Counts
public import proofs.«01_k».proof.Proof.Meet
public import proofs.«01_k».proof.Proof.MemQ
public import proofs.«01_k».proof.Proof.MemO
public import proofs.«01_k».proof.Proof.OutProj
public import Idealize.ShloMosaic.Adequacy
public import Idealize.ShloMosaic.Init

@[expose] public section

noncomputable section

namespace Cert.Proof

open Idealize.ShloMosaic Idealize.SL.Sem Cert.Kernel

/-- What the precondition says of the counts on the one device. -/
theorem counts (m : (ℓ : Loc nD τ sig) → Buf (Elt Bits) ℓ) (h : Cert.Pre_Kernel m) :
    ∃ cN : ℕ → ℕ, (∀ i : Fin 64, m ((0 : Dev nD), Proc.devRef .tc main_arg1) (ValueIdx.ix1 i) = BitVec.ofNat 32 (cN i.val))
      ∧ (∀ i, i < 64 → cN i ≤ 16384) ∧ ((List.range 64).map cN).sum = 16384 :=
  Cert.Counts.of_pre _ _ _ _ _ (h 0)

theorem kernel_frame : Cert.quiescent_Kernel := by
  intro m g h
  obtain ⟨cN, hc, hle, hs⟩ := counts m h
  refine (θ_run _ _ _).mono (fun r hr => ⟨fun c => (hr.1 c).2, hr.2⟩)
    (Cert.Kernel.Hand.run_kept (m := m) (n := Cert.Plan.total cN) (ρ := g) (Cert.Kernel.Hand.good m cN hc hle hs))

theorem reference_frame : Cert.quiescent_Reference := fun m g _ =>
  Cert.Reference.Gen.frame m g (Cert.Reference.Hand.hyps m)

theorem bit_exact : Cert.bitexact_Kernel_Reference := by
  intro m g m' g' h hEq
  obtain ⟨cN, hc, hle, hs⟩ := counts m h
  refine ⟨fun c => Cert.Kernel.Hand.blocksOut (Cert.Kernel.Hand.V m) (Cert.Kernel.Hand.tbl m) (Cert.Plan.total cN) c, ?_, ?_⟩
  · refine (θ_run _ _ _).mono (fun r hr c => hr.1 c)
      (Cert.Kernel.Hand.run_kept (m := m) (n := Cert.Plan.total cN) (ρ := g) (Cert.Kernel.Hand.good m cN hc hle hs))
  · refine (θ_run _ _ _).mono (fun r hr c => ⟨(hr c).1.trans (Cert.Meet.result_eq m m' cN hc hle hs c (hEq c).1 (hEq c).2.1 (hEq c).2.2.1 (hEq c).2.2.2.1 (hEq c).2.2.2.2), (hr c).2⟩)
      (Cert.Reference.Value.run_blocks m' g' (Cert.Reference.Hand.hyps m'))

/-- The reference's frame for the memory attention's query projection: host operations only, which write no argument. -/
theorem reference2_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Over the extended reals, kernel and reference of the memory attention's query projection end with one array. -/
theorem algebraic2 : Cert.algebraic_Kernel2Ideal_Reference2Ideal := by
  intro m g m' g' _ hEq
  refine ⟨fun c => Cert.Kernel2Ideal.Hand.G (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · exact (θ_run Cert.Kernel2Ideal.defs _ _).mono (fun r h c => ⟨(h c).1.trans (Cert.Kernel2Ideal.Hand.final_G c m), (h c).2⟩)
      (Cert.Kernel2Ideal.Value.run_blocks m g)
  · refine (θ_run Cert.Reference2Ideal.defs _ _).mono (fun r h c => ⟨(h c).1.trans ?_, (h c).2⟩)
      (Cert.Reference2Ideal.Value.run (F := Ideal) m' g')
    rw [((hEq c).1), ((hEq c).2)]
    rfl

/-- The reference's frame for the memory attention's output projection, with the residual: host operations only, which write no argument. -/
theorem reference3_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- Over the extended reals, kernel and reference of the memory attention's output projection, with the residual end with one array. -/
theorem algebraic3 : Cert.algebraic_Kernel3Ideal_Reference3Ideal := by
  intro m g m' g' _ hEq
  refine ⟨fun c => Cert.Kernel3Ideal.Hand.G (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), ?_, ?_⟩
  · exact (θ_run Cert.Kernel3Ideal.defs _ _).mono (fun r h c => ⟨(h c).1.trans (Cert.Kernel3Ideal.Hand.final_G c m), (h c).2⟩)
      (Cert.Kernel3Ideal.Value.run_blocks m g)
  · refine (θ_run Cert.Reference3Ideal.defs _ _).mono (fun r h c => ⟨(h c).1.trans ?_, (h c).2⟩)
      (Cert.Reference3Ideal.Value.run (F := Ideal) m' g')
    rw [((hEq c).1), ((hEq c).2.1), ((hEq c).2.2)]
    rfl

/-- The reference's frame for the mixers' output projection, with the residual: host operations only, which write no argument. -/
theorem reference4_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- Over the extended reals, kernel and reference of the mixers' output projection, with the residual end with one array. -/
theorem algebraic4 : Cert.algebraic_Kernel4Ideal_Reference4Ideal := by
  intro m g m' g' _ hEq
  refine ⟨fun c => Cert.Kernel4Ideal.Hand.G (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), ?_, ?_⟩
  · exact (θ_run Cert.Kernel4Ideal.defs _ _).mono (fun r h c => ⟨(h c).1.trans (Cert.Kernel4Ideal.Hand.final_G c m), (h c).2⟩)
      (Cert.Kernel4Ideal.Value.run_blocks m g)
  · refine (θ_run Cert.Reference4Ideal.defs _ _).mono (fun r h c => ⟨(h c).1.trans ?_, (h c).2⟩)
      (Cert.Reference4Ideal.Value.run (F := Ideal) m' g')
    rw [((hEq c).1), ((hEq c).2.1), ((hEq c).2.2.1), ((hEq c).2.2.2)]
    rfl

theorem claim : Cert.Claim :=
  ⟨Cert.Kernel.Gen.facts, Cert.Reference.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_routed.Gen.facts,
    kernel_frame, reference_frame,
    fun m g _ => Cert.Kernel2.Gen.frame m g, fun m g _ => Cert.Kernel2Ideal.Gen.frame m g, reference2_frame,
    fun m g _ => Cert.Kernel3.Gen.frame m g, fun m g _ => Cert.Kernel3Ideal.Gen.frame m g, reference3_frame,
    fun m g _ => Cert.Kernel4.Gen.frame m g, fun m g _ => Cert.Kernel4Ideal.Gen.frame m g, reference4_frame,
    bit_exact,
    trivial, algebraic2, trivial, algebraic3, trivial, algebraic4⟩

end Cert.Proof

end
